-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v45_0)) (v1 : (c : Dev Cert.Kernel2Ideal.nD) → Buf (Elt Ideal) ((c.tc : Thread Cert.Kernel2Ideal.nD Cert.Kernel2Ideal.τ).loc Cert.Kernel2Ideal.main_v45_1)) (v2 : (c : Dev Cert.Kernel2Ideal.nD) → Buf (Elt Ideal) ((c.tc : Thread Cert.Kernel2Ideal.nD Cert.Kernel2Ideal.τ).loc Cert.Kernel2Ideal.main_v45_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45_0) = v0 c
          ∧ r.2.mem ((c.tc : Thread Cert.Kernel2Ideal.nD Cert.Kernel2Ideal.τ).loc Cert.Kernel2Ideal.main_v45_1) = v1 c
          ∧ r.2.mem ((c.tc : Thread Cert.Kernel2Ideal.nD Cert.Kernel2Ideal.τ).loc Cert.Kernel2Ideal.main_v45_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_v136) = v1 c
          ∧ r.2.mem ((c.tc : Thread Cert.Reference2Ideal.nD Cert.Reference2Ideal.τ).loc Cert.Reference2Ideal.main_v132) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v30) = v0 c
          ∧ r.2.mem ((c.tc : Thread Cert.Reference17Ideal.nD Cert.Reference17Ideal.τ).loc Cert.Reference17Ideal.main_v41) = v1 c
          ∧ r.2.mem ((c.tc : Thread Cert.Reference17Ideal.nD Cert.Reference17Ideal.τ).loc Cert.Reference17Ideal.main_v46) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_v13) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v44) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v52) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v73) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite2 : Cert.Pre_finite2.Facts) (hPre_finite19 : Cert.Pre_finite19.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite19.lean ====
abbrev S9216x512 : Shape := ⟨2, ![9216, 512]⟩
abbrev S9216x256 : Shape := ⟨2, ![9216, 256]⟩
abbrev S9216x768 : Shape := ⟨2, ![9216, 768]⟩
abbrev S_ : Shape := ⟨0, ![]⟩

class Facts : Prop where
  concatenates_S9216x512_S9216x256_S9216x768_d1 : Shape.Concatenates [S9216x512, S9216x256] S9216x768 1
  bcast_S_S9216x768 : S_.BroadcastsInDim S9216x768 (![] : Fin 0 → Fin S9216x768.rank)

variable [Facts]

def fn {F : FTy → Type} [FloatOps F] (main_arg0 : FVec F S9216x512 .bf16) (main_arg1 : FVec F S9216x256 .bf16) (main_arg2 : FVec F S9216x256 .bf16) : IVec S9216x768 1 :=
  let main_v0 : FVec F S9216x768 .bf16 := (fun a b => concatenate S9216x768 1 [⟨S9216x512, a⟩, ⟨S9216x256, b⟩] concatenates_S9216x512_S9216x256_S9216x768_d1) main_arg0 main_arg1
  let main_v1 : FVec F S9216x768 .bf16 := Host.absf main_v0
  let main_cst : FVec F S_ .bf16 := constant S_ .bf16 0x7F80#16
  let main_v2 : FVec F S9216x768 .bf16 := broadcastInDim S9216x768 ![] bcast_S_S9216x768 main_cst
  let main_v3 : IVec S9216x768 1 := cmpf .olt main_v1 main_v2
  main_v3
-- ==== Pre_finite2.lean ====
abbrev S9216x512 : Shape := ⟨2, ![9216, 512]⟩
abbrev S9216x256 : Shape := ⟨2, ![9216, 256]⟩
abbrev S9216x1536 : Shape := ⟨2, ![9216, 1536]⟩
abbrev S_ : Shape := ⟨0, ![]⟩

class Facts : Prop where
  concatenates_S9216x512_S9216x256_S9216x256_S9216x512_S9216x1536_d1 : Shape.Concatenates [S9216x512, S9216x256, S9216x256, S9216x512] S9216x1536 1
  bcast_S_S9216x1536 : S_.BroadcastsInDim S9216x1536 (![] : Fin 0 → Fin S9216x1536.rank)

variable [Facts]

def fn {F : FTy → Type} [FloatOps F] (main_arg0 : FVec F S9216x512 .bf16) (main_arg1 : FVec F S9216x256 .bf16) (main_arg2 : FVec F S9216x256 .bf16) (main_arg3 : FVec F S9216x512 .bf16) : IVec S9216x1536 1 :=
  let main_v0 : FVec F S9216x1536 .bf16 := concatenate S9216x1536 1 [⟨S9216x512, main_arg0⟩, ⟨S9216x256, main_arg1⟩, ⟨S9216x256, main_arg2⟩, ⟨S9216x512, main_arg3⟩] concatenates_S9216x512_S9216x256_S9216x256_S9216x512_S9216x1536_d1
  let main_v1 : FVec F S9216x1536 .bf16 := Host.absf main_v0
  let main_cst : FVec F S_ .bf16 := constant S_ .bf16 0x7F80#16
  let main_v2 : FVec F S9216x1536 .bf16 := broadcastInDim S9216x1536 ![] bcast_S_S9216x1536 main_cst
  let main_v3 : IVec S9216x1536 1 := cmpf .olt main_v1 main_v2
  main_v3
-- ==== Kernel.lean ====
abbrev S9216x3072 : Shape := ⟨2, ![9216, 3072]⟩
abbrev S3x9216x1024 : Shape := ⟨3, ![3, 9216, 1024]⟩
abbrev S1024x1024 : Shape := ⟨2, ![1024, 1024]⟩
abbrev S9216x1024 : Shape := ⟨2, ![9216, 1024]⟩
abbrev S_ : Shape := ⟨0, ![]⟩
abbrev S9216x3x1024 : Shape := ⟨3, ![9216, 3, 1024]⟩
abbrev S256x1024 : Shape := ⟨2, ![256, 1024]⟩
abbrev S3x256x1024 : Shape := ⟨3, ![3, 256, 1024]⟩
abbrev S256x3072 : Shape := ⟨2, ![256, 3072]⟩
abbrev S128x1024 : Shape := ⟨2, ![128, 1024]⟩
abbrev S1x128x1024 : Shape := ⟨3, ![1, 128, 1024]⟩

abbrev nBuf : Space → Nat
  | .hbm => 19
  | .vmem => 16
  | .smem => 0
  | _ => 0

abbrev bufTy : (tb : Table) → Fin (tcTables nBuf tb) → BufTy
  | .hbm, ⟨0, _⟩ => ⟨S9216x3072, .f32⟩
  | .hbm, ⟨1, _⟩ => ⟨S3x9216x1024, .bf16⟩
  | .hbm, ⟨2, _⟩ => ⟨S1024x1024, .bf16⟩
  | .hbm, ⟨3, _⟩ => ⟨S9216x1024, .bf16⟩
  | .hbm, ⟨4, _⟩ => ⟨S9216x3072, .f32⟩
  | .hbm, ⟨5, _⟩ => ⟨S9216x3072, .f32⟩
  | .hbm, ⟨6, _⟩ => ⟨S_, .f32⟩
  | .hbm, ⟨7, _⟩ => ⟨S9216x3072, .f32⟩
  | .hbm, ⟨8, _⟩ => ⟨S9216x3072, .f32⟩
  | .hbm, ⟨9, _⟩ => ⟨S_, .f32⟩
  | .hbm, ⟨10, _⟩ => ⟨S9216x3072, .f32⟩
  | .hbm, ⟨11, _⟩ => ⟨S9216x3072, .f32⟩
  | .hbm, ⟨12, _⟩ => ⟨S9216x3x1024, .f32⟩
  | .hbm, ⟨13, _⟩ => ⟨S3x9216x1024, .f32⟩
  | .hbm, ⟨14, _⟩ => ⟨S3x9216x1024, .bf16⟩
  | .hbm, ⟨15, _⟩ => ⟨S9216x1024, .bf16⟩
  | .hbm, ⟨16, _⟩ => ⟨S9216x1024, .bf16⟩
  | .hbm, ⟨17, _⟩ => ⟨S9216x1024, .bf16⟩
  | .hbm, ⟨18, _⟩ => ⟨S9216x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S3x256x1024, .bf16⟩
  | .local _ .vmem, ⟨4, _⟩ => ⟨S3x256x1024, .bf16⟩
  | .local _ .vmem, ⟨5, _⟩ => ⟨S3x256x1024, .bf16⟩
  | .local _ .vmem, ⟨6, _⟩ => ⟨S3x256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x3072, .bf16⟩
  | .local _ .vmem, ⟨14, _⟩ => ⟨S256x3072, .bf16⟩
  | .local _ .vmem, ⟨15, _⟩ => ⟨S1024x1024, .bf16⟩
  | _, _ => ⟨S9216x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S9216x3072 : Shape := ⟨2, ![9216, 3072]⟩
abbrev S3x9216x1024 : Shape := ⟨3, ![3, 9216, 1024]⟩
abbrev S1024x1024 : Shape := ⟨2, ![1024, 1024]⟩
abbrev S9216x1024 : Shape := ⟨2, ![9216, 1024]⟩
abbrev S1x9216x1024 : Shape := ⟨3, ![1, 9216, 1024]⟩
abbrev S9216x3x1024 : Shape := ⟨3, ![9216, 3, 1024]⟩
abbrev S_ : Shape := ⟨0, ![]⟩
abbrev S9216x1x1024 : Shape := ⟨3, ![9216, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S9216x3072, .f32⟩
  | .hbm, ⟨1, _⟩ => ⟨S3x9216x1024, .bf16⟩
  | .hbm, ⟨2, _⟩ => ⟨S1024x1024, .bf16⟩
  | .hbm, ⟨3, _⟩ => ⟨S9216x1024, .bf16⟩
  | .hbm, ⟨4, _⟩ => ⟨S3x9216x1024, .f32⟩
  | .hbm, ⟨5, _⟩ => ⟨S1024x1024, .f32⟩
  | .hbm, ⟨6, _⟩ => ⟨S9216x1024, .f32⟩
  | .hbm, ⟨7, _⟩ => ⟨S1x9216x1024, .f32⟩
  | .hbm, ⟨8, _⟩ => ⟨S9216x1024, .f32⟩
  | .hbm, ⟨9, _⟩ => ⟨S1x9216x1024, .f32⟩
  | .hbm, ⟨10, _⟩ => ⟨S9216x1024, .f32⟩
  | .hbm, ⟨11, _⟩ => ⟨S1x9216x1024, .f32⟩
  | .hbm, ⟨12, _⟩ => ⟨S9216x1024, .f32⟩
  | .hbm, ⟨13, _⟩ => ⟨S9216x3x1024, .f32⟩
  | .hbm, ⟨14, _⟩ => ⟨S9216x3x1024, .f32⟩
  | .hbm, ⟨15, _⟩ => ⟨S9216x3x1024, .f32⟩
  | .hbm, ⟨16, _⟩ => ⟨S_, .f32⟩
  | .hbm, ⟨17, _⟩ => ⟨S9216x3x1024, .f32⟩
  | .hbm, ⟨18, _⟩ => ⟨S9216x3x1024, .f32⟩
  | .hbm, ⟨19, _⟩ => ⟨S_, .f32⟩
  | .hbm, ⟨20, _⟩ => ⟨S9216x3x1024, .f32⟩
  | .hbm, ⟨21, _⟩ => ⟨S9216x3x1024, .f32⟩
  | .hbm, ⟨22, _⟩ => ⟨S_, .f32⟩
  | .hbm, ⟨23, _⟩ => ⟨S9216x3x1024, .f32⟩
  | .hbm, ⟨24, _⟩ => ⟨S9216x3x1024, .f32⟩
  | .hbm, ⟨25, _⟩ => ⟨S9216x3x1024, .f32⟩
  | .hbm, ⟨26, _⟩ => ⟨S9216x1x1024, .f32⟩
  | .hbm, ⟨27, _⟩ => ⟨S9216x1024, .f32⟩
  | .hbm, ⟨28, _⟩ => ⟨S9216x1024, .f32⟩
  | .hbm, ⟨29, _⟩ => ⟨S9216x1x1024, .f32⟩
  | .hbm, ⟨30, _⟩ => ⟨S9216x1024, .f32⟩
  | .hbm, ⟨31, _⟩ => ⟨S9216x1024, .f32⟩
  | .hbm, ⟨32, _⟩ => ⟨S9216x1024, .f32⟩
  | .hbm, ⟨33, _⟩ => ⟨S9216x1x1024, .f32⟩
  | .hbm, ⟨34, _⟩ => ⟨S9216x1024, .f32⟩
  | .hbm, ⟨35, _⟩ => ⟨S9216x1024, .f32⟩
  | .hbm, ⟨36, _⟩ => ⟨S9216x1024, .f32⟩
  | .hbm, ⟨37, _⟩ => ⟨S9216x1024, .f32⟩
  | .hbm, ⟨38, _⟩ => ⟨S1024x1024, .f32⟩
  | .hbm, ⟨39, _⟩ => ⟨S1024x1024, .f32⟩
  | .hbm, ⟨40, _⟩ => ⟨S9216x1024, .f32⟩
  | .hbm, ⟨41, _⟩ => ⟨S9216x1024, .f32⟩
  | .hbm, ⟨42, _⟩ => ⟨S9216x1024, .f32⟩
  | .hbm, ⟨43, _⟩ => ⟨S9216x1x1024, .f32⟩
  | .hbm, ⟨44, _⟩ => ⟨S_, .f32⟩
  | .hbm, ⟨45, _⟩ => ⟨S9216x3x1024, .f32⟩
  | .hbm, ⟨46, _⟩ => ⟨S9216x1024, .f32⟩
  | .hbm, ⟨47, _⟩ => ⟨S9216x1024, .f32⟩
  | .hbm, ⟨48, _⟩ => ⟨S9216x1x1024, .f32⟩
  | .hbm, ⟨49, _⟩ => ⟨S_, .f32⟩
  | .hbm, ⟨50, _⟩ => ⟨S9216x3x1024, .f32⟩
  | .hbm, ⟨51, _⟩ => ⟨S9216x3x1024, .f32⟩
  | .hbm, ⟨52, _⟩ => ⟨S9216x1024, .f32⟩
  | .hbm, ⟨53, _⟩ => ⟨S9216x1024, .f32⟩
  | .hbm, ⟨54, _⟩ => ⟨S9216x1x1024, .f32⟩
  | .hbm, ⟨55, _⟩ => ⟨S_, .f32⟩
  | .hbm, ⟨56, _⟩ => ⟨S9216x3x1024, .f32⟩
  | .hbm, ⟨57, _⟩ => ⟨S9216x3x1024, .f32⟩
  | .hbm, ⟨58, _⟩ => ⟨S9216x3x1024, .f32⟩
  | .hbm, ⟨59, _⟩ => ⟨S9216x3072, .f32⟩
  | .hbm, ⟨60, _⟩ => ⟨S9216x1024, .bf16⟩
  | .hbm, ⟨61, _⟩ => ⟨S9216x1024, .bf16⟩
  | .hbm, ⟨62, _⟩ => ⟨S9216x1024, .bf16⟩
  | .hbm, ⟨63, _⟩ => ⟨S9216x3072, .bf16⟩
  | _, _ => ⟨S9216x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== Kernel2.lean ====
abbrev S9216x512 : Shape := ⟨2, ![9216, 512]⟩
abbrev S9216x256 : Shape := ⟨2, ![9216, 256]⟩
abbrev S4x2304x8x64 : Shape := ⟨4, ![4, 2304, 8, 64]⟩
abbrev S9216x2x1x128 : Shape := ⟨4, ![9216, 2, 1, 128]⟩
abbrev S9216x2x2x128 : Shape := ⟨4, ![9216, 2, 2, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x64 : Shape := ⟨4, ![4, 2048, 8, 64]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S256x256 : Shape := ⟨2, ![256, 256]⟩
abbrev S2304x128 : Shape := ⟨2, ![2304, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S512x2304 : Shape := ⟨2, ![512, 2304]⟩

abbrev nBuf : Space → Nat
  | .hbm => 58
  | .vmem => 16
  | .smem => 0
  | _ => 0

abbrev bufTy : (tb : Table) → Fin (tcTables nBuf tb) → BufTy
  | .hbm, ⟨0, _⟩ => ⟨S9216x512, .bf16⟩
  | .hbm, ⟨1, _⟩ => ⟨S9216x256, .bf16⟩
  | .hbm, ⟨2, _⟩ => ⟨S9216x256, .bf16⟩
  | .hbm, ⟨3, _⟩ => ⟨S9216x512, .bf16⟩
  | .hbm, ⟨4, _⟩ => ⟨S9216x512, .f32⟩
  | .hbm, ⟨5, _⟩ => ⟨S9216x256, .f32⟩
  | .hbm, ⟨6, _⟩ => ⟨S9216x256, .f32⟩
  | .hbm, ⟨7, _⟩ => ⟨S4x2304x8x64, .f32⟩
  | .hbm, ⟨8, _⟩ => ⟨S9216x2x1x128, .f32⟩
  | .hbm, ⟨9, _⟩ => ⟨S9216x2x2x128, .f32⟩
  | .hbm, ⟨10, _⟩ => ⟨S4x2304x8x64, .f32⟩
  | .hbm, ⟨11, _⟩ => ⟨S9216x2x1x128, .f32⟩
  | .hbm, ⟨12, _⟩ => ⟨S9216x2x2x128, .f32⟩
  | .hbm, ⟨13, _⟩ => ⟨S4x2304x8x64, .f32⟩
  | .hbm, ⟨14, _⟩ => ⟨S4x256x8x64, .f32⟩
  | .hbm, ⟨15, _⟩ => ⟨S4x256x8x64, .f32⟩
  | .hbm, ⟨16, _⟩ => ⟨S4x256x8x64, .f32⟩
  | .hbm, ⟨17, _⟩ => ⟨S4x8x256x256, .f32⟩
  | .hbm, ⟨18, _⟩ => ⟨S_, .f32⟩
  | .hbm, ⟨19, _⟩ => ⟨S4x8x256, .f32⟩
  | .hbm, ⟨20, _⟩ => ⟨S_, .f32⟩
  | .hbm, ⟨21, _⟩ => ⟨S4x8x256, .f32⟩
  | .hbm, ⟨22, _⟩ => ⟨S4x8x256, .f32⟩
  | .hbm, ⟨23, _⟩ => ⟨S4x8x256x1, .f32⟩
  | .hbm, ⟨24, _⟩ => ⟨S4x8x256x256, .f32⟩
  | .hbm, ⟨25, _⟩ => ⟨S4x8x256x256, .f32⟩
  | .hbm, ⟨26, _⟩ => ⟨S4x8x256x256, .f32⟩
  | .hbm, ⟨27, _⟩ => ⟨S_, .f32⟩
  | .hbm, ⟨28, _⟩ => ⟨S4x8x256, .f32⟩
  | .hbm, ⟨29, _⟩ => ⟨S4x8x256x1, .f32⟩
  | .hbm, ⟨30, _⟩ => ⟨S4x8x256x256, .f32⟩
  | .hbm, ⟨31, _⟩ => ⟨S4x8x256x256, .f32⟩
  | .hbm, ⟨32, _⟩ => ⟨S4x8x64x256, .f32⟩
  | .hbm, ⟨33, _⟩ => ⟨S4x256x8x64, .f32⟩
  | .hbm, ⟨34, _⟩ => ⟨S4x2048x8x64, .f32⟩
  | .hbm, ⟨35, _⟩ => ⟨S4x8x2048x2304, .f32⟩
  | .hbm, ⟨36, _⟩ => ⟨S_, .f32⟩
  | .hbm, ⟨37, _⟩ => ⟨S4x8x2048, .f32⟩
  | .hbm, ⟨38, _⟩ => ⟨S_, .f32⟩
  | .hbm, ⟨39, _⟩ => ⟨S4x8x2048, .f32⟩
  | .hbm, ⟨40, _⟩ => ⟨S4x8x2048, .f32⟩
  | .hbm, ⟨41, _⟩ => ⟨S4x8x2048x1, .f32⟩
  | .hbm, ⟨42, _⟩ => ⟨S4x8x2048x2304, .f32⟩
  | .hbm, ⟨43, _⟩ => ⟨S4x8x2048x2304, .f32⟩
  | .hbm, ⟨44, _⟩ => ⟨S4x8x2048x2304, .f32⟩
  | .hbm, ⟨45, _⟩ => ⟨S_, .f32⟩
  | .hbm, ⟨46, _⟩ => ⟨S4x8x2048, .f32⟩
  | .hbm, ⟨47, _⟩ => ⟨S4x8x2048x1, .f32⟩
  | .hbm, ⟨48, _⟩ => ⟨S4x8x2048x2304, .f32⟩
  | .hbm, ⟨49, _⟩ => ⟨S4x8x2048x2304, .f32⟩
  | .hbm, ⟨50, _⟩ => ⟨S4x8x64x2048, .f32⟩
  | .hbm, ⟨51, _⟩ => ⟨S4x2048x8x64, .f32⟩
  | .hbm, ⟨52, _⟩ => ⟨S4x2304x8x64, .f32⟩
  | .hbm, ⟨53, _⟩ => ⟨S9216x512, .f32⟩
  | .hbm, ⟨54, _⟩ => ⟨S9216x512, .bf16⟩
  | .hbm, ⟨55, _⟩ => ⟨S9216x512, .f32⟩
  | .hbm, ⟨56, _⟩ => ⟨S9216x256, .f32⟩
  | .hbm, ⟨57, _⟩ => ⟨S9216x256, .f32⟩
  | .local _ .vmem, ⟨0, _⟩ => ⟨S256x256, .bf16⟩
  | .local _ .vmem, ⟨1, _⟩ => ⟨S256x256, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | .local _ .vmem, ⟨12, _⟩ => ⟨S2304x128, .f32⟩
  | .local _ .vmem, ⟨13, _⟩ => ⟨S2304x128, .f32⟩
  | .local _ .vmem, ⟨14, _⟩ => ⟨S2304x128, .f32⟩
  | .local _ .vmem, ⟨15, _⟩ => ⟨S2304x128, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45_0 : Ref sig .tc := ⟨.hbm, 55, rfl⟩
abbrev main_v45_1 : Ref sig .tc := ⟨.hbm, 56, rfl⟩
abbrev main_v45_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 2, 9], ![false, false, false]⟩

def k0_cond2 (i : grid0.Coords) : BitVec 1 :=
  let arg2 : BitVec 32 := BitVec.ofNat 32 (i 2).val
  let c0_i32_1 : BitVec 32 := 0#32
  let v7 : BitVec 1 := Scalar.cmpi .eq arg2 c0_i32_1
  let v8 : BitVec 32 := Scalar.extui v7
  let c0_i32_2 : BitVec 32 := 0#32
  let v9 : BitVec 1 := Scalar.cmpi .ne v8 c0_i32_2
  v9

def k0_cond3 (i : grid0.Coords) : BitVec 1 :=
  let arg2 : BitVec 32 := BitVec.ofNat 32 (i 2).val
  let c0_i32_3 : BitVec 32 := 0#32
  let v10 : BitVec 1 := Scalar.cmpi .ne arg2 c0_i32_3
  let v11 : BitVec 32 := Scalar.extui v10
  let c0_i32_4 : BitVec 32 := 0#32
  let v12 : BitVec 1 := Scalar.cmpi .ne v11 c0_i32_4
  v12

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference2Ideal.lean ====
abbrev S9216x512 : Shape := ⟨2, ![9216, 512]⟩
abbrev S9216x256 : Shape := ⟨2, ![9216, 256]⟩
abbrev S4x2304x8x64 : Shape := ⟨4, ![4, 2304, 8, 64]⟩
abbrev S9216x2x1x128 : Shape := ⟨4, ![9216, 2, 1, 128]⟩
abbrev S9216x2x2x128 : Shape := ⟨4, ![9216, 2, 2, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x64 : Shape := ⟨4, ![4, 2048, 8, 64]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x8x64x2304 : Shape := ⟨4, ![4, 8, 64, 2304]⟩
abbrev S4x8x2304x64 : Shape := ⟨4, ![4, 8, 2304, 64]⟩
abbrev S4x8x2048x64 : Shape := ⟨4, ![4, 8, 2048, 64]⟩
abbrev S4x8x256x64 : Shape := ⟨4, ![4, 8, 256, 64]⟩
abbrev S9216x2x128 : Shape := ⟨3, ![9216, 2, 128]⟩

abbrev nBuf : Space → Nat
  | .hbm => 172
  | .vmem => 0
  | .smem => 0
  | _ => 0

abbrev hbmTy0_0 (i : Nat) : BufTy := match i % 128 with
  | 0 => ⟨S9216x512, .bf16⟩
  | 1 => ⟨S9216x256, .bf16⟩
  | 2 => ⟨S9216x256, .bf16⟩
  | 3 => ⟨S9216x512, .bf16⟩
  | 4 => ⟨S9216x512, .f32⟩
  | 5 => ⟨S9216x256, .f32⟩
  | 6 => ⟨S9216x256, .f32⟩
  | 7 => ⟨S9216x512, .f32⟩
  | 8 => ⟨S4x2304x8x64, .f32⟩
  | 9 => ⟨S9216x2x1x128, .f32⟩
  | 10 => ⟨S9216x2x2x128, .f32⟩
  | 11 => ⟨S4x2304x8x64, .f32⟩
  | 12 => ⟨S9216x2x1x128, .f32⟩
  | 13 => ⟨S9216x2x2x128, .f32⟩
  | 14 => ⟨S4x2304x8x64, .f32⟩
  | 15 => ⟨S4x256x8x64, .f32⟩
  | 16 => ⟨S4x256x8x64, .f32⟩
  | 17 => ⟨S4x256x8x64, .f32⟩
  | 18 => ⟨S4x8x256x256, .f32⟩
  | 19 => ⟨S_, .f32⟩
  | 20 => ⟨S4x8x256, .f32⟩
  | 21 => ⟨S4x8x256x1, .f32⟩
  | 22 => ⟨S4x8x256x256, .f32⟩
  | 23 => ⟨S4x8x256x256, .i1⟩
  | 24 => ⟨S4x8x256x256, .f32⟩
  | 25 => ⟨S_, .f32⟩
  | 26 => ⟨S4x8x256, .f32⟩
  | 27 => ⟨S_, .f32⟩
  | 28 => ⟨S4x8x256, .f32⟩
  | 29 => ⟨S4x8x256, .f32⟩
  | 30 => ⟨S_, .f32⟩
  | 31 => ⟨S4x8x256, .f32⟩
  | 32 => ⟨S4x8x256, .i1⟩
  | 33 => ⟨S_, .f32⟩
  | 34 => ⟨S4x8x256, .f32⟩
  | 35 => ⟨S4x8x256, .i1⟩
  | 36 => ⟨S_, .f32⟩
  | 37 => ⟨S4x8x256, .f32⟩
  | 38 => ⟨S_, .f32⟩
  | 39 => ⟨S4x8x256, .f32⟩
  | 40 => ⟨S_, .f32⟩
  | 41 => ⟨S4x8x256, .f32⟩
  | 42 => ⟨S4x8x256, .f32⟩
  | 43 => ⟨S4x8x256, .f32⟩
  | 44 => ⟨S4x8x256x1, .f32⟩
  | 45 => ⟨S4x8x256x256, .f32⟩
  | 46 => ⟨S4x8x256x256, .f32⟩
  | 47 => ⟨S4x8x256x256, .f32⟩
  | 48 => ⟨S_, .f32⟩
  | 49 => ⟨S4x8x256, .f32⟩
  | 50 => ⟨S4x8x256x1, .f32⟩
  | 51 => ⟨S4x8x256x256, .f32⟩
  | 52 => ⟨S4x8x256x256, .f32⟩
  | 53 => ⟨S4x8x256x1, .f32⟩
  | 54 => ⟨S_, .f32⟩
  | 55 => ⟨S4x8x256x1, .f32⟩
  | 56 => ⟨S4x8x256x1, .f32⟩
  | 57 => ⟨S4x8x64x256, .f32⟩
  | 58 => ⟨S4x256x8x64, .f32⟩
  | 59 => ⟨S4x2048x8x64, .f32⟩
  | 60 => ⟨S4x8x2048x2304, .f32⟩
  | 61 => ⟨S_, .f32⟩
  | 62 => ⟨S4x8x2048, .f32⟩
  | 63 => ⟨S4x8x2048x1, .f32⟩
  | 64 => ⟨S4x8x2048x2304, .f32⟩
  | 65 => ⟨S4x8x2048x2304, .i1⟩
  | 66 => ⟨S4x8x2048x2304, .f32⟩
  | 67 => ⟨S_, .f32⟩
  | 68 => ⟨S4x8x2048, .f32⟩
  | 69 => ⟨S_, .f32⟩
  | 70 => ⟨S4x8x2048, .f32⟩
  | 71 => ⟨S4x8x2048, .f32⟩
  | 72 => ⟨S_, .f32⟩
  | 73 => ⟨S4x8x2048, .f32⟩
  | 74 => ⟨S4x8x2048, .i1⟩
  | 75 => ⟨S_, .f32⟩
  | 76 => ⟨S4x8x2048, .f32⟩
  | 77 => ⟨S4x8x2048, .i1⟩
  | 78 => ⟨S_, .f32⟩
  | 79 => ⟨S4x8x2048, .f32⟩
  | 80 => ⟨S_, .f32⟩
  | 81 => ⟨S4x8x2048, .f32⟩
  | 82 => ⟨S_, .f32⟩
  | 83 => ⟨S4x8x2048, .f32⟩
  | 84 => ⟨S4x8x2048, .f32⟩
  | 85 => ⟨S4x8x2048, .f32⟩
  | 86 => ⟨S4x8x2048x1, .f32⟩
  | 87 => ⟨S4x8x2048x2304, .f32⟩
  | 88 => ⟨S4x8x2048x2304, .f32⟩
  | 89 => ⟨S4x8x2048x2304, .f32⟩
  | 90 => ⟨S_, .f32⟩
  | 91 => ⟨S4x8x2048, .f32⟩
  | 92 => ⟨S4x8x2048x1, .f32⟩
  | 93 => ⟨S4x8x2048x2304, .f32⟩
  | 94 => ⟨S4x8x2048x2304, .f32⟩
  | 95 => ⟨S4x8x2048x1, .f32⟩
  | 96 => ⟨S_, .f32⟩
  | 97 => ⟨S4x8x2048x1, .f32⟩
  | 98 => ⟨S4x8x2048x1, .f32⟩
  | 99 => ⟨S4x8x64x2048, .f32⟩
  | 100 => ⟨S4x2048x8x64, .f32⟩
  | 101 => ⟨S4x2304x8x64, .f32⟩
  | 102 => ⟨S9216x512, .f32⟩
  | 103 => ⟨S4x2304x8x64, .f32⟩
  | 104 => ⟨S4x256x8x64, .f32⟩
  | 105 => ⟨S4x2048x8x64, .f32⟩
  | 106 => ⟨S4x8x64x2048, .f32⟩
  | 107 => ⟨S4x8x2048x2304, .f32⟩
  | 108 => ⟨S4x8x64x2304, .f32⟩
  | 109 => ⟨S4x2304x8x64, .f32⟩
  | 110 => ⟨S4x8x2048x2304, .f32⟩
  | 111 => ⟨S4x8x2048x2304, .f32⟩
  | 112 => ⟨S4x8x2048x2304, .f32⟩
  | 113 => ⟨S_, .f32⟩
  | 114 => ⟨S4x8x2048, .f32⟩
  | 115 => ⟨S4x8x2048x1, .f32⟩
  | 116 => ⟨S4x8x2048x1, .f32⟩
  | 117 => ⟨S4x8x2048x2304, .f32⟩
  | 118 => ⟨S4x8x2048x2304, .f32⟩
  | 119 => ⟨S_, .f32⟩
  | 120 => ⟨S4x8x2048, .f32⟩
  | 121 => ⟨S4x8x2048x2304, .f32⟩
  | 122 => ⟨S4x8x2048x2304, .f32⟩
  | 123 => ⟨S4x8x2048x2304, .f32⟩
  | 124 => ⟨S4x8x2304x64, .f32⟩
  | 125 => ⟨S4x2304x8x64, .f32⟩
  | 126 => ⟨S4x8x2048x64, .f32⟩
  | 127 => ⟨S4x2048x8x64, .f32⟩
  | _ => ⟨S9216x512, .bf16⟩

abbrev hbmTy0_1 (i : Nat) : BufTy := match i % 128 with
  | 0 => ⟨S_, .f32⟩
  | 1 => ⟨S4x2304x8x64, .f32⟩
  | 2 => ⟨S4x8x64x256, .f32⟩
  | 3 => ⟨S4x8x256x256, .f32⟩
  | 4 => ⟨S4x8x64x256, .f32⟩
  | 5 => ⟨S4x256x8x64, .f32⟩
  | 6 => ⟨S4x8x256x256, .f32⟩
  | 7 => ⟨S4x8x256x256, .f32⟩
  | 8 => ⟨S4x8x256x256, .f32⟩
  | 9 => ⟨S_, .f32⟩
  | 10 => ⟨S4x8x256, .f32⟩
  | 11 => ⟨S4x8x256x1, .f32⟩
  | 12 => ⟨S4x8x256x1, .f32⟩
  | 13 => ⟨S4x8x256x256, .f32⟩
  | 14 => ⟨S4x8x256x256, .f32⟩
  | 15 => ⟨S_, .f32⟩
  | 16 => ⟨S4x8x256, .f32⟩
  | 17 => ⟨S4x8x256x256, .f32⟩
  | 18 => ⟨S4x8x256x256, .f32⟩
  | 19 => ⟨S4x8x256x256, .f32⟩
  | 20 => ⟨S4x8x256x64, .f32⟩
  | 21 => ⟨S4x256x8x64, .f32⟩
  | 22 => ⟨S4x8x256x64, .f32⟩
  | 23 => ⟨S4x256x8x64, .f32⟩
  | 24 => ⟨S_, .f32⟩
  | 25 => ⟨S4x2304x8x64, .f32⟩
  | 26 => ⟨S4x2304x8x64, .f32⟩
  | 27 => ⟨S_, .f32⟩
  | 28 => ⟨S4x2304x8x64, .f32⟩
  | 29 => ⟨S4x2304x8x64, .f32⟩
  | 30 => ⟨S_, .f32⟩
  | 31 => ⟨S4x2304x8x64, .f32⟩
  | 32 => ⟨S4x2304x8x64, .f32⟩
  | 33 => ⟨S9216x2x2x128, .f32⟩
  | 34 => ⟨S_, .f32⟩
  | 35 => ⟨S9216x2x128, .f32⟩
  | 36 => ⟨S9216x2x1x128, .f32⟩
  | 37 => ⟨S9216x256, .f32⟩
  | 38 => ⟨S9216x2x2x128, .f32⟩
  | 39 => ⟨S_, .f32⟩
  | 40 => ⟨S9216x2x128, .f32⟩
  | 41 => ⟨S9216x2x1x128, .f32⟩
  | 42 => ⟨S9216x256, .f32⟩
  | 43 => ⟨S9216x512, .f32⟩
  | _ => ⟨S9216x512, .bf16⟩

abbrev hbmTy (i : Nat) : BufTy := match i / 128 with
  | 0 => hbmTy0_0 i
  | 1 => hbmTy0_1 i
  | _ => ⟨S9216x512, .bf16⟩

abbrev bufTy : (tb : Table) → Fin (tcTables nBuf tb) → BufTy
  | .hbm, ⟨i, _⟩ => hbmTy i
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_17 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_20 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_21 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_22 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_23 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_24 : Ref sig .tc := ⟨.hbm, 152, rfl⟩
abbrev main_v123 : Ref sig .tc := ⟨.hbm, 153, rfl⟩
abbrev main_v124 : Ref sig .tc := ⟨.hbm, 154, rfl⟩
abbrev main_cst_25 : Ref sig .tc := ⟨.hbm, 155, rfl⟩
abbrev main_v125 : Ref sig .tc := ⟨.hbm, 156, rfl⟩
abbrev main_v126 : Ref sig .tc := ⟨.hbm, 157, rfl⟩
abbrev main_cst_26 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_27 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_28 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩

abbrev nD : Nat := 1
abbrev τ : Topo := Topo.v7x

variable {F : FTy → Type} [FloatOps F]
-- ==== Kernel3.lean ====
abbrev S4x1024x1408 : Shape := ⟨3, ![4, 1024, 1408]⟩
abbrev S2x9216x2816 : Shape := ⟨3, ![2, 9216, 2816]⟩
abbrev S9216x1024 : Shape := ⟨2, ![9216, 1024]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4x1024x1408, .bf16⟩
  | .hbm, ⟨1, _⟩ => ⟨S2x9216x2816, .bf16⟩
  | .hbm, ⟨2, _⟩ => ⟨S9216x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x1024x1408 : Shape := ⟨3, ![4, 1024, 1408]⟩
abbrev S2x9216x2816 : Shape := ⟨3, ![2, 9216, 2816]⟩
abbrev S1024x4x1408 : Shape := ⟨3, ![1024, 4, 1408]⟩
abbrev S1024x5632 : Shape := ⟨2, ![1024, 5632]⟩
abbrev S1x9216x2816 : Shape := ⟨3, ![1, 9216, 2816]⟩
abbrev S9216x2816 : Shape := ⟨2, ![9216, 2816]⟩
abbrev S9216x5632 : Shape := ⟨2, ![9216, 5632]⟩
abbrev S_ : Shape := ⟨0, ![]⟩
abbrev S9216x1024 : Shape := ⟨2, ![9216, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S2x9216x2816, .bf16⟩
  | .hbm, ⟨2, _⟩ => ⟨S1024x4x1408, .bf16⟩
  | .hbm, ⟨3, _⟩ => ⟨S1024x5632, .bf16⟩
  | .hbm, ⟨4, _⟩ => ⟨S1x9216x2816, .bf16⟩
  | .hbm, ⟨5, _⟩ => ⟨S9216x2816, .bf16⟩
  | .hbm, ⟨6, _⟩ => ⟨S1x9216x2816, .bf16⟩
  | .hbm, ⟨7, _⟩ => ⟨S9216x2816, .bf16⟩
  | .hbm, ⟨8, _⟩ => ⟨S9216x5632, .bf16⟩
  | .hbm, ⟨9, _⟩ => ⟨S_, .f32⟩
  | .hbm, ⟨10, _⟩ => ⟨S9216x1024, .f32⟩
  | .hbm, ⟨11, _⟩ => ⟨S1024x5632, .f32⟩
  | .hbm, ⟨12, _⟩ => ⟨S9216x5632, .f32⟩
  | .hbm, ⟨13, _⟩ => ⟨S9216x5632, .f32⟩
  | .hbm, ⟨14, _⟩ => ⟨S9216x1024, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S9216x1024 : Shape := ⟨2, ![9216, 1024]⟩
abbrev S2x9216x2816 : Shape := ⟨3, ![2, 9216, 2816]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S2x9216x2816, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 9], ![false, false, false]⟩

def k0_cond2 (i : grid0.Coords) : BitVec 1 :=
  let arg2 : BitVec 32 := BitVec.ofNat 32 (i 2).val
  let c8_i32 : BitVec 32 := 8#32
  let v12 : BitVec 1 := Scalar.cmpi .eq arg2 c8_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S9216x1024 : Shape := ⟨2, ![9216, 1024]⟩
abbrev S2x9216x2816 : Shape := ⟨3, ![2, 9216, 2816]⟩
abbrev S1x9216x2816 : Shape := ⟨3, ![1, 9216, 2816]⟩
abbrev S9216x2816 : Shape := ⟨2, ![9216, 2816]⟩
abbrev S9216x5632 : Shape := ⟨2, ![9216, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2x9216x2816, .bf16⟩
  | .hbm, ⟨2, _⟩ => ⟨S1x9216x2816, .bf16⟩
  | .hbm, ⟨3, _⟩ => ⟨S9216x2816, .bf16⟩
  | .hbm, ⟨4, _⟩ => ⟨S1x9216x2816, .bf16⟩
  | .hbm, ⟨5, _⟩ => ⟨S9216x2816, .bf16⟩
  | .hbm, ⟨6, _⟩ => ⟨S9216x5632, .bf16⟩
  | .hbm, ⟨7, _⟩ => ⟨S_, .f32⟩
  | .hbm, ⟨8, _⟩ => ⟨S1024x5632, .f32⟩
  | .hbm, ⟨9, _⟩ => ⟨S9216x1024, .f32⟩
  | .hbm, ⟨10, _⟩ => ⟨S9216x5632, .f32⟩
  | .hbm, ⟨11, _⟩ => ⟨S9216x5632, .f32⟩
  | .hbm, ⟨12, _⟩ => ⟨S5632x1024, .f32⟩
  | .hbm, ⟨13, _⟩ => ⟨S1024x5632, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel5.lean ====
abbrev S9216x2816 : Shape := ⟨2, ![9216, 2816]⟩
abbrev S9216x1024 : Shape := ⟨2, ![9216, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S1024x3328 : Shape := ⟨2, ![1024, 3328]⟩
abbrev S9216x3328 : Shape := ⟨2, ![9216, 3328]⟩
abbrev S9216x1024 : Shape := ⟨2, ![9216, 1024]⟩
abbrev S512x3328 : Shape := ⟨2, ![512, 3328]⟩
abbrev S512x1024 : Shape := ⟨2, ![512, 1024]⟩
abbrev S3328x1024 : Shape := ⟨2, ![3328, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x3328, .bf16⟩
  | .hbm, ⟨1, _⟩ => ⟨S9216x3328, .bf16⟩
  | .hbm, ⟨2, _⟩ => ⟨S9216x1024, .f32⟩
  | .local _ .vmem, ⟨0, _⟩ => ⟨S512x3328, .bf16⟩
  | .local _ .vmem, ⟨1, _⟩ => ⟨S512x3328, .bf16⟩
  | .local _ .vmem, ⟨2, _⟩ => ⟨S1024x3328, .bf16⟩
  | .local _ .vmem, ⟨3, _⟩ => ⟨S512x1024, .f32⟩
  | .local _ .vmem, ⟨4, _⟩ => ⟨S512x1024, .f32⟩
  | .local _ .vmem, ⟨5, _⟩ => ⟨S3328x1024, .bf16⟩
  | _, _ => ⟨S1024x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S1024x3328 : Shape := ⟨2, ![1024, 3328]⟩
abbrev S9216x3328 : Shape := ⟨2, ![9216, 3328]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x3328, .bf16⟩
  | .hbm, ⟨1, _⟩ => ⟨S9216x3328, .bf16⟩
  | .hbm, ⟨2, _⟩ => ⟨S_, .f32⟩
  | .hbm, ⟨3, _⟩ => ⟨S9216x1024, .f32⟩
  | .hbm, ⟨4, _⟩ => ⟨S1024x3328, .f32⟩
  | .hbm, ⟨5, _⟩ => ⟨S9216x3328, .f32⟩
  | .hbm, ⟨6, _⟩ => ⟨S9216x3328, .f32⟩
  | .hbm, ⟨7, _⟩ => ⟨S9216x1024, .f32⟩
  | _, _ => ⟨S1024x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S1024x3072 : Shape := ⟨2, ![1024, 3072]⟩
abbrev S9216x3072 : Shape := ⟨2, ![9216, 3072]⟩
abbrev S9216x1024 : Shape := ⟨2, ![9216, 1024]⟩
abbrev S512x3072 : Shape := ⟨2, ![512, 3072]⟩
abbrev S512x1024 : Shape := ⟨2, ![512, 1024]⟩
abbrev S3072x1024 : Shape := ⟨2, ![3072, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x3072, .bf16⟩
  | .hbm, ⟨1, _⟩ => ⟨S9216x3072, .bf16⟩
  | .hbm, ⟨2, _⟩ => ⟨S9216x1024, .f32⟩
  | .hbm, ⟨3, _⟩ => ⟨S9216x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S3072x1024, .bf16⟩
  | _, _ => ⟨S1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S1024x3072 : Shape := ⟨2, ![1024, 3072]⟩
abbrev S9216x3072 : Shape := ⟨2, ![9216, 3072]⟩
abbrev S9216x1024 : Shape := ⟨2, ![9216, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1024x3072, .bf16⟩
  | .hbm, ⟨1, _⟩ => ⟨S9216x3072, .bf16⟩
  | .hbm, ⟨2, _⟩ => ⟨S9216x1024, .f32⟩
  | .hbm, ⟨3, _⟩ => ⟨S_, .f32⟩
  | .hbm, ⟨4, _⟩ => ⟨S9216x1024, .f32⟩
  | .hbm, ⟨5, _⟩ => ⟨S1024x3072, .f32⟩
  | .hbm, ⟨6, _⟩ => ⟨S9216x3072, .f32⟩
  | .hbm, ⟨7, _⟩ => ⟨S9216x3072, .f32⟩
  | .hbm, ⟨8, _⟩ => ⟨S9216x1024, .f32⟩
  | .hbm, ⟨9, _⟩ => ⟨S9216x1024, .f32⟩
  | _, _ => ⟨S1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S9216x1024 : Shape := ⟨2, ![9216, 1024]⟩
abbrev S9216x3328 : Shape := ⟨2, ![9216, 3328]⟩
abbrev S1024x3328 : Shape := ⟨2, ![1024, 3328]⟩
abbrev S1024x1024 : Shape := ⟨2, ![1024, 1024]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x3328, .bf16⟩
  | .hbm, ⟨2, _⟩ => ⟨S1024x3328, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S9216x1024 : Shape := ⟨2, ![9216, 1024]⟩
abbrev S9216x3328 : Shape := ⟨2, ![9216, 3328]⟩
abbrev S_ : Shape := ⟨0, ![]⟩
abbrev S1024x3328 : Shape := ⟨2, ![1024, 3328]⟩
abbrev S3328x1024 : Shape := ⟨2, ![3328, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x3328, .bf16⟩
  | .hbm, ⟨2, _⟩ => ⟨S_, .f32⟩
  | .hbm, ⟨3, _⟩ => ⟨S1024x3328, .f32⟩
  | .hbm, ⟨4, _⟩ => ⟨S9216x1024, .f32⟩
  | .hbm, ⟨5, _⟩ => ⟨S9216x3328, .f32⟩
  | .hbm, ⟨6, _⟩ => ⟨S9216x3328, .f32⟩
  | .hbm, ⟨7, _⟩ => ⟨S3328x1024, .f32⟩
  | .hbm, ⟨8, _⟩ => ⟨S1024x3328, .f32⟩
  | .hbm, ⟨9, _⟩ => ⟨S1024x3328, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S9216x1024 : Shape := ⟨2, ![9216, 1024]⟩
abbrev S9216x3072 : Shape := ⟨2, ![9216, 3072]⟩
abbrev S1024x3072 : Shape := ⟨2, ![1024, 3072]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x3072, .bf16⟩
  | .hbm, ⟨2, _⟩ => ⟨S1024x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S9216x1024 : Shape := ⟨2, ![9216, 1024]⟩
abbrev S9216x3072 : Shape := ⟨2, ![9216, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x3072, .bf16⟩
  | .hbm, ⟨2, _⟩ => ⟨S_, .f32⟩
  | .hbm, ⟨3, _⟩ => ⟨S1024x3072, .f32⟩
  | .hbm, ⟨4, _⟩ => ⟨S9216x1024, .f32⟩
  | .hbm, ⟨5, _⟩ => ⟨S9216x3072, .f32⟩
  | .hbm, ⟨6, _⟩ => ⟨S9216x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S9216x512 : Shape := ⟨2, ![9216, 512]⟩
abbrev S9216x1024 : Shape := ⟨2, ![9216, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S9216x512 : Shape := ⟨2, ![9216, 512]⟩
abbrev S9216x1024 : Shape := ⟨2, ![9216, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S_, .f32⟩
  | .hbm, ⟨3, _⟩ => ⟨S512x1024, .f32⟩
  | .hbm, ⟨4, _⟩ => ⟨S9216x512, .f32⟩
  | .hbm, ⟨5, _⟩ => ⟨S9216x1024, .f32⟩
  | .hbm, ⟨6, _⟩ => ⟨S9216x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S512x1024 : Shape := ⟨2, ![512, 1024]⟩
abbrev S9216x1024 : Shape := ⟨2, ![9216, 1024]⟩
abbrev S9216x512 : Shape := ⟨2, ![9216, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S9216x1024, .bf16⟩
  | .hbm, ⟨2, _⟩ => ⟨S9216x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S512x1024 : Shape := ⟨2, ![512, 1024]⟩
abbrev S9216x1024 : Shape := ⟨2, ![9216, 1024]⟩
abbrev S_ : Shape := ⟨0, ![]⟩
abbrev S9216x512 : Shape := ⟨2, ![9216, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S9216x1024, .bf16⟩
  | .hbm, ⟨2, _⟩ => ⟨S_, .f32⟩
  | .hbm, ⟨3, _⟩ => ⟨S9216x512, .f32⟩
  | .hbm, ⟨4, _⟩ => ⟨S512x1024, .f32⟩
  | .hbm, ⟨5, _⟩ => ⟨S9216x1024, .f32⟩
  | .hbm, ⟨6, _⟩ => ⟨S9216x1024, .f32⟩
  | .hbm, ⟨7, _⟩ => ⟨S9216x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S512x1024 : Shape := ⟨2, ![512, 1024]⟩
abbrev S9216x1024 : Shape := ⟨2, ![9216, 1024]⟩
abbrev S9216x512 : Shape := ⟨2, ![9216, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S9216x1024, .bf16⟩
  | .hbm, ⟨2, _⟩ => ⟨S9216x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S512x1024 : Shape := ⟨2, ![512, 1024]⟩
abbrev S9216x1024 : Shape := ⟨2, ![9216, 1024]⟩
abbrev S_ : Shape := ⟨0, ![]⟩
abbrev S9216x512 : Shape := ⟨2, ![9216, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S9216x1024, .bf16⟩
  | .hbm, ⟨2, _⟩ => ⟨S_, .f32⟩
  | .hbm, ⟨3, _⟩ => ⟨S9216x512, .f32⟩
  | .hbm, ⟨4, _⟩ => ⟨S512x1024, .f32⟩
  | .hbm, ⟨5, _⟩ => ⟨S9216x1024, .f32⟩
  | .hbm, ⟨6, _⟩ => ⟨S9216x1024, .f32⟩
  | .hbm, ⟨7, _⟩ => ⟨S9216x512, .f32⟩
  | .hbm, ⟨8, _⟩ => ⟨S9216x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S9216x1024 : Shape := ⟨2, ![9216, 1024]⟩
abbrev S1024x3328 : Shape := ⟨2, ![1024, 3328]⟩
abbrev S9216x3328 : Shape := ⟨2, ![9216, 3328]⟩
abbrev S1024x1024 : Shape := ⟨2, ![1024, 1024]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x3328, .bf16⟩
  | .hbm, ⟨2, _⟩ => ⟨S9216x3328, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | .local _ .vmem, ⟨5, _⟩ => ⟨S1024x1664, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S9216x1024 : Shape := ⟨2, ![9216, 1024]⟩
abbrev S1024x3328 : Shape := ⟨2, ![1024, 3328]⟩
abbrev S9216x3328 : Shape := ⟨2, ![9216, 3328]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x3328, .bf16⟩
  | .hbm, ⟨2, _⟩ => ⟨S9216x1024, .f32⟩
  | .hbm, ⟨3, _⟩ => ⟨S1024x3328, .f32⟩
  | .hbm, ⟨4, _⟩ => ⟨S9216x3328, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S9216x1024 : Shape := ⟨2, ![9216, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1024x1024, .f32⟩
  | .hbm, ⟨4, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S9216x2816 : Shape := ⟨2, ![9216, 2816]⟩
abbrev S2816x1024 : Shape := ⟨2, ![2816, 1024]⟩
abbrev S9216x1024 : Shape := ⟨2, ![9216, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S9216x2816 : Shape := ⟨2, ![9216, 2816]⟩
abbrev S2816x1024 : Shape := ⟨2, ![2816, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x2816, .f32⟩
  | .hbm, ⟨3, _⟩ => ⟨S2816x1024, .f32⟩
  | .hbm, ⟨4, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S9216x1024 : Shape := ⟨2, ![9216, 1024]⟩
abbrev S1024x3072 : Shape := ⟨2, ![1024, 3072]⟩
abbrev S9216x512 : Shape := ⟨2, ![9216, 512]⟩
abbrev S512x1024 : Shape := ⟨2, ![512, 1024]⟩
abbrev S3x9216x1024 : Shape := ⟨3, ![3, 9216, 1024]⟩
abbrev S1024x512 : Shape := ⟨2, ![1024, 512]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 11
  | .vmem => 26
  | .smem => 0
  | _ => 0

abbrev bufTy : (tb : Table) → Fin (tcTables nBuf tb) → BufTy
  | .hbm, ⟨0, _⟩ => ⟨S9216x1024, .bf16⟩
  | .hbm, ⟨1, _⟩ => ⟨S1024x3072, .bf16⟩
  | .hbm, ⟨2, _⟩ => ⟨S9216x512, .bf16⟩
  | .hbm, ⟨3, _⟩ => ⟨S9216x512, .bf16⟩
  | .hbm, ⟨4, _⟩ => ⟨S9216x512, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S9216x1024, .bf16⟩
  | .hbm, ⟨9, _⟩ => ⟨S3x9216x1024, .bf16⟩
  | .hbm, ⟨10, _⟩ => ⟨S3x9216x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S3x512x512, .bf16⟩
  | .local _ .vmem, ⟨23, _⟩ => ⟨S3x512x512, .bf16⟩
  | .local _ .vmem, ⟨24, _⟩ => ⟨S3x512x512, .bf16⟩
  | .local _ .vmem, ⟨25, _⟩ => ⟨S3x512x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference17Ideal.lean ====
abbrev S9216x1024 : Shape := ⟨2, ![9216, 1024]⟩
abbrev S1024x3072 : Shape := ⟨2, ![1024, 3072]⟩
abbrev S9216x512 : Shape := ⟨2, ![9216, 512]⟩
abbrev S512x1024 : Shape := ⟨2, ![512, 1024]⟩
abbrev S9216x3072 : Shape := ⟨2, ![9216, 3072]⟩
abbrev S9216x3x1024 : Shape := ⟨3, ![9216, 3, 1024]⟩
abbrev S_ : Shape := ⟨0, ![]⟩
abbrev S9216x1x1024 : Shape := ⟨3, ![9216, 1, 1024]⟩
abbrev S1x9216x1024 : Shape := ⟨3, ![1, 9216, 1024]⟩
abbrev S3x9216x1024 : Shape := ⟨3, ![3, 9216, 1024]⟩

abbrev nBuf : Space → Nat
  | .hbm => 57
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x3072, .bf16⟩
  | .hbm, ⟨2, _⟩ => ⟨S9216x512, .bf16⟩
  | .hbm, ⟨3, _⟩ => ⟨S9216x512, .bf16⟩
  | .hbm, ⟨4, _⟩ => ⟨S9216x512, .bf16⟩
  | .hbm, ⟨5, _⟩ => ⟨S512x1024, .bf16⟩
  | .hbm, ⟨6, _⟩ => ⟨S512x1024, .bf16⟩
  | .hbm, ⟨7, _⟩ => ⟨S512x1024, .bf16⟩
  | .hbm, ⟨8, _⟩ => ⟨S9216x1024, .f32⟩
  | .hbm, ⟨9, _⟩ => ⟨S1024x3072, .f32⟩
  | .hbm, ⟨10, _⟩ => ⟨S9216x512, .f32⟩
  | .hbm, ⟨11, _⟩ => ⟨S9216x512, .f32⟩
  | .hbm, ⟨12, _⟩ => ⟨S9216x512, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S9216x1024, .f32⟩
  | .hbm, ⟨17, _⟩ => ⟨S9216x1024, .f32⟩
  | .hbm, ⟨18, _⟩ => ⟨S9216x1024, .f32⟩
  | .hbm, ⟨19, _⟩ => ⟨S9216x3072, .f32⟩
  | .hbm, ⟨20, _⟩ => ⟨S9216x3x1024, .f32⟩
  | .hbm, ⟨21, _⟩ => ⟨S9216x3x1024, .f32⟩
  | .hbm, ⟨22, _⟩ => ⟨S9216x3x1024, .f32⟩
  | .hbm, ⟨23, _⟩ => ⟨S_, .f32⟩
  | .hbm, ⟨24, _⟩ => ⟨S9216x3x1024, .f32⟩
  | .hbm, ⟨25, _⟩ => ⟨S9216x3x1024, .f32⟩
  | .hbm, ⟨26, _⟩ => ⟨S_, .f32⟩
  | .hbm, ⟨27, _⟩ => ⟨S9216x3x1024, .f32⟩
  | .hbm, ⟨28, _⟩ => ⟨S9216x3x1024, .f32⟩
  | .hbm, ⟨29, _⟩ => ⟨S9216x1x1024, .f32⟩
  | .hbm, ⟨30, _⟩ => ⟨S9216x1024, .f32⟩
  | .hbm, ⟨31, _⟩ => ⟨S9216x1024, .f32⟩
  | .hbm, ⟨32, _⟩ => ⟨S9216x1x1024, .f32⟩
  | .hbm, ⟨33, _⟩ => ⟨S9216x1024, .f32⟩
  | .hbm, ⟨34, _⟩ => ⟨S9216x1024, .f32⟩
  | .hbm, ⟨35, _⟩ => ⟨S9216x1024, .f32⟩
  | .hbm, ⟨36, _⟩ => ⟨S9216x1x1024, .f32⟩
  | .hbm, ⟨37, _⟩ => ⟨S9216x1024, .f32⟩
  | .hbm, ⟨38, _⟩ => ⟨S9216x1024, .f32⟩
  | .hbm, ⟨39, _⟩ => ⟨S9216x1024, .f32⟩
  | .hbm, ⟨40, _⟩ => ⟨S9216x1024, .bf16⟩
  | .hbm, ⟨41, _⟩ => ⟨S9216x1x1024, .f32⟩
  | .hbm, ⟨42, _⟩ => ⟨S9216x1024, .f32⟩
  | .hbm, ⟨43, _⟩ => ⟨S9216x1x1024, .f32⟩
  | .hbm, ⟨44, _⟩ => ⟨S9216x1024, .f32⟩
  | .hbm, ⟨45, _⟩ => ⟨S9216x1x1024, .f32⟩
  | .hbm, ⟨46, _⟩ => ⟨S9216x1024, .f32⟩
  | .hbm, ⟨47, _⟩ => ⟨S1x9216x1024, .f32⟩
  | .hbm, ⟨48, _⟩ => ⟨S1x9216x1024, .f32⟩
  | .hbm, ⟨49, _⟩ => ⟨S1x9216x1024, .f32⟩
  | .hbm, ⟨50, _⟩ => ⟨S3x9216x1024, .f32⟩
  | .hbm, ⟨51, _⟩ => ⟨S3x9216x1024, .bf16⟩
  | .hbm, ⟨52, _⟩ => ⟨S1x9216x1024, .f32⟩
  | .hbm, ⟨53, _⟩ => ⟨S1x9216x1024, .f32⟩
  | .hbm, ⟨54, _⟩ => ⟨S1x9216x1024, .f32⟩
  | .hbm, ⟨55, _⟩ => ⟨S3x9216x1024, .f32⟩
  | .hbm, ⟨56, _⟩ => ⟨S3x9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Kernel18.lean ====
abbrev S9216x1024 : Shape := ⟨2, ![9216, 1024]⟩
abbrev S4x1024x1408 : Shape := ⟨3, ![4, 1024, 1408]⟩
abbrev S9216x2816 : Shape := ⟨2, ![9216, 2816]⟩
abbrev S2x9216x2816 : Shape := ⟨3, ![2, 9216, 2816]⟩
abbrev S512x1024 : Shape := ⟨2, ![512, 1024]⟩
abbrev S1x1024x1408 : Shape := ⟨3, ![1, 1024, 1408]⟩
abbrev S512x1408 : Shape := ⟨2, ![512, 1408]⟩
abbrev S2x512x1408 : Shape := ⟨3, ![2, 512, 1408]⟩
abbrev S256x1024 : Shape := ⟨2, ![256, 1024]⟩
abbrev S1024x1408 : Shape := ⟨2, ![1024, 1408]⟩
abbrev S256x1408 : Shape := ⟨2, ![256, 1408]⟩
abbrev S1x256x1408 : Shape := ⟨3, ![1, 256, 1408]⟩

abbrev nBuf : Space → Nat
  | .hbm => 4
  | .vmem => 10
  | .smem => 0
  | _ => 0

abbrev bufTy : (tb : Table) → Fin (tcTables nBuf tb) → BufTy
  | .hbm, ⟨0, _⟩ => ⟨S9216x1024, .bf16⟩
  | .hbm, ⟨1, _⟩ => ⟨S4x1024x1408, .bf16⟩
  | .hbm, ⟨2, _⟩ => ⟨S9216x2816, .bf16⟩
  | .hbm, ⟨3, _⟩ => ⟨S2x9216x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S9216x1024 : Shape := ⟨2, ![9216, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S9216x5632 : Shape := ⟨2, ![9216, 5632]⟩
abbrev S9216x2816 : Shape := ⟨2, ![9216, 2816]⟩
abbrev S_ : Shape := ⟨0, ![]⟩
abbrev S1x9216x2816 : Shape := ⟨3, ![1, 9216, 2816]⟩
abbrev S2x9216x2816 : Shape := ⟨3, ![2, 9216, 2816]⟩

abbrev nBuf : Space → Nat
  | .hbm => 24
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x1024x1408, .bf16⟩
  | .hbm, ⟨2, _⟩ => ⟨S9216x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S9216x5632, .f32⟩
  | .hbm, ⟨7, _⟩ => ⟨S9216x2816, .f32⟩
  | .hbm, ⟨8, _⟩ => ⟨S9216x2816, .f32⟩
  | .hbm, ⟨9, _⟩ => ⟨S9216x2816, .f32⟩
  | .hbm, ⟨10, _⟩ => ⟨S9216x2816, .f32⟩
  | .hbm, ⟨11, _⟩ => ⟨S_, .f32⟩
  | .hbm, ⟨12, _⟩ => ⟨S9216x2816, .f32⟩
  | .hbm, ⟨13, _⟩ => ⟨S9216x2816, .f32⟩
  | .hbm, ⟨14, _⟩ => ⟨S_, .f32⟩
  | .hbm, ⟨15, _⟩ => ⟨S9216x2816, .f32⟩
  | .hbm, ⟨16, _⟩ => ⟨S9216x2816, .f32⟩
  | .hbm, ⟨17, _⟩ => ⟨S9216x2816, .f32⟩
  | .hbm, ⟨18, _⟩ => ⟨S9216x2816, .f32⟩
  | .hbm, ⟨19, _⟩ => ⟨S9216x2816, .bf16⟩
  | .hbm, ⟨20, _⟩ => ⟨S1x9216x2816, .f32⟩
  | .hbm, ⟨21, _⟩ => ⟨S1x9216x2816, .f32⟩
  | .hbm, ⟨22, _⟩ => ⟨S2x9216x2816, .f32⟩
  | .hbm, ⟨23, _⟩ => ⟨S2x9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel19.lean ====
abbrev S9216x512 : Shape := ⟨2, ![9216, 512]⟩
abbrev S9216x256 : Shape := ⟨2, ![9216, 256]⟩
abbrev S256x256 : Shape := ⟨2, ![256, 256]⟩
abbrev S2304x128 : Shape := ⟨2, ![2304, 128]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x2304 : Shape := ⟨2, ![512, 2304]⟩

abbrev nBuf : Space → Nat
  | .hbm => 4
  | .vmem => 8
  | .smem => 0
  | _ => 0

abbrev bufTy : (tb : Table) → Fin (tcTables nBuf tb) → BufTy
  | .hbm, ⟨0, _⟩ => ⟨S9216x512, .bf16⟩
  | .hbm, ⟨1, _⟩ => ⟨S9216x256, .bf16⟩
  | .hbm, ⟨2, _⟩ => ⟨S9216x256, .bf16⟩
  | .hbm, ⟨3, _⟩ => ⟨S9216x512, .bf16⟩
  | .local _ .vmem, ⟨0, _⟩ => ⟨S256x256, .bf16⟩
  | .local _ .vmem, ⟨1, _⟩ => ⟨S256x256, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x256, .bf16⟩
  | .local _ .vmem, ⟨7, _⟩ => ⟨S256x256, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 9], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_0 : BitVec 32 := 0#32
  let v6 : BitVec 1 := Scalar.cmpi .ne v5 c0_i32_0
  v6

def k0_cond2 (i : grid0.Coords) : BitVec 1 :=
  let arg2 : BitVec 32 := BitVec.ofNat 32 (i 2).val
  let c0_i32_1 : BitVec 32 := 0#32
  let v7 : BitVec 1 := Scalar.cmpi .ne arg2 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference19Ideal.lean ====
abbrev S9216x512 : Shape := ⟨2, ![9216, 512]⟩
abbrev S9216x256 : Shape := ⟨2, ![9216, 256]⟩
abbrev S4x2304x8x64 : Shape := ⟨4, ![4, 2304, 8, 64]⟩
abbrev S9216x2x1x128 : Shape := ⟨4, ![9216, 2, 1, 128]⟩
abbrev S9216x2x2x128 : Shape := ⟨4, ![9216, 2, 2, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x64 : Shape := ⟨4, ![4, 2048, 8, 64]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩

abbrev nBuf : Space → Nat
  | .hbm => 54
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x256, .bf16⟩
  | .hbm, ⟨2, _⟩ => ⟨S9216x256, .bf16⟩
  | .hbm, ⟨3, _⟩ => ⟨S9216x512, .f32⟩
  | .hbm, ⟨4, _⟩ => ⟨S9216x256, .f32⟩
  | .hbm, ⟨5, _⟩ => ⟨S9216x256, .f32⟩
  | .hbm, ⟨6, _⟩ => ⟨S4x2304x8x64, .f32⟩
  | .hbm, ⟨7, _⟩ => ⟨S9216x2x1x128, .f32⟩
  | .hbm, ⟨8, _⟩ => ⟨S9216x2x2x128, .f32⟩
  | .hbm, ⟨9, _⟩ => ⟨S4x2304x8x64, .f32⟩
  | .hbm, ⟨10, _⟩ => ⟨S9216x2x1x128, .f32⟩
  | .hbm, ⟨11, _⟩ => ⟨S9216x2x2x128, .f32⟩
  | .hbm, ⟨12, _⟩ => ⟨S4x2304x8x64, .f32⟩
  | .hbm, ⟨13, _⟩ => ⟨S4x256x8x64, .f32⟩
  | .hbm, ⟨14, _⟩ => ⟨S4x256x8x64, .f32⟩
  | .hbm, ⟨15, _⟩ => ⟨S4x256x8x64, .f32⟩
  | .hbm, ⟨16, _⟩ => ⟨S4x8x256x256, .f32⟩
  | .hbm, ⟨17, _⟩ => ⟨S_, .f32⟩
  | .hbm, ⟨18, _⟩ => ⟨S4x8x256, .f32⟩
  | .hbm, ⟨19, _⟩ => ⟨S_, .f32⟩
  | .hbm, ⟨20, _⟩ => ⟨S4x8x256, .f32⟩
  | .hbm, ⟨21, _⟩ => ⟨S4x8x256, .f32⟩
  | .hbm, ⟨22, _⟩ => ⟨S4x8x256x1, .f32⟩
  | .hbm, ⟨23, _⟩ => ⟨S4x8x256x256, .f32⟩
  | .hbm, ⟨24, _⟩ => ⟨S4x8x256x256, .f32⟩
  | .hbm, ⟨25, _⟩ => ⟨S4x8x256x256, .f32⟩
  | .hbm, ⟨26, _⟩ => ⟨S_, .f32⟩
  | .hbm, ⟨27, _⟩ => ⟨S4x8x256, .f32⟩
  | .hbm, ⟨28, _⟩ => ⟨S4x8x256x1, .f32⟩
  | .hbm, ⟨29, _⟩ => ⟨S4x8x256x256, .f32⟩
  | .hbm, ⟨30, _⟩ => ⟨S4x8x256x256, .f32⟩
  | .hbm, ⟨31, _⟩ => ⟨S4x8x64x256, .f32⟩
  | .hbm, ⟨32, _⟩ => ⟨S4x256x8x64, .f32⟩
  | .hbm, ⟨33, _⟩ => ⟨S4x2048x8x64, .f32⟩
  | .hbm, ⟨34, _⟩ => ⟨S4x8x2048x2304, .f32⟩
  | .hbm, ⟨35, _⟩ => ⟨S_, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .f32⟩
  | .hbm, ⟨40, _⟩ => ⟨S4x8x2048x1, .f32⟩
  | .hbm, ⟨41, _⟩ => ⟨S4x8x2048x2304, .f32⟩
  | .hbm, ⟨42, _⟩ => ⟨S4x8x2048x2304, .f32⟩
  | .hbm, ⟨43, _⟩ => ⟨S4x8x2048x2304, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S4x8x2048x2304, .f32⟩
  | .hbm, ⟨48, _⟩ => ⟨S4x8x2048x2304, .f32⟩
  | .hbm, ⟨49, _⟩ => ⟨S4x8x64x2048, .f32⟩
  | .hbm, ⟨50, _⟩ => ⟨S4x2048x8x64, .f32⟩
  | .hbm, ⟨51, _⟩ => ⟨S4x2304x8x64, .f32⟩
  | .hbm, ⟨52, _⟩ => ⟨S9216x512, .f32⟩
  | .hbm, ⟨53, _⟩ => ⟨S9216x512, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Kernel21.lean ====
abbrev S9216x1024 : Shape := ⟨2, ![9216, 1024]⟩
abbrev S5x1x6144 : Shape := ⟨3, ![5, 1, 6144]⟩
abbrev S256x1024 : Shape := ⟨2, ![256, 1024]⟩
abbrev S1x1x6144 : Shape := ⟨3, ![1, 1, 6144]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .f32⟩
  | .hbm, ⟨1, _⟩ => ⟨S5x1x6144, .f32⟩
  | .hbm, ⟨2, _⟩ => ⟨S9216x1024, .bf16⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S256x1024, .bf16⟩
  | .local _ .vmem, ⟨5, _⟩ => ⟨S256x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S9216x1024 : Shape := ⟨2, ![9216, 1024]⟩
abbrev S5x1x6144 : Shape := ⟨3, ![5, 1, 6144]⟩
abbrev S4x2304x1024 : Shape := ⟨3, ![4, 2304, 1024]⟩
abbrev S4x256x1024 : Shape := ⟨3, ![4, 256, 1024]⟩
abbrev S4x2048x1024 : Shape := ⟨3, ![4, 2048, 1024]⟩
abbrev S1x1x6144 : Shape := ⟨3, ![1, 1, 6144]⟩
abbrev S1x6144 : Shape := ⟨2, ![1, 6144]⟩
abbrev S6x1024 : Shape := ⟨2, ![6, 1024]⟩
abbrev S4x1x6144 : Shape := ⟨3, ![4, 1, 6144]⟩
abbrev S4x6x1x1024 : Shape := ⟨4, ![4, 6, 1, 1024]⟩
abbrev S_ : Shape := ⟨0, ![]⟩
abbrev S4x256 : Shape := ⟨2, ![4, 256]⟩
abbrev S4x256x1 : Shape := ⟨3, ![4, 256, 1]⟩
abbrev S1x1024 : Shape := ⟨2, ![1, 1024]⟩
abbrev S1024 : Shape := ⟨1, ![1024]⟩
abbrev S1x1x1024 : Shape := ⟨3, ![1, 1, 1024]⟩
abbrev S4x2048 : Shape := ⟨2, ![4, 2048]⟩
abbrev S4x2048x1 : Shape := ⟨3, ![4, 2048, 1]⟩
abbrev S4x1x1x1024 : Shape := ⟨4, ![4, 1, 1, 1024]⟩
abbrev S4x1x1024 : Shape := ⟨3, ![4, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S5x1x6144, .f32⟩
  | .hbm, ⟨2, _⟩ => ⟨S4x2304x1024, .f32⟩
  | .hbm, ⟨3, _⟩ => ⟨S4x256x1024, .f32⟩
  | .hbm, ⟨4, _⟩ => ⟨S4x2048x1024, .f32⟩
  | .hbm, ⟨5, _⟩ => ⟨S1x1x6144, .f32⟩
  | .hbm, ⟨6, _⟩ => ⟨S1x6144, .f32⟩
  | .hbm, ⟨7, _⟩ => ⟨S6x1024, .f32⟩
  | .hbm, ⟨8, _⟩ => ⟨S4x1x6144, .f32⟩
  | .hbm, ⟨9, _⟩ => ⟨S4x6x1x1024, .f32⟩
  | .hbm, ⟨10, _⟩ => ⟨S4x256x1024, .f32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S4x256x1, .f32⟩
  | .hbm, ⟨19, _⟩ => ⟨S4x256x1, .f32⟩
  | .hbm, ⟨20, _⟩ => ⟨S4x256x1, .f32⟩
  | .hbm, ⟨21, _⟩ => ⟨S4x256x1024, .f32⟩
  | .hbm, ⟨22, _⟩ => ⟨S4x256x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1x1024, .f32⟩
  | .hbm, ⟨29, _⟩ => ⟨S4x256x1024, .f32⟩
  | .hbm, ⟨30, _⟩ => ⟨S4x256x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S4x256x1024, .f32⟩
  | .hbm, ⟨35, _⟩ => ⟨S4x256x1024, .f32⟩
  | .hbm, ⟨36, _⟩ => ⟨S4x2048x1024, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x1024, .f32⟩
  | .hbm, ⟨48, _⟩ => ⟨S4x2048x1024, .f32⟩
  | .hbm, ⟨49, _⟩ => ⟨S4x1x1x1024, .f32⟩
  | .hbm, ⟨50, _⟩ => ⟨S4x1x1024, .f32⟩
  | .hbm, ⟨51, _⟩ => ⟨S_, .f32⟩
  | .hbm, ⟨52, _⟩ => ⟨S4x1x1024, .f32⟩
  | .hbm, ⟨53, _⟩ => ⟨S4x1x1024, .f32⟩
  | .hbm, ⟨54, _⟩ => ⟨S4x2048x1024, .f32⟩
  | .hbm, ⟨55, _⟩ => ⟨S4x2048x1024, .f32⟩
  | .hbm, ⟨56, _⟩ => ⟨S4x1x1x1024, .f32⟩
  | .hbm, ⟨57, _⟩ => ⟨S4x1x1024, .f32⟩
  | .hbm, ⟨58, _⟩ => ⟨S4x2048x1024, .f32⟩
  | .hbm, ⟨59, _⟩ => ⟨S4x2048x1024, .f32⟩
  | .hbm, ⟨60, _⟩ => ⟨S4x2304x1024, .f32⟩
  | .hbm, ⟨61, _⟩ => ⟨S9216x1024, .f32⟩
  | .hbm, ⟨62, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_cst_5 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Kernel22.lean ====
abbrev S9216x1024 : Shape := ⟨2, ![9216, 1024]⟩
abbrev S5x1x6144 : Shape := ⟨3, ![5, 1, 6144]⟩
abbrev S256x1024 : Shape := ⟨2, ![256, 1024]⟩
abbrev S1x1x6144 : Shape := ⟨3, ![1, 1, 6144]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x6144, .f32⟩
  | .hbm, ⟨3, _⟩ => ⟨S9216x1024, .f32⟩
  | .hbm, ⟨4, _⟩ => ⟨S9216x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1x6144, .f32⟩
  | .local _ .vmem, ⟨7, _⟩ => ⟨S1x1x6144, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S9216x1024 : Shape := ⟨2, ![9216, 1024]⟩
abbrev S5x1x6144 : Shape := ⟨3, ![5, 1, 6144]⟩
abbrev S4x2304x1024 : Shape := ⟨3, ![4, 2304, 1024]⟩
abbrev S4x256x1024 : Shape := ⟨3, ![4, 256, 1024]⟩
abbrev S4x2048x1024 : Shape := ⟨3, ![4, 2048, 1024]⟩
abbrev S1x1x6144 : Shape := ⟨3, ![1, 1, 6144]⟩
abbrev S1x6144 : Shape := ⟨2, ![1, 6144]⟩
abbrev S6x1024 : Shape := ⟨2, ![6, 1024]⟩
abbrev S4x1x6144 : Shape := ⟨3, ![4, 1, 6144]⟩
abbrev S4x6x1x1024 : Shape := ⟨4, ![4, 6, 1, 1024]⟩
abbrev S1x1024 : Shape := ⟨2, ![1, 1024]⟩
abbrev S1024 : Shape := ⟨1, ![1024]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S4x2048 : Shape := ⟨2, ![4, 2048]⟩
abbrev S4x2048x1 : Shape := ⟨3, ![4, 2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x6144, .f32⟩
  | .hbm, ⟨3, _⟩ => ⟨S4x2304x1024, .f32⟩
  | .hbm, ⟨4, _⟩ => ⟨S4x256x1024, .f32⟩
  | .hbm, ⟨5, _⟩ => ⟨S4x2048x1024, .f32⟩
  | .hbm, ⟨6, _⟩ => ⟨S4x2304x1024, .f32⟩
  | .hbm, ⟨7, _⟩ => ⟨S4x256x1024, .f32⟩
  | .hbm, ⟨8, _⟩ => ⟨S4x2048x1024, .f32⟩
  | .hbm, ⟨9, _⟩ => ⟨S1x1x6144, .f32⟩
  | .hbm, ⟨10, _⟩ => ⟨S1x6144, .f32⟩
  | .hbm, ⟨11, _⟩ => ⟨S6x1024, .f32⟩
  | .hbm, ⟨12, _⟩ => ⟨S4x1x6144, .f32⟩
  | .hbm, ⟨13, _⟩ => ⟨S4x6x1x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S4x1x1x1024, .f32⟩
  | .hbm, ⟨21, _⟩ => ⟨S4x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2304x1024, .f32⟩
  | .hbm, ⟨26, _⟩ => ⟨S9216x1024, .f32⟩
  | .hbm, ⟨27, _⟩ => ⟨S1x1x6144, .f32⟩
  | .hbm, ⟨28, _⟩ => ⟨S1x6144, .f32⟩
  | .hbm, ⟨29, _⟩ => ⟨S6x1024, .f32⟩
  | .hbm, ⟨30, _⟩ => ⟨S4x1x6144, .f32⟩
  | .hbm, ⟨31, _⟩ => ⟨S4x6x1x1024, .f32⟩
  | .hbm, ⟨32, _⟩ => ⟨S4x256x1024, .f32⟩
  | .hbm, ⟨33, _⟩ => ⟨S_, .f32⟩
  | .hbm, ⟨34, _⟩ => ⟨S4x256, .f32⟩
  | .hbm, ⟨35, _⟩ => ⟨S4x256x1, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S_, .f32⟩
  | .hbm, ⟨40, _⟩ => ⟨S4x256x1, .f32⟩
  | .hbm, ⟨41, _⟩ => ⟨S4x256x1, .f32⟩
  | .hbm, ⟨42, _⟩ => ⟨S4x256x1, .f32⟩
  | .hbm, ⟨43, _⟩ => ⟨S4x256x1024, .f32⟩
  | .hbm, ⟨44, _⟩ => ⟨S4x256x1024, .f32⟩
  | .hbm, ⟨45, _⟩ => ⟨S1x1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1x1024, .f32⟩
  | .hbm, ⟨51, _⟩ => ⟨S4x256x1024, .f32⟩
  | .hbm, ⟨52, _⟩ => ⟨S4x256x1024, .f32⟩
  | .hbm, ⟨53, _⟩ => ⟨S1x1024, .f32⟩
  | .hbm, ⟨54, _⟩ => ⟨S1024, .f32⟩
  | .hbm, ⟨55, _⟩ => ⟨S1x1x1024, .f32⟩
  | .hbm, ⟨56, _⟩ => ⟨S4x256x1024, .f32⟩
  | .hbm, ⟨57, _⟩ => ⟨S4x256x1024, .f32⟩
  | .hbm, ⟨58, _⟩ => ⟨S4x2048x1024, .f32⟩
  | .hbm, ⟨59, _⟩ => ⟨S_, .f32⟩
  | .hbm, ⟨60, _⟩ => ⟨S4x2048, .f32⟩
  | .hbm, ⟨61, _⟩ => ⟨S4x2048x1, .f32⟩
  | .hbm, ⟨62, _⟩ => ⟨S_, .f32⟩
  | .hbm, ⟨63, _⟩ => ⟨S4x2048x1, .f32⟩
  | .hbm, ⟨64, _⟩ => ⟨S4x2048x1, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S4x2048x1, .f32⟩
  | .hbm, ⟨69, _⟩ => ⟨S4x2048x1024, .f32⟩
  | .hbm, ⟨70, _⟩ => ⟨S4x2048x1024, .f32⟩
  | .hbm, ⟨71, _⟩ => ⟨S4x1x1x1024, .f32⟩
  | .hbm, ⟨72, _⟩ => ⟨S4x1x1024, .f32⟩
  | .hbm, ⟨73, _⟩ => ⟨S_, .f32⟩
  | .hbm, ⟨74, _⟩ => ⟨S4x1x1024, .f32⟩
  | .hbm, ⟨75, _⟩ => ⟨S4x1x1024, .f32⟩
  | .hbm, ⟨76, _⟩ => ⟨S4x2048x1024, .f32⟩
  | .hbm, ⟨77, _⟩ => ⟨S4x2048x1024, .f32⟩
  | .hbm, ⟨78, _⟩ => ⟨S4x1x1x1024, .f32⟩
  | .hbm, ⟨79, _⟩ => ⟨S4x1x1024, .f32⟩
  | .hbm, ⟨80, _⟩ => ⟨S4x2048x1024, .f32⟩
  | .hbm, ⟨81, _⟩ => ⟨S4x2048x1024, .f32⟩
  | .hbm, ⟨82, _⟩ => ⟨S4x2304x1024, .f32⟩
  | .hbm, ⟨83, _⟩ => ⟨S9216x1024, .f32⟩
  | .hbm, ⟨84, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩

abbrev nD : Nat := 1
abbrev τ : Topo := Topo.v7x

variable {F : FTy → Type} [FloatOps F]
-- ==== Kernel23.lean ====
abbrev S9216x1024 : Shape := ⟨2, ![9216, 1024]⟩
abbrev S5x1x6144 : Shape := ⟨3, ![5, 1, 6144]⟩
abbrev S256x1024 : Shape := ⟨2, ![256, 1024]⟩
abbrev S1x1x6144 : Shape := ⟨3, ![1, 1, 6144]⟩
abbrev S1x1x1024 : Shape := ⟨3, ![1, 1, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x6144, .f32⟩
  | .hbm, ⟨3, _⟩ => ⟨S9216x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x6144, .f32⟩
  | .local _ .vmem, ⟨5, _⟩ => ⟨S1x1x6144, .f32⟩
  | .local _ .vmem, ⟨6, _⟩ => ⟨S256x1024, .f32⟩
  | .local _ .vmem, ⟨7, _⟩ => ⟨S256x1024, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.select v10 c4_i32 v27
  let c0_i32_11 : BitVec 32 := 0#32
  let c0_i32_12 : BitVec 32 := 0#32
  let c0_i32_13 : BitVec 32 := 0#32
  ![v28.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S9216x1024 : Shape := ⟨2, ![9216, 1024]⟩
abbrev S5x1x6144 : Shape := ⟨3, ![5, 1, 6144]⟩
abbrev S4x2304x1024 : Shape := ⟨3, ![4, 2304, 1024]⟩
abbrev S4x256x1024 : Shape := ⟨3, ![4, 256, 1024]⟩
abbrev S4x2048x1024 : Shape := ⟨3, ![4, 2048, 1024]⟩
abbrev S1x1x6144 : Shape := ⟨3, ![1, 1, 6144]⟩
abbrev S1x6144 : Shape := ⟨2, ![1, 6144]⟩
abbrev S6x1024 : Shape := ⟨2, ![6, 1024]⟩
abbrev S4x1x6144 : Shape := ⟨3, ![4, 1, 6144]⟩
abbrev S4x6x1x1024 : Shape := ⟨4, ![4, 6, 1, 1024]⟩
abbrev S1x1024 : Shape := ⟨2, ![1, 1024]⟩
abbrev S1024 : Shape := ⟨1, ![1024]⟩
abbrev S1x1x1024 : Shape := ⟨3, ![1, 1, 1024]⟩
abbrev S4x1x1x1024 : Shape := ⟨4, ![4, 1, 1, 1024]⟩
abbrev S4x1x1024 : Shape := ⟨3, ![4, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S5x1x6144, .f32⟩
  | .hbm, ⟨3, _⟩ => ⟨S4x2304x1024, .f32⟩
  | .hbm, ⟨4, _⟩ => ⟨S4x256x1024, .f32⟩
  | .hbm, ⟨5, _⟩ => ⟨S4x2048x1024, .f32⟩
  | .hbm, ⟨6, _⟩ => ⟨S4x2304x1024, .f32⟩
  | .hbm, ⟨7, _⟩ => ⟨S4x256x1024, .f32⟩
  | .hbm, ⟨8, _⟩ => ⟨S4x2048x1024, .f32⟩
  | .hbm, ⟨9, _⟩ => ⟨S1x1x6144, .f32⟩
  | .hbm, ⟨10, _⟩ => ⟨S1x6144, .f32⟩
  | .hbm, ⟨11, _⟩ => ⟨S6x1024, .f32⟩
  | .hbm, ⟨12, _⟩ => ⟨S4x1x6144, .f32⟩
  | .hbm, ⟨13, _⟩ => ⟨S4x6x1x1024, .f32⟩
  | .hbm, ⟨14, _⟩ => ⟨S1x1024, .f32⟩
  | .hbm, ⟨15, _⟩ => ⟨S1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S4x1x1x1024, .f32⟩
  | .hbm, ⟨21, _⟩ => ⟨S4x1x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2304x1024, .f32⟩
  | .hbm, ⟨26, _⟩ => ⟨S9216x1024, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Kernel24.lean ====
abbrev S9216x512 : Shape := ⟨2, ![9216, 512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S9216x512, .f32⟩
  | .hbm, ⟨1, _⟩ => ⟨S1x512, .f32⟩
  | .hbm, ⟨2, _⟩ => ⟨S1x512, .f32⟩
  | .hbm, ⟨3, _⟩ => ⟨S9216x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | _, _ => ⟨S9216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S9216x512 : Shape := ⟨2, ![9216, 512]⟩
abbrev S1x512 : Shape := ⟨2, ![1, 512]⟩
abbrev S_ : Shape := ⟨0, ![]⟩
abbrev S9216 : Shape := ⟨1, ![9216]⟩
abbrev S9216x1 : Shape := ⟨2, ![9216, 1]⟩

abbrev nBuf : Space → Nat
  | .hbm => 40
  | .vmem => 0
  | .smem => 0
  | _ => 0

abbrev bufTy : (tb : Table) → Fin (tcTables nBuf tb) → BufTy
  | .hbm, ⟨0, _⟩ => ⟨S9216x512, .f32⟩
  | .hbm, ⟨1, _⟩ => ⟨S1x512, .f32⟩
  | .hbm, ⟨2, _⟩ => ⟨S1x512, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .f32⟩
  | .hbm, ⟨9, _⟩ => ⟨S9216x512, .f32⟩
  | .hbm, ⟨10, _⟩ => ⟨S9216x512, .f32⟩
  | .hbm, ⟨11, _⟩ => ⟨S9216x512, .f32⟩
  | .hbm, ⟨12, _⟩ => ⟨S_, .f32⟩
  | .hbm, ⟨13, _⟩ => ⟨S9216, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S9216x512, .f32⟩
  | .hbm, ⟨19, _⟩ => ⟨S9216x512, .f32⟩
  | .hbm, ⟨20, _⟩ => ⟨S_, .f32⟩
  | .hbm, ⟨21, _⟩ => ⟨S9216x1, .f32⟩
  | .hbm, ⟨22, _⟩ => ⟨S9216x1, .f32⟩
  | .hbm, ⟨23, _⟩ => ⟨S9216x1, .f32⟩
  | .hbm, ⟨24, _⟩ => ⟨S9216x512, .f32⟩
  | .hbm, ⟨25, _⟩ => ⟨S9216x512, .f32⟩
  | .hbm, ⟨26, _⟩ => ⟨S9216x512, .f32⟩
  | .hbm, ⟨27, _⟩ => ⟨S9216x512, .f32⟩
  | .hbm, ⟨28, _⟩ => ⟨S9216x512, .f32⟩
  | .hbm, ⟨29, _⟩ => ⟨S9216x512, .f32⟩
  | .hbm, ⟨30, _⟩ => ⟨S9216x512, .f32⟩
  | .hbm, ⟨31, _⟩ => ⟨S9216x512, .f32⟩
  | .hbm, ⟨32, _⟩ => ⟨S_, .f32⟩
  | .hbm, ⟨33, _⟩ => ⟨S9216x512, .f32⟩
  | .hbm, ⟨34, _⟩ => ⟨S9216x512, .f32⟩
  | .hbm, ⟨35, _⟩ => ⟨S_, .f32⟩
  | .hbm, ⟨36, _⟩ => ⟨S9216x512, .f32⟩
  | .hbm, ⟨37, _⟩ => ⟨S9216x512, .f32⟩
  | .hbm, ⟨38, _⟩ => ⟨S9216x512, .f32⟩
  | .hbm, ⟨39, _⟩ => ⟨S9216x512, .bf16⟩
  | _, _ => ⟨S9216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.MergeGrad.lean ====
/- What the gradient of the gated merge leaves in its four result arrays.

   Grid point `t` holds rows `256 t … 256 t + 255` of the cotangent. The first point stores the transposed mixing
   weights in a scratch buffer, and every point multiplies its rows by that buffer, in two halves of 128 rows. -/
module

public import proofs.«01_k».proof.Proof.Gen.KernelIdeal.Frame
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeGrad

open Cert.KernelIdeal Cert.KernelIdeal.Gen

/-- The gate of branch `g` at row `r`, lane `q`: the logistic function of its logit. -/
def gate (L : FVec Ideal S9216x3072 .f32) (g : Fin 3) (r : Fin 9216) (q : Fin 1024) : EReal :=
  Ideal.div 1 (1 + Ideal.exp (-(L (ix2 r ⟨g.val * 1024 + q.val, by omega⟩))))

/-- The gradient of the merged activations at row `r`, lane `q`: row `r` of the cotangent times row `q` of the weights. -/
def dm (W : FVec Ideal S1024x1024 .bf16) (X : FVec Ideal S9216x1024 .bf16) (r : Fin 9216) (q : Fin 1024) : EReal :=
  ∑ k : Fin 1024, X (ix2 r k) * W (ix2 q k)

/-- The gradient of branch `g`'s activations. -/
def dY (L : FVec Ideal S9216x3072 .f32) (W : FVec Ideal S1024x1024 .bf16) (X : FVec Ideal S9216x1024 .bf16) (g : Fin 3) :
    FVec Ideal S9216x1024 .bf16 :=
  fun i => dm W X (i 0) (i 1) * gate L g (i 0) (i 1)

/-- The gradient of the gate logits; lane `1024 g + q` belongs to branch `g`. -/
def dL (L : FVec Ideal S9216x3072 .f32) (Y : FVec Ideal S3x9216x1024 .bf16) (W : FVec Ideal S1024x1024 .bf16)
    (X : FVec Ideal S9216x1024 .bf16) : FVec Ideal S9216x3072 .bf16 :=
  fun i =>
    have h : (i 1).val < 3072 := (i 1).isLt
    let g : Fin 3 := ⟨(i 1).val / 1024, by omega⟩
    let q : Fin 1024 := ⟨(i 1).val % 1024, by omega⟩
    dm W X (i 0) q * Y (ix3 g (i 0) q) * gate L g (i 0) q * (1 - gate L g (i 0) q)

variable (m : (ℓ : Loc nD τ sig) → Buf (Elt Ideal) ℓ)

/-- The gate logits. -/
abbrev argL (c : Dev nD) : FVec Ideal S9216x3072 .f32 := m ((c : Thread nD τ).loc main_arg0)
/-- The three branches' activations. -/
abbrev argY (c : Dev nD) : FVec Ideal S3x9216x1024 .bf16 := m ((c : Thread nD τ).loc main_arg1)
/-- The mixing weights. -/
abbrev argW (c : Dev nD) : FVec Ideal S1024x1024 .bf16 := m ((c : Thread nD τ).loc main_arg2)
/-- The cotangent. -/
abbrev argX (c : Dev nD) : FVec Ideal S9216x1024 .bf16 := m ((c : Thread nD τ).loc main_arg3)

/-- Where each window's block sits at grid point `t`. -/
theorem idx : ∀ t : Fin cfg0.N, win0_0.index t = ![t.val, 0] ∧ win0_1.index t = ![0, 0]
    ∧ win0_2.index t = ![0, t.val, 0] ∧ win0_3.index t = ![0, t.val, 0]
    ∧ win0_4.index t = ![t.val, 0] ∧ win0_5.index t = ![t.val, 0] ∧ win0_6.index t = ![t.val, 0]
    ∧ win0_7.index t = ![t.val, 0] :=
  (by decide +kernel : ∀ t : Fin grid0.N, _)

/-- The host prepares the gates, branch by branch. -/
theorem gates_at (c : Dev nD) (g : Fin 3) (r : Fin 9216) (q : Fin 1024) :
    (show FVec Ideal S3x9216x1024 .bf16 from V m c (Pipeline.arrRef spec0 2)) (ix3 g r q) = gate (argL m c) g r q := by
  entry_read
  pointwise [gate]

theorem blkX (c : Dev nD) (t : Fin cfg0.N) (r : Fin 256) (k : Fin 1024) (R : Fin 9216) (hR : R.val = t.val * 256 + r.val) :
    (show FVec Ideal S256x1024 .bf16 from iblk m c 0 t) (ix2 r k) = argX m c (ix2 R k) := by
  blk_ext [iblk, V, idx t]

theorem blkY (c : Dev nD) (t : Fin cfg0.N) (g : Fin 3) (r : Fin 256) (q : Fin 1024) (R : Fin 9216)
    (hR : R.val = t.val * 256 + r.val) :
    (show FVec Ideal S3x256x1024 .bf16 from iblk m c 3 t) (ix3 g r q) = argY m c (ix3 g R q) := by
  blk_ext [iblk, V, idx t]

theorem blkG (c : Dev nD) (t : Fin cfg0.N) (g : Fin 3) (r : Fin 256) (q : Fin 1024) (R : Fin 9216)
    (hR : R.val = t.val * 256 + r.val) :
    (show FVec Ideal S3x256x1024 .bf16 from iblk m c 2 t) (ix3 g r q) = gate (argL m c) g R q := by
  refine Eq.trans ?_ (gates_at m c g R q)
  blk_ext [iblk, idx t]

/-- The transposed weights, as the first point stores them. -/
theorem wt_at (c : Dev nD) (t : Fin cfg0.N) (i j : Fin 1024) :
    k0_pay2 (F := Ideal) (iblk m c 1 t) (ix2 i j) = argW m c (ix2 j i) := by
  pointwise [k0_pay2]
  blk_point [iblk, V, idx t]

/-- After every point the scratch buffer holds the transposed weights. -/
theorem scratch_at (c : Dev nD) : ∀ (n : ℕ) (hn : n < cfg0.N) (i j : Fin 1024),
    (outsAt0 m c n hn).2.2.2.2 (ix2 i j) = argW m c (ix2 j i) := by
  intro n
  induction n with
  | zero =>
    intro hn i j
    rw [outsAt0_A m c ⟨0, hn⟩ (Nat.zero_mod _)]
    frame_out
    exact wt_at m c ⟨0, hn⟩ i j
  | succ n ih =>
    intro hn i j
    have hN := lt_of_lt_of_eq hn N_0
    rw [outsAt0_B m c ⟨n + 1, hn⟩ (by show ¬ (n + 1) % 36 = 0; omega)]
    unfold sout0_B_0
    exact ih (Nat.lt_of_succ_lt hn) i j

/-- A branch gradient read at an index given by its coordinates. -/
theorem dY_at {L : FVec Ideal S9216x3072 .f32} {W : FVec Ideal S1024x1024 .bf16} {X : FVec Ideal S9216x1024 .bf16} {g : Fin 3}
    {i : S9216x1024.Idx} {R : Fin 9216} {q : Fin 1024} (h0 : (i 0).val = R.val) (h1 : (i 1).val = q.val) :
    dm W X R q * gate L g R q = dY L W X g i := by
  have e0 : R = i 0 := Fin.ext h0.symm
  have e1 : q = i 1 := Fin.ext h1.symm
  subst e0 e1
  rfl

/-- The logits' gradient read at an index given by its coordinates. -/
theorem dL_at {L : FVec Ideal S9216x3072 .f32} {Y : FVec Ideal S3x9216x1024 .bf16} {W : FVec Ideal S1024x1024 .bf16}
    {X : FVec Ideal S9216x1024 .bf16} {i : S9216x3072.Idx} {g : Fin 3} {R : Fin 9216} {q : Fin 1024}
    (h0 : (i 0).val = R.val) (h1 : (i 1).val = g.val * 1024 + q.val) :
    dm W X R q * Y (ix3 g R q) * gate L g R q * (1 - gate L g R q) = dL L Y W X i := by
  have e0 : R = i 0 := Fin.ext h0.symm
  subst e0
  have hg : (⟨(i 1).val / 1024, by omega⟩ : Fin 3) = g := Fin.ext (by show (i 1).val / 1024 = g.val; omega)
  have hq : (⟨(i 1).val % 1024, by omega⟩ : Fin 1024) = q := Fin.ext (by show (i 1).val % 1024 = q.val; omega)
  simp only [dL, hg, hq]

/-- One stored entry of a branch gradient, over any block contents that read as the arrays do. -/
theorem dY_entry {L : FVec Ideal S9216x3072 .f32} {W : FVec Ideal S1024x1024 .bf16} {X : FVec Ideal S9216x1024 .bf16}
    (T : ℕ) (A : FVec Ideal S256x1024 .bf16) (S : FVec Ideal S1024x1024 .bf16) (B : FVec Ideal S3x256x1024 .bf16)
    (hA : ∀ (r : Fin 256) (k : Fin 1024) (R : Fin 9216), R.val = T * 256 + r.val → A (ix2 r k) = X (ix2 R k))
    (hS : ∀ i j : Fin 1024, S (ix2 i j) = W (ix2 j i))
    (hB : ∀ (g : Fin 3) (r : Fin 256) (q : Fin 1024) (R : Fin 9216), R.val = T * 256 + r.val → B (ix3 g r q) = gate L g R q)
    (g : Fin 3) (r : Fin 256) (q : Fin 1024) (i : S9216x1024.Idx) (h0 : (i 0).val = T * 256 + r.val) (h1 : (i 1).val = q.val) :
    (∑ k : Fin 1024, A (ix2 r k) * S (ix2 k q)) * B (ix3 g r q) = dY L W X g i := by
  have e1 : q = i 1 := Fin.ext h1.symm
  subst e1
  rw [hB g r (i 1) (i 0) h0]
  refine congrArg (· * _) (Finset.sum_congr rfl fun k _ => ?_)
  exact Ideal.mul_congr (hA r k (i 0) h0) (hS k _)

/-- One stored entry of the logits' gradient. -/
theorem dL_entry {L : FVec Ideal S9216x3072 .f32} {Y : FVec Ideal S3x9216x1024 .bf16} {W : FVec Ideal S1024x1024 .bf16}
    {X : FVec Ideal S9216x1024 .bf16}
    (T : ℕ) (A : FVec Ideal S256x1024 .bf16) (S : FVec Ideal S1024x1024 .bf16) (B C : FVec Ideal S3x256x1024 .bf16)
    (hA : ∀ (r : Fin 256) (k : Fin 1024) (R : Fin 9216), R.val = T * 256 + r.val → A (ix2 r k) = X (ix2 R k))
    (hS : ∀ i j : Fin 1024, S (ix2 i j) = W (ix2 j i))
    (hB : ∀ (g : Fin 3) (r : Fin 256) (q : Fin 1024) (R : Fin 9216), R.val = T * 256 + r.val → B (ix3 g r q) = gate L g R q)
    (hC : ∀ (g : Fin 3) (r : Fin 256) (q : Fin 1024) (R : Fin 9216), R.val = T * 256 + r.val → C (ix3 g r q) = Y (ix3 g R q))
    (g : Fin 3) (r : Fin 256) (q : Fin 1024) (i : S9216x3072.Idx) (h0 : (i 0).val = T * 256 + r.val)
    (h1 : (i 1).val = g.val * 1024 + q.val) :
    (∑ k : Fin 1024, A (ix2 r k) * S (ix2 k q)) * C (ix3 g r q) * B (ix3 g r q) * (1 - B (ix3 g r q)) = dL L Y W X i := by
  rw [hB g r q (i 0) h0, hC g r q (i 0) h0, ← dL_at (i := i) (R := i 0) rfl h1]
  refine congrArg (· * _ * _ * _) (Finset.sum_congr rfl fun k _ => ?_)
  exact Ideal.mul_congr (hA r k (i 0) h0) (hS k _)

/-- Branch 0's gradient, as the run leaves it. -/
theorem final4 (c : Dev nD) : (dats m 0 c).arrAt 4 (cfgs 0).N = dY (argL m c) (argW m c) (argX m c) 0 := by
  refine (dats m 0 c).arrAt_eq_of_covers 4 _ (by decide +kernel) fun t _ y => ?_
  blk_simp
  rw [after0_4]
  by_cases h : t.val % 36 = 0
  · rw [outsAt0_A m c t h]
    frame_out
    have hS := wt_at m c t
    generalize k0_pay2 (F := Ideal) (iblk m c 1 t) = S at hS ⊢
    canon_tiles x hx
    · idx_vars x
      pointwise [k0_pay15, k0_pay13, k0_pay14]
      exact dY_entry t.val (iblk m c 0 t) S (iblk m c 2 t) (blkX m c t) hS (blkG m c t) 0 ⟨128 + x0.val, by omega⟩ x1 _
        (by blk_simp [idx t]; dsimp only; omega) (by blk_simp [idx t]; omega)
    · idx_vars x
      pointwise [k0_pay5, k0_pay3, k0_pay4]
      exact dY_entry t.val (iblk m c 0 t) S (iblk m c 2 t) (blkX m c t) hS (blkG m c t) 0 ⟨x0.val, by omega⟩ x1 _
        (by blk_simp [idx t]; dsimp only; omega) (by blk_simp [idx t]; omega)
  · rw [outsAt0_B m c t h]
    frame_out
    have hS := scratch_at m c (t.val - 1) (lt_of_le_of_lt (Nat.sub_le _ _) t.isLt)
    generalize (outsAt0 m c (t.val - 1) _).2.2.2.2 = S at hS ⊢
    simp only [read_unread_whole]
    canon_tiles x hx
    · idx_vars x
      pointwise [k0_pay15, k0_pay13, k0_pay14]
      exact dY_entry t.val (iblk m c 0 t) S (iblk m c 2 t) (blkX m c t) hS (blkG m c t) 0 ⟨128 + x0.val, by omega⟩ x1 _
        (by blk_simp [idx t]; dsimp only; omega) (by blk_simp [idx t]; omega)
    · idx_vars x
      pointwise [k0_pay5, k0_pay3, k0_pay4]
      exact dY_entry t.val (iblk m c 0 t) S (iblk m c 2 t) (blkX m c t) hS (blkG m c t) 0 ⟨x0.val, by omega⟩ x1 _
        (by blk_simp [idx t]; dsimp only; omega) (by blk_simp [idx t]; omega)

/-- Branch 1's gradient, as the run leaves it. -/
theorem final5 (c : Dev nD) : (dats m 0 c).arrAt 5 (cfgs 0).N = dY (argL m c) (argW m c) (argX m c) 1 := by
  refine (dats m 0 c).arrAt_eq_of_covers 5 _ (by decide +kernel) fun t _ y => ?_
  blk_simp
  rw [after0_5]
  by_cases h : t.val % 36 = 0
  · rw [outsAt0_A m c t h]
    frame_out
    have hS := wt_at m c t
    generalize k0_pay2 (F := Ideal) (iblk m c 1 t) = S at hS ⊢
    canon_tiles x hx
    · idx_vars x
      pointwise [k0_pay18, k0_pay13, k0_pay17]
      exact dY_entry t.val (iblk m c 0 t) S (iblk m c 2 t) (blkX m c t) hS (blkG m c t) 1 ⟨128 + x0.val, by omega⟩ x1 _
        (by blk_simp [idx t]; dsimp only; omega) (by blk_simp [idx t]; omega)
    · idx_vars x
      pointwise [k0_pay8, k0_pay3, k0_pay7]
      exact dY_entry t.val (iblk m c 0 t) S (iblk m c 2 t) (blkX m c t) hS (blkG m c t) 1 ⟨x0.val, by omega⟩ x1 _
        (by blk_simp [idx t]; dsimp only; omega) (by blk_simp [idx t]; omega)
  · rw [outsAt0_B m c t h]
    frame_out
    have hS := scratch_at m c (t.val - 1) (lt_of_le_of_lt (Nat.sub_le _ _) t.isLt)
    generalize (outsAt0 m c (t.val - 1) _).2.2.2.2 = S at hS ⊢
    simp only [read_unread_whole]
    canon_tiles x hx
    · idx_vars x
      pointwise [k0_pay18, k0_pay13, k0_pay17]
      exact dY_entry t.val (iblk m c 0 t) S (iblk m c 2 t) (blkX m c t) hS (blkG m c t) 1 ⟨128 + x0.val, by omega⟩ x1 _
        (by blk_simp [idx t]; dsimp only; omega) (by blk_simp [idx t]; omega)
    · idx_vars x
      pointwise [k0_pay8, k0_pay3, k0_pay7]
      exact dY_entry t.val (iblk m c 0 t) S (iblk m c 2 t) (blkX m c t) hS (blkG m c t) 1 ⟨x0.val, by omega⟩ x1 _
        (by blk_simp [idx t]; dsimp only; omega) (by blk_simp [idx t]; omega)

/-- Branch 2's gradient, as the run leaves it. -/
theorem final6 (c : Dev nD) : (dats m 0 c).arrAt 6 (cfgs 0).N = dY (argL m c) (argW m c) (argX m c) 2 := by
  refine (dats m 0 c).arrAt_eq_of_covers 6 _ (by decide +kernel) fun t _ y => ?_
  blk_simp
  rw [after0_6]
  by_cases h : t.val % 36 = 0
  · rw [outsAt0_A m c t h]
    frame_out
    have hS := wt_at m c t
    generalize k0_pay2 (F := Ideal) (iblk m c 1 t) = S at hS ⊢
    canon_tiles x hx
    · idx_vars x
      pointwise [k0_pay21, k0_pay13, k0_pay20]
      exact dY_entry t.val (iblk m c 0 t) S (iblk m c 2 t) (blkX m c t) hS (blkG m c t) 2 ⟨128 + x0.val, by omega⟩ x1 _
        (by blk_simp [idx t]; dsimp only; omega) (by blk_simp [idx t]; omega)
    · idx_vars x
      pointwise [k0_pay11, k0_pay3, k0_pay10]
      exact dY_entry t.val (iblk m c 0 t) S (iblk m c 2 t) (blkX m c t) hS (blkG m c t) 2 ⟨x0.val, by omega⟩ x1 _
        (by blk_simp [idx t]; dsimp only; omega) (by blk_simp [idx t]; omega)
  · rw [outsAt0_B m c t h]
    frame_out
    have hS := scratch_at m c (t.val - 1) (lt_of_le_of_lt (Nat.sub_le _ _) t.isLt)
    generalize (outsAt0 m c (t.val - 1) _).2.2.2.2 = S at hS ⊢
    simp only [read_unread_whole]
    canon_tiles x hx
    · idx_vars x
      pointwise [k0_pay21, k0_pay13, k0_pay20]
      exact dY_entry t.val (iblk m c 0 t) S (iblk m c 2 t) (blkX m c t) hS (blkG m c t) 2 ⟨128 + x0.val, by omega⟩ x1 _
        (by blk_simp [idx t]; dsimp only; omega) (by blk_simp [idx t]; omega)
    · idx_vars x
      pointwise [k0_pay11, k0_pay3, k0_pay10]
      exact dY_entry t.val (iblk m c 0 t) S (iblk m c 2 t) (blkX m c t) hS (blkG m c t) 2 ⟨x0.val, by omega⟩ x1 _
        (by blk_simp [idx t]; dsimp only; omega) (by blk_simp [idx t]; omega)

set_option maxHeartbeats 1600000 in
/-- The logits' gradient, as the run leaves it. -/
theorem final7 (c : Dev nD) : (dats m 0 c).arrAt 7 (cfgs 0).N = dL (argL m c) (argY m c) (argW m c) (argX m c) := by
  refine (dats m 0 c).arrAt_eq_of_covers 7 _ (by decide +kernel) fun t _ y => ?_
  blk_simp
  rw [after0_7]
  by_cases h : t.val % 36 = 0
  · rw [outsAt0_A m c t h]
    frame_out
    have hS := wt_at m c t
    generalize k0_pay2 (F := Ideal) (iblk m c 1 t) = S at hS ⊢
    canon_tiles x hx
    · idx_vars x
      pointwise [k0_pay1, k0_pay13, k0_pay20]
      exact dL_entry t.val (iblk m c 0 t) S (iblk m c 2 t) (iblk m c 3 t) (blkX m c t) hS (blkG m c t) (blkY m c t) 2 ⟨128 + x0.val, by omega⟩ x1 _
        (by blk_simp [idx t]; dsimp only; omega) (by blk_simp [idx t]; omega)
    · idx_vars x
      pointwise [k0_pay19, k0_pay13, k0_pay17]
      exact dL_entry t.val (iblk m c 0 t) S (iblk m c 2 t) (iblk m c 3 t) (blkX m c t) hS (blkG m c t) (blkY m c t) 1 ⟨128 + x0.val, by omega⟩ x1 _
        (by blk_simp [idx t]; dsimp only; omega) (by blk_simp [idx t]; omega)
    · idx_vars x
      pointwise [k0_pay16, k0_pay13, k0_pay14]
      exact dL_entry t.val (iblk m c 0 t) S (iblk m c 2 t) (iblk m c 3 t) (blkX m c t) hS (blkG m c t) (blkY m c t) 0 ⟨128 + x0.val, by omega⟩ x1 _
        (by blk_simp [idx t]; dsimp only; omega) (by blk_simp [idx t]; omega)
    · idx_vars x
      pointwise [k0_pay12, k0_pay3, k0_pay10]
      exact dL_entry t.val (iblk m c 0 t) S (iblk m c 2 t) (iblk m c 3 t) (blkX m c t) hS (blkG m c t) (blkY m c t) 2 ⟨x0.val, by omega⟩ x1 _
        (by blk_simp [idx t]; dsimp only; omega) (by blk_simp [idx t]; omega)
    · idx_vars x
      pointwise [k0_pay9, k0_pay3, k0_pay7]
      exact dL_entry t.val (iblk m c 0 t) S (iblk m c 2 t) (iblk m c 3 t) (blkX m c t) hS (blkG m c t) (blkY m c t) 1 ⟨x0.val, by omega⟩ x1 _
        (by blk_simp [idx t]; dsimp only; omega) (by blk_simp [idx t]; omega)
    · idx_vars x
      pointwise [k0_pay6, k0_pay3, k0_pay4]
      exact dL_entry t.val (iblk m c 0 t) S (iblk m c 2 t) (iblk m c 3 t) (blkX m c t) hS (blkG m c t) (blkY m c t) 0 ⟨x0.val, by omega⟩ x1 _
        (by blk_simp [idx t]; dsimp only; omega) (by blk_simp [idx t]; omega)
  · rw [outsAt0_B m c t h]
    frame_out
    have hS := scratch_at m c (t.val - 1) (lt_of_le_of_lt (Nat.sub_le _ _) t.isLt)
    generalize (outsAt0 m c (t.val - 1) _).2.2.2.2 = S at hS ⊢
    simp only [read_unread_whole]
    canon_tiles x hx
    · idx_vars x
      pointwise [k0_pay1, k0_pay13, k0_pay20]
      exact dL_entry t.val (iblk m c 0 t) S (iblk m c 2 t) (iblk m c 3 t) (blkX m c t) hS (blkG m c t) (blkY m c t) 2 ⟨128 + x0.val, by omega⟩ x1 _
        (by blk_simp [idx t]; dsimp only; omega) (by blk_simp [idx t]; omega)
    · idx_vars x
      pointwise [k0_pay19, k0_pay13, k0_pay17]
      exact dL_entry t.val (iblk m c 0 t) S (iblk m c 2 t) (iblk m c 3 t) (blkX m c t) hS (blkG m c t) (blkY m c t) 1 ⟨128 + x0.val, by omega⟩ x1 _
        (by blk_simp [idx t]; dsimp only; omega) (by blk_simp [idx t]; omega)
    · idx_vars x
      pointwise [k0_pay16, k0_pay13, k0_pay14]
      exact dL_entry t.val (iblk m c 0 t) S (iblk m c 2 t) (iblk m c 3 t) (blkX m c t) hS (blkG m c t) (blkY m c t) 0 ⟨128 + x0.val, by omega⟩ x1 _
        (by blk_simp [idx t]; dsimp only; omega) (by blk_simp [idx t]; omega)
    · idx_vars x
      pointwise [k0_pay12, k0_pay3, k0_pay10]
      exact dL_entry t.val (iblk m c 0 t) S (iblk m c 2 t) (iblk m c 3 t) (blkX m c t) hS (blkG m c t) (blkY m c t) 2 ⟨x0.val, by omega⟩ x1 _
        (by blk_simp [idx t]; dsimp only; omega) (by blk_simp [idx t]; omega)
    · idx_vars x
      pointwise [k0_pay9, k0_pay3, k0_pay7]
      exact dL_entry t.val (iblk m c 0 t) S (iblk m c 2 t) (iblk m c 3 t) (blkX m c t) hS (blkG m c t) (blkY m c t) 1 ⟨x0.val, by omega⟩ x1 _
        (by blk_simp [idx t]; dsimp only; omega) (by blk_simp [idx t]; omega)
    · idx_vars x
      pointwise [k0_pay6, k0_pay3, k0_pay4]
      exact dL_entry t.val (iblk m c 0 t) S (iblk m c 2 t) (iblk m c 3 t) (blkX m c t) hS (blkG m c t) (blkY m c t) 0 ⟨x0.val, by omega⟩ x1 _
        (by blk_simp [idx t]; dsimp only; omega) (by blk_simp [idx t]; omega)

end Cert.MergeGrad
-- ==== Proof.MergeRef.lean ====
/- The reference's gradient of the gated merge, read entry by entry. -/
module

public import proofs.«01_k».proof.Proof.Gen.ReferenceIdeal.Read
public import proofs.«01_k».proof.Proof.MergeGrad

@[expose] public section

set_option maxRecDepth 16384

noncomputable section

open Idealize.ShloMosaic Idealize.ShloMosaic.TcCoe Idealize.SL.Sem

namespace Cert.MergeRef

open Cert.ReferenceIdeal Cert.ReferenceIdeal.Gen

variable (L : FVec Ideal S9216x3072 .f32) (Y : FVec Ideal S3x9216x1024 .bf16) (W : FVec Ideal S1024x1024 .bf16)
  (X : FVec Ideal S9216x1024 .bf16)

/-- The reference's gradient of the first branch. -/
theorem ref50 : Read.val_main_v50 (F := Ideal) L W X = MergeGrad.dY L W X 0 := by
  rw [← Read.val_main_v50_eq]
  funext i
  idx_vars i
  pointwise [MergeGrad.dY, MergeGrad.dm, MergeGrad.gate]
  exact mul_comm _ _

/-- The reference's gradient of the second branch. -/
theorem ref51 : Read.val_main_v51 (F := Ideal) L W X = MergeGrad.dY L W X 1 := by
  rw [← Read.val_main_v51_eq]
  funext i
  idx_vars i
  pointwise [MergeGrad.dY, MergeGrad.dm, MergeGrad.gate]
  exact mul_comm _ _

/-- The reference's gradient of the third branch. -/
theorem ref52 : Read.val_main_v52 (F := Ideal) L W X = MergeGrad.dY L W X 2 := by
  rw [← Read.val_main_v52_eq]
  funext i
  idx_vars i
  pointwise [MergeGrad.dY, MergeGrad.dm, MergeGrad.gate]
  exact mul_comm _ _

/-- Of three guarded terms whose guards say which is meant, the sum is the one meant. -/
theorem pick (f : Fin 3 → EReal) (n : ℕ) (hn : n < 3) {p q r : Prop} [Decidable p] [Decidable q] [Decidable r]
    (hp : p ↔ n = 2) (hq : q ↔ n = 1) (hr : r ↔ n = 0) :
    (((if _h : p then f 2 else 0) + if _h : q then f 1 else 0) + if _h : r then f 0 else 0) = f ⟨n, hn⟩ := by
  have hc : n = 0 ∨ n = 1 ∨ n = 2 := by omega
  rcases hc with h | h | h
  · subst h
    rw [dif_neg (by rw [hp]; omega), dif_neg (by rw [hq]; omega), dif_pos (hr.2 rfl), zero_add, zero_add]
    rfl
  · subst h
    rw [dif_neg (by rw [hp]; omega), dif_pos (hq.2 rfl), dif_neg (by rw [hr]; omega), zero_add, add_zero]
    rfl
  · subst h
    rw [dif_pos (hp.2 rfl), dif_neg (by rw [hq]; omega), dif_neg (by rw [hr]; omega), add_zero, add_zero]
    rfl

/-- The reference's gradient of the gate logits: three padded pieces, of which one is nonzero at each lane. -/
theorem ref53 : Read.val_main_v53 (F := Ideal) L Y W X = MergeGrad.dL L Y W X := by
  rw [← Read.val_main_v53_eq]
  funext i
  idx_vars i
  pointwise [MergeGrad.dL, MergeGrad.dm, MergeGrad.gate]
  have hq : i1.val % 1024 < 1024 := Nat.mod_lt _ (by decide)
  have hm : (⟨i1.val / 1024 * 1024 + i1.val % 1024, by omega⟩ : Fin 3072) = i1 :=
    Fin.ext (by show i1.val / 1024 * 1024 + i1.val % 1024 = i1.val; omega)
  simp only [hm]
  refine (congrArg (· * _) (pick (fun g => (∑ k : Fin 1024, X (ix2 i0 k) * W (ix2 ⟨i1.val % 1024, hq⟩ k))
    * Y (ix3 g i0 ⟨i1.val % 1024, hq⟩)) (i1.val / 1024) (by omega) (by omega) (by omega) (by omega))).trans ?_
  exact (mul_assoc _ _ _).symm

end Cert.MergeRef
-- ==== Proof.Softmax.lean ====
/- A row of softmax and its gradient on the extended reals, for scores that are real numbers. -/
module

public import Idealize.ShloMosaic.Lib.Pipeline.ValueKit
public import Idealize.ShloMosaic.Lib.Claim

@[expose] public section

noncomputable section

open Idealize.ShloMosaic

namespace Attn

/-- The largest score of a row. -/
def top {N : ℕ} (s : Fin N → EReal) : EReal := Finset.univ.fold max ⊥ s

/-- The exponential of a score, taken relative to the largest one. -/
def ex {N : ℕ} (s : Fin N → EReal) (k : Fin N) : EReal := Ideal.exp (s k - top s)

/-- The sum of a row's exponentials. -/
def tot {N : ℕ} (s : Fin N → EReal) : EReal := ∑ k, ex s k

/-- The softmax of a row. -/
def soft {N : ℕ} (s : Fin N → EReal) (k : Fin N) : EReal := Ideal.div (ex s k) (tot s)

/-- The gradient of a row of scores, from the gradient `g` of the row's softmax. -/
def softGrad {N : ℕ} (s g : Fin N → EReal) (k : Fin N) : EReal := soft s k * (g k - ∑ j, soft s j * g j)

/-- Every value of a function is a real number. -/
def Re {α : Type*} (f : α → EReal) : Prop := ∃ r : α → ℝ, f = fun a => ((r a : ℝ) : EReal)

theorem Re.of_forall {α : Type*} {f : α → EReal} (h : ∀ a, f a ≠ ⊥ ∧ f a ≠ ⊤) : Re f :=
  ⟨fun a => (f a).toReal, funext fun a => (EReal.coe_toReal (h a).2 (h a).1).symm⟩

theorem Re.comp {α β : Type*} {f : α → EReal} (h : Re f) (g : β → α) : Re fun b => f (g b) := by
  obtain ⟨r, rfl⟩ := h
  exact ⟨fun b => r (g b), rfl⟩

theorem coe_sum {α : Type*} (t : Finset α) (f : α → ℝ) : (∑ a ∈ t, ((f a : ℝ) : EReal)) = ((∑ a ∈ t, f a : ℝ) : EReal) :=
  (map_sum (⟨⟨Real.toEReal, EReal.coe_zero⟩, EReal.coe_add⟩ : ℝ →+ EReal) f t).symm

/-- Sums of products of real numbers are real numbers. -/
theorem Re.dot {α : Type*} {n : ℕ} {f : Fin n → EReal} {g : α → Fin n → EReal} (hf : Re f) (hg : Re fun p : α × Fin n => g p.1 p.2) :
    Re fun a => ∑ d, f d * g a d := by
  obtain ⟨r, rfl⟩ := hf
  obtain ⟨t, ht⟩ := hg
  refine ⟨fun a => ∑ d, r d * t (a, d), funext fun a => ?_⟩
  rw [← coe_sum]
  refine Finset.sum_congr rfl fun d _ => ?_
  rw [EReal.coe_mul, ← congrFun ht (a, d)]

theorem top_real {N : ℕ} (hN : 0 < N) (s : Fin N → ℝ) : ∃ m : ℝ, top (fun k => ((s k : ℝ) : EReal)) = (m : EReal) := by
  have h1 : top (fun k => ((s k : ℝ) : EReal)) ≠ ⊤ := by
    refine ne_of_lt ?_
    unfold top
    rw [Finset.fold_max_lt]
    exact ⟨bot_lt_top, fun k _ => EReal.coe_lt_top _⟩
  have h2 : top (fun k => ((s k : ℝ) : EReal)) ≠ ⊥ := by
    refine (lt_of_lt_of_le (EReal.bot_lt_coe (s ⟨0, hN⟩)) ?_).ne'
    unfold top
    exact (Finset.le_fold_max _).2 (Or.inr ⟨⟨0, hN⟩, Finset.mem_univ _, le_rfl⟩)
  exact ⟨_, (EReal.coe_toReal h1 h2).symm⟩

/-- The exponentials of a row of real scores are real and positive, and so is their sum. -/
theorem ex_real {N : ℕ} (hN : 0 < N) {s : Fin N → EReal} (hs : Re s) :
    ∃ e : Fin N → ℝ, ex s = (fun k => ((e k : ℝ) : EReal)) ∧ tot s = ((∑ k, e k : ℝ) : EReal) ∧ 0 < ∑ k, e k := by
  obtain ⟨r, rfl⟩ := hs
  obtain ⟨m, hm⟩ := top_real hN r
  have he : ex (fun k => ((r k : ℝ) : EReal)) = fun k => ((Real.exp (r k - m) : ℝ) : EReal) := by
    funext k
    unfold ex
    rw [hm, ← EReal.coe_sub, Ideal.exp_coe]
  refine ⟨fun k => Real.exp (r k - m), he, ?_, ?_⟩
  · unfold tot
    rw [he, coe_sum]
  · exact Finset.sum_pos (fun k _ => Real.exp_pos _) ⟨⟨0, hN⟩, Finset.mem_univ _⟩

/-- The softmax of real scores, as a product with the reciprocal of the sum. -/
theorem soft_mul {N : ℕ} (hN : 0 < N) {s : Fin N → EReal} (hs : Re s) (k : Fin N) :
    ex s k * Ideal.div 1 (tot s) = soft s k := by
  obtain ⟨e, he, ht, hp⟩ := ex_real hN hs
  unfold soft
  rw [ht, Ideal.div_coe hp.ne', Ideal.div_coe hp.ne', one_mul]

theorem soft_re {N : ℕ} (hN : 0 < N) {s : Fin N → EReal} (hs : Re s) : Re (soft s) := by
  obtain ⟨e, he, ht, hp⟩ := ex_real hN hs
  refine ⟨fun k => e k * (1 / ∑ j, e j), funext fun k => ?_⟩
  unfold soft
  rw [ht, Ideal.div_coe hp.ne', he, ← EReal.coe_mul]

/-- The gradient of a row of scores as differentiating the quotient writes it. -/
theorem softGrad_quot {N : ℕ} (hN : 0 < N) {s g : Fin N → EReal} (hs : Re s) (hg : Re g) (k : Fin N) :
    (Ideal.div (g k) (tot s) + -∑ j, g j * Ideal.div 1 (tot s * tot s) * ex s j) * ex s k = softGrad s g k := by
  obtain ⟨e, he, ht, hp⟩ := ex_real hN hs
  obtain ⟨r, rfl⟩ := hg
  have hp2 : (∑ j, e j) * ∑ j, e j ≠ 0 := mul_ne_zero hp.ne' hp.ne'
  unfold softGrad soft
  rw [ht, ← EReal.coe_mul, he]
  simp only [Ideal.div_coe hp.ne', Ideal.div_coe hp2, one_mul, ← EReal.coe_mul, coe_sum, ← EReal.coe_neg, ← EReal.coe_add,
    ← EReal.coe_sub, EReal.coe_eq_coe_iff]
  generalize hZ : ∑ j, e j = Z at hp
  have h1 : ∑ j, r j * (1 / (Z * Z)) * e j = (1 / (Z * Z)) * ∑ j, e j * r j := by
    rw [Finset.mul_sum]; exact Finset.sum_congr rfl fun j _ => by ring
  have h2 : ∑ j, e j * (1 / Z) * r j = (1 / Z) * ∑ j, e j * r j := by
    rw [Finset.mul_sum]; exact Finset.sum_congr rfl fun j _ => by ring
  rw [h1, h2]
  field_simp
  ring

/-- The inner product of a gradient with the averaged rows is the average of its inner products with the rows. -/
theorem dot_mean {N n : ℕ} (hN : 0 < N) {s : Fin N → EReal} (hs : Re s) {c : Fin n → EReal} (hc : Re c) {v : Fin N → Fin n → EReal}
    (hv : Re fun p : Fin N × Fin n => v p.1 p.2) :
    ∑ d, c d * ∑ k, soft s k * v k d = ∑ k, soft s k * ∑ d, c d * v k d := by
  obtain ⟨p, hp⟩ := soft_re hN hs
  obtain ⟨r, rfl⟩ := hc
  obtain ⟨w, hw⟩ := hv
  have hw' : ∀ k d, v k d = ((w (k, d) : ℝ) : EReal) := fun k d => congrFun hw (k, d)
  rw [hp]
  simp only [hw', ← EReal.coe_mul, coe_sum, EReal.coe_eq_coe_iff]
  simp only [Finset.mul_sum]
  rw [Finset.sum_comm]
  exact Finset.sum_congr rfl fun k _ => Finset.sum_congr rfl fun d _ => by ring

end Attn

end

end
-- ==== Proof.AttnBlock.lean ====
/- What one head of one block of queries gives: the masked stacks of the two heads that share a key, the softmax of
   their scores, and the gradients of the scores, the queries, the keys and the values. -/
module

public import proofs.«01_k».proof.Proof.Gen.Kernel2Ideal.Skeleton
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.AttnGrad

open Cert.Kernel2Ideal Cert.Kernel2Ideal.Gen Attn

/-- Row `r` of half `c` of a stack of two blocks of 256 rows. -/
def hrow (c : Fin 2) (r : Fin 256) : Fin 512 := ⟨c.val * 256 + r.val, by omega⟩

/-- Entry `d` of half `c` of 128 lanes. -/
def lane (c : Fin 2) (d : Fin 64) : Fin 128 := ⟨c.val * 64 + d.val, by omega⟩

/-- Which half of 128 lanes a lane lies in. -/
def half (l : Fin 128) : Fin 2 := ⟨l.val / 64, by omega⟩

theorem low_lane : ∀ l : Fin 128, IntOp.cmpi CmpIPredicate.slt (BitVec.ofNat 32 l.val) 64#32 = if l.val < 64 then 1#1 else 0#1 := by
  decide +kernel

theorem dite_same {P : Prop} [Decidable P] {a : P → EReal} {b : ¬P → EReal} {x : EReal} (h : ∀ p, a p = x) (h' : ∀ p, b p = x) :
    dite P a b = x := by
  by_cases p : P
  · rw [dif_pos p, h]
  · rw [dif_neg p, h']

theorem half_low {l : Fin 128} (h : l.val < 64) : half l = 0 := Fin.ext (by show l.val / 64 = 0; omega)

theorem half_high {l : Fin 128} (h : ¬l.val < 64) : half l = 1 := Fin.ext (by show l.val / 64 = 1; omega)

theorem select_low (x : EReal) (l : Fin 128) :
    Scalar.select (IntOp.cmpi CmpIPredicate.slt (BitVec.ofNat 32 l.val) 64#32) x 0 = if half l = 0 then x else 0 := by
  rw [low_lane]
  by_cases h : l.val < 64
  · rw [if_pos h, half_low h]; rfl
  · rw [if_neg h, half_high h]; rfl

theorem select_high (x : EReal) (l : Fin 128) :
    Scalar.select (IntOp.xori (IntOp.cmpi CmpIPredicate.slt (BitVec.ofNat 32 l.val) 64#32) 1#1) x 0 = if half l = 1 then x else 0 := by
  rw [low_lane]
  by_cases h : l.val < 64
  · rw [if_pos h, half_low h]; rfl
  · rw [if_neg h, half_high h]; rfl

/-- A stack of two copies of a block, the first kept on the low half of the lanes and the second on the high half. -/
theorem stack_at (A : FVec Ideal S256x128 .bf16) (c : Fin 2) (r : Fin 256) (l : Fin 128) :
    k0_pay13 (F := Ideal) k0_pay1 k0_pay2 A (ix2 (hrow c r) l) = if half l = c then A (ix2 r l) else 0 := by
  pointwise [k0_pay13, k0_pay2, k0_pay1, hrow]
  refine dite_same (fun p => ?_) fun p => ?_
  · have hc : c = 0 := Fin.ext (by show c.val = 0; omega)
    subst hc
    refine (select_low _ l).trans ?_
    have e : ∀ q, (ix2 (⟨(0 : Fin 2).val * 256 + r.val, q⟩ : Fin 256) l : S256x128.Idx) = ix2 r l := fun q => by
      congr 1; exact Fin.ext (by show 0 * 256 + r.val = r.val; omega)
    exact if_congr Iff.rfl (congrArg A (e _)) rfl
  · have hc : c = 1 := Fin.ext (by show c.val = 1; omega)
    subst hc
    refine (select_high _ l).trans ?_
    have e : ∀ q, (ix2 (⟨(1 : Fin 2).val * 256 + r.val - 256, q⟩ : Fin 256) l : S256x128.Idx) = ix2 r l := fun q => by
      congr 1; exact Fin.ext (by show 1 * 256 + r.val - 256 = r.val; omega)
    exact if_congr Iff.rfl (congrArg A (e _)) rfl

/-- A sum over the lanes against a block kept on one half of them is a sum over that half. -/
theorem sum_lanes (c : Fin 2) (f g : Fin 128 → EReal) :
    ∑ l : Fin 128, (if half l = c then f l else 0) * g l = ∑ d : Fin 64, f (lane c d) * g (lane c d) := by
  rw [Fin.sum_univ_tiles 2 64 rfl, Fin.sum_univ_two]
  have key : ∀ (j : Fin 2) (t : Fin 64) (p), half ⟨j.val * 64 + t.val, p⟩ = j := fun j t p => Fin.ext (by show (j.val * 64 + t.val) / 64 = j.val; omega)
  simp only [key]
  have hc : c = 0 ∨ c = 1 := by omega
  rcases hc with rfl | rfl <;> simp [lane]

/-- A sum over the stacked rows against a stack keeps the rows of the lane's half. -/
theorem sum_stack (A : FVec Ideal S256x128 .bf16) (f : Fin 512 → EReal) (l : Fin 128) :
    ∑ i : Fin 512, f i * k0_pay13 (F := Ideal) k0_pay1 k0_pay2 A (ix2 i l) = ∑ r : Fin 256, f (hrow (half l) r) * A (ix2 r l) := by
  rw [Fin.sum_univ_tiles 2 256 rfl, Fin.sum_univ_two]
  have e : ∀ (j : Fin 2) (r : Fin 256) (p), (⟨j.val * 256 + r.val, p⟩ : Fin 512) = hrow j r := fun j r p => rfl
  simp only [e, stack_at]
  have hc : half l = 0 ∨ half l = 1 := by omega
  rcases hc with h | h <;> simp [h]

/-- The scores of row `r` of a block of queries against the keys, on the lanes of half `c`. -/
def bs {N : ℕ} (A : FVec Ideal S256x128 .bf16) (B : FVec Ideal ⟨2, ![N, 128]⟩ .bf16) (c : Fin 2) (r : Fin 256) : Fin N → EReal :=
  fun k => ∑ d : Fin 64, A (ix2 r (lane c d)) * B (ix2 k (lane c d))

theorem neg_inf : Ideal.ofBits .f32 4286578688#32 = (⊥ : EReal) := by
  simp [Ideal.ofBits, Ideal.ieee]

/-- The inner product, over the lanes of half `c`, of row `r` of two blocks. -/
def rowdot (D O : FVec Ideal S256x128 .bf16) (c : Fin 2) (r : Fin 256) : EReal :=
  ∑ d : Fin 64, D (ix2 r (lane c d)) * O (ix2 r (lane c d))

/-- A block read through two copies of it laid one under the other. -/
theorem twice_at (O : FVec Ideal S256x128 .bf16) (c : Fin 2) (r : Fin 256) (x : Fin 128)
    (p : (hrow c r).val < 256 → (hrow c r).val < 256) (q : ¬(hrow c r).val < 256 → (hrow c r).val - 256 < 256) :
    (if h : (hrow c r).val < 256 then O (ix2 ⟨(hrow c r).val, p h⟩ x) else O (ix2 ⟨(hrow c r).val - 256, q h⟩ x)) = O (ix2 r x) := by
  refine dite_same (fun h => ?_) fun h => ?_ <;> refine congrArg O ?_ <;> congr 1 <;> refine Fin.ext ?_ <;>
    simp only [hrow] at h ⊢ <;> omega

theorem mask_at (r : Fin 256) (l : Fin 128) : k0_pay1 (ix2 r l) = if half l = 0 then 1#1 else 0#1 := by
  pointwise [k0_pay1]
  refine (low_lane l).trans ?_
  by_cases h : l.val < 64
  · rw [if_pos h, half_low h]; rfl
  · rw [if_neg h, half_high h]; rfl

/-- Choosing by the lane between the two halves of the stacked rows. -/
theorem pick_at (G : FVec Ideal S512x128 .f32) (r : Fin 256) (l : Fin 128) :
    k0_pay20 (F := Ideal) k0_pay1 G (ix2 r l) = G (ix2 (hrow (half l) r) l) := by
  generalize hm : k0_pay1 = M
  pointwise [k0_pay20]
  rw [← hm, mask_at]
  have hc : half l = 0 ∨ half l = 1 := by omega
  rcases hc with h | h <;> rw [h]
  · exact congrArg (fun i => G (ix2 i l)) (Fin.ext (by show r.val = 0 * 256 + r.val; omega))
  · rfl

/-- The weights of row `r` of half `c` on 256 keys. -/
theorem p_ctx (B : FVec Ideal S256x128 .bf16) (A : FVec Ideal S256x128 .bf16) (c : Fin 2) (r : Fin 256) (k : Fin 256) :
    k0_pay15 (F := Ideal) k0_pay1 k0_pay2 B A (ix2 (hrow c r) k) = ex (bs A B c r) k * Ideal.div 1 (tot (bs A B c r)) := by
  have e : k0_pay13 (F := Ideal) = k0_pay13 := rfl
  pointwise [k0_pay15, e, stack_at, sum_lanes]
  rw [neg_inf]
  rfl

/-- The scores' gradient as the call forms it: the weights times the weights' gradient less the row's inner product with the output. -/
theorem ds_ctx (B W : FVec Ideal S256x128 .bf16) (A D O : FVec Ideal S256x128 .bf16) (c : Fin 2) (r : Fin 256) (k : Fin 256) :
    k0_pay17 (F := Ideal) k0_pay1 k0_pay2 B W A D O (ix2 (hrow c r) k)
      = ex (bs A B c r) k * Ideal.div 1 (tot (bs A B c r)) * (bs D W c r k - rowdot D O c r) := by
  have e : k0_pay14 (F := Ideal) = k0_pay13 := rfl
  pointwise [k0_pay17, p_ctx, e, stack_at, sum_lanes]
  refine congrArg (fun z : EReal => ex (bs A B c r) k * Ideal.div 1 (tot (bs A B c r)) * (bs D W c r k - z)) ?_
  exact Finset.sum_congr rfl fun d _ => congrArg (fun z : EReal => D (ix2 r (lane c d)) * z) (twice_at O c r (lane c d) _ _)

theorem dv_ctx (B : FVec Ideal S256x128 .bf16) (A D : FVec Ideal S256x128 .bf16) (k : Fin 256) (l : Fin 128) :
    k0_pay16 (F := Ideal) k0_pay1 k0_pay2 B A D (ix2 k l)
      = ∑ r : Fin 256, ex (bs A B (half l) r) k * Ideal.div 1 (tot (bs A B (half l) r)) * D (ix2 r l) := by
  have e : k0_pay14 (F := Ideal) = k0_pay13 := rfl
  pointwise [k0_pay16, e]
  rw [sum_stack]
  simp only [p_ctx]

theorem dk_ctx (A : FVec Ideal S256x128 .bf16) (G : FVec Ideal S512x256 .bf16) (k : Fin 256) (l : Fin 128) :
    k0_pay19 (F := Ideal) (k0_pay13 k0_pay1 k0_pay2 A) G (ix2 k l) = ∑ r : Fin 256, G (ix2 (hrow (half l) r) k) * A (ix2 r l) := by
  pointwise [k0_pay19]
  exact sum_stack A _ l

theorem dq_ctx (B W : FVec Ideal S256x128 .bf16) (A D O : FVec Ideal S256x128 .bf16) (i : Fin 512) (l : Fin 128) :
    k0_pay18 (F := Ideal) k0_pay1 k0_pay2 B W A D O (ix2 i l)
      = ∑ k : Fin 256, k0_pay17 (F := Ideal) k0_pay1 k0_pay2 B W A D O (ix2 i k) * B (ix2 k l) := by
  generalize k0_pay1 = m1
  generalize k0_pay2 = m2
  pointwise [k0_pay18]

/-- The weights of row `r` of half `c` on 2304 keys. -/
theorem p_all (B : FVec Ideal S2304x128 .bf16) (A : FVec Ideal S256x128 .bf16) (c : Fin 2) (r : Fin 256) (k : Fin 2304) :
    k0_pay28 (F := Ideal) k0_pay1 k0_pay2 B A (ix2 (hrow c r) k) = ex (bs A B c r) k * Ideal.div 1 (tot (bs A B c r)) := by
  have e : k0_pay26 (F := Ideal) = k0_pay13 := rfl
  pointwise [k0_pay28, e, stack_at, sum_lanes]
  rw [neg_inf]
  rfl

/-- The scores' gradient as the call forms it: the weights times the weights' gradient less the row's inner product with the output. -/
theorem ds_all (B W : FVec Ideal S2304x128 .bf16) (A D O : FVec Ideal S256x128 .bf16) (c : Fin 2) (r : Fin 256) (k : Fin 2304) :
    k0_pay30 (F := Ideal) k0_pay1 k0_pay2 B W A D O (ix2 (hrow c r) k)
      = ex (bs A B c r) k * Ideal.div 1 (tot (bs A B c r)) * (bs D W c r k - rowdot D O c r) := by
  have e : k0_pay27 (F := Ideal) = k0_pay13 := rfl
  pointwise [k0_pay30, p_all, e, stack_at, sum_lanes]
  refine congrArg (fun z : EReal => ex (bs A B c r) k * Ideal.div 1 (tot (bs A B c r)) * (bs D W c r k - z)) ?_
  exact Finset.sum_congr rfl fun d _ => congrArg (fun z : EReal => D (ix2 r (lane c d)) * z) (twice_at O c r (lane c d) _ _)

theorem dv_all (B : FVec Ideal S2304x128 .bf16) (A D : FVec Ideal S256x128 .bf16) (k : Fin 2304) (l : Fin 128) :
    k0_pay29 (F := Ideal) k0_pay1 k0_pay2 B A D (ix2 k l)
      = ∑ r : Fin 256, ex (bs A B (half l) r) k * Ideal.div 1 (tot (bs A B (half l) r)) * D (ix2 r l) := by
  have e : k0_pay27 (F := Ideal) = k0_pay13 := rfl
  pointwise [k0_pay29, e]
  rw [sum_stack]
  simp only [p_all]

theorem dk_all (A : FVec Ideal S256x128 .bf16) (G : FVec Ideal S512x2304 .bf16) (k : Fin 2304) (l : Fin 128) :
    k0_pay32 (F := Ideal) (k0_pay13 k0_pay1 k0_pay2 A) G (ix2 k l) = ∑ r : Fin 256, G (ix2 (hrow (half l) r) k) * A (ix2 r l) := by
  pointwise [k0_pay32]
  exact sum_stack A _ l

theorem dq_all (B W : FVec Ideal S2304x128 .bf16) (A D O : FVec Ideal S256x128 .bf16) (i : Fin 512) (l : Fin 128) :
    k0_pay31 (F := Ideal) k0_pay1 k0_pay2 B W A D O (ix2 i l)
      = ∑ k : Fin 2304, k0_pay30 (F := Ideal) k0_pay1 k0_pay2 B W A D O (ix2 i k) * B (ix2 k l) := by
  generalize k0_pay1 = m1
  generalize k0_pay2 = m2
  pointwise [k0_pay31]

/-- The second head's share of the queries' gradient. -/
theorem dq2_ctx (B : FVec Ideal S256x128 .bf16) (G : FVec Ideal S512x256 .f32) (r : Fin 256) (l : Fin 128) :
    k0_pay6 (F := Ideal) B G (ix2 r l) = ∑ k : Fin 256, G (ix2 (hrow (half l) r) k) * B (ix2 k l) := by
  refine (pick_at _ r l).trans ?_
  pointwise [k0_pay5]

/-- The second head reads as the first. -/
theorem same_ctx (B W : FVec Ideal S256x128 .bf16) (A D O : FVec Ideal S256x128 .bf16) (x : S512x256.Idx) :
    (show EReal from k0_pay25 (F := Ideal) k0_pay1 k0_pay2 B W A D O x) = k0_pay17 (F := Ideal) k0_pay1 k0_pay2 B W A D O x := rfl

theorem same_dv_ctx (B : FVec Ideal S256x128 .bf16) (A D : FVec Ideal S256x128 .bf16) :
    k0_pay24 (F := Ideal) k0_pay1 k0_pay2 B A D = k0_pay16 (F := Ideal) k0_pay1 k0_pay2 B A D := rfl

/-- Both heads' shares of the values' gradient, added to what is there. -/
theorem addv_ctx (x y a : FVec Ideal S256x128 .f32) (k : Fin 256) (l : Fin 128) :
    k0_pay7 (F := Ideal) x y a (ix2 k l) = a (ix2 k l) + (x (ix2 k l) + y (ix2 k l)) := by
  pointwise [k0_pay7]

/-- Both heads' shares of the keys' gradient, added to what is there. -/
theorem addk_ctx (x a : FVec Ideal S256x128 .f32) (A : FVec Ideal S256x128 .bf16) (G : FVec Ideal S512x256 .f32) (k : Fin 256) (l : Fin 128) :
    k0_pay8 (F := Ideal) x (k0_pay21 k0_pay1 k0_pay2 A) G a (ix2 k l)
      = a (ix2 k l) + (x (ix2 k l) + ∑ r : Fin 256, G (ix2 (hrow (half l) r) k) * A (ix2 r l)) := by
  have e : k0_pay21 (F := Ideal) = k0_pay13 := rfl
  rw [e]
  refine Eq.trans ?_ (congrArg (fun z : EReal => a (ix2 k l) + (x (ix2 k l) + z)) (sum_stack A (fun i => G (ix2 i k)) l))
  generalize k0_pay13 (F := Ideal) k0_pay1 k0_pay2 A = Y
  pointwise [k0_pay8, k0_pay5]

/-- The second head's share of the queries' gradient. -/
theorem dq2_all (B : FVec Ideal S2304x128 .bf16) (G : FVec Ideal S512x2304 .f32) (r : Fin 256) (l : Fin 128) :
    k0_pay10 (F := Ideal) B G (ix2 r l) = ∑ k : Fin 2304, G (ix2 (hrow (half l) r) k) * B (ix2 k l) := by
  refine (pick_at _ r l).trans ?_
  pointwise [k0_pay9]

/-- The second head reads as the first. -/
theorem same_all (B W : FVec Ideal S2304x128 .bf16) (A D O : FVec Ideal S256x128 .bf16) (x : S512x2304.Idx) :
    (show EReal from k0_pay38 (F := Ideal) k0_pay1 k0_pay2 B W A D O x) = k0_pay30 (F := Ideal) k0_pay1 k0_pay2 B W A D O x := rfl

theorem same_dv_all (B : FVec Ideal S2304x128 .bf16) (A D : FVec Ideal S256x128 .bf16) :
    k0_pay37 (F := Ideal) k0_pay1 k0_pay2 B A D = k0_pay29 (F := Ideal) k0_pay1 k0_pay2 B A D := rfl

/-- Both heads' shares of the values' gradient, added to what is there. -/
theorem addv_all (x y a : FVec Ideal S2304x128 .f32) (k : Fin 2304) (l : Fin 128) :
    k0_pay11 (F := Ideal) x y a (ix2 k l) = a (ix2 k l) + (x (ix2 k l) + y (ix2 k l)) := by
  pointwise [k0_pay11]

/-- Both heads' shares of the keys' gradient, added to what is there. -/
theorem addk_all (x a : FVec Ideal S2304x128 .f32) (A : FVec Ideal S256x128 .bf16) (G : FVec Ideal S512x2304 .f32) (k : Fin 2304) (l : Fin 128) :
    k0_pay12 (F := Ideal) x (k0_pay34 k0_pay1 k0_pay2 A) G a (ix2 k l)
      = a (ix2 k l) + (x (ix2 k l) + ∑ r : Fin 256, G (ix2 (hrow (half l) r) k) * A (ix2 r l)) := by
  have e : k0_pay34 (F := Ideal) = k0_pay13 := rfl
  rw [e]
  refine Eq.trans ?_ (congrArg (fun z : EReal => a (ix2 k l) + (x (ix2 k l) + z)) (sum_stack A (fun i => G (ix2 i k)) l))
  generalize k0_pay13 (F := Ideal) k0_pay1 k0_pay2 A = Y
  pointwise [k0_pay12, k0_pay9]

theorem zero_k (x : S2304x128.Idx) : k0_pay3 (F := Ideal) x = (0 : EReal) := by pointwise [k0_pay3]

theorem zero_v (x : S2304x128.Idx) : k0_pay4 (F := Ideal) x = (0 : EReal) := by pointwise [k0_pay4]

end Cert.AttnGrad

end

end
-- ==== Proof.AttnSpec.lean ====
/- The gradient of attention, entry by entry.

   Query head `n` of eight reads one of four key copies: lanes `128 (n / 4) + 64 (n % 2) …` of the keys' 256. The first
   256 rows of a sequence attend to its first 256 keys, the other rows to all 2304. -/
module

public import proofs.«01_k».proof.Proof.Softmax

@[expose] public section

noncomputable section

open Idealize.ShloMosaic

namespace Attn

/-- An array of queries, and an array of key copies. -/
abbrev Qs := FVec Ideal ⟨2, ![9216, 512]⟩ .bf16
abbrev Ks := FVec Ideal ⟨2, ![9216, 256]⟩ .bf16

/-- Entry `d` of head `n` of a row of queries. -/
def qEnt (Q : Qs) (R : Fin 9216) (n : Fin 8) (d : Fin 64) : EReal := Q (ix2 R ⟨n.val * 64 + d.val, by omega⟩)

/-- The row of key `k` of sequence `b`. -/
def kRow {N : ℕ} (hN : N ≤ 2304) (b : Fin 4) (k : Fin N) : Fin 9216 := ⟨b.val * 2304 + k.val, by omega⟩

/-- The row of query `s` of sequence `b`. -/
def qRow (b : Fin 4) (s : Fin 2304) : Fin 9216 := ⟨b.val * 2304 + s.val, by omega⟩

/-- Entry `d` of the key copy that head `n` reads. -/
def kEnt {N : ℕ} (hN : N ≤ 2304) (K : Ks) (b : Fin 4) (n : Fin 8) (k : Fin N) (d : Fin 64) : EReal :=
  K (ix2 (kRow hN b k) ⟨n.val / 4 * 128 + n.val % 2 * 64 + d.val, by omega⟩)

/-- The scores of one row of queries against the first `N` keys. -/
def score {N : ℕ} (hN : N ≤ 2304) (Q : Qs) (K : Ks) (b : Fin 4) (n : Fin 8) (R : Fin 9216) : Fin N → EReal :=
  fun k => ∑ d : Fin 64, qEnt Q R n d * kEnt hN K b n k d

/-- The gradient of those scores. -/
def dScore {N : ℕ} (hN : N ≤ 2304) (Q : Qs) (K V : Ks) (C : Qs) (b : Fin 4) (n : Fin 8) (R : Fin 9216) : Fin N → EReal :=
  softGrad (score hN Q K b n R) (score hN C V b n R)

theorem ctx_le : 256 ≤ 2304 := by omega

/-- The queries' gradient, at query `s` of sequence `b`, head `n`, entry `d`. -/
def dQ (Q : Qs) (K V : Ks) (C : Qs) (b : Fin 4) (s : Fin 2304) (n : Fin 8) (d : Fin 64) : EReal :=
  if s.val < 256 then ∑ k : Fin 256, dScore ctx_le Q K V C b n (qRow b s) k * kEnt ctx_le K b n k d
  else ∑ k : Fin 2304, dScore le_rfl Q K V C b n (qRow b s) k * kEnt le_rfl K b n k d

/-- Head `j` of the two that read half `c` of key pair `h`. -/
def hd (h j c : Fin 2) : Fin 8 := ⟨h.val * 4 + j.val * 2 + c.val, by omega⟩

/-- Row `r` of query block `i` of a sequence. -/
def bRow (b : Fin 4) (i : Fin 9) (r : Fin 256) : Fin 9216 := ⟨b.val * 2304 + i.val * 256 + r.val, by omega⟩

/-- What query block `i` adds to the entry `(k, d)` of a key copy, the rows of head `n` weighing `w` on the first 256
    keys and `w'` on all keys. -/
def part (w : Fin 8 → Fin 9216 → Fin 256 → EReal) (w' : Fin 8 → Fin 9216 → Fin 2304 → EReal) (X : Qs) (b : Fin 4) (h c : Fin 2)
    (i : Fin 9) (k : Fin 2304) (d : Fin 64) : EReal :=
  if i = 0 then
    (if hk : k.val < 256 then ∑ j : Fin 2, ∑ r : Fin 256, w (hd h j c) (bRow b i r) ⟨k.val, hk⟩ * qEnt X (bRow b i r) (hd h j c) d else 0)
  else ∑ j : Fin 2, ∑ r : Fin 256, w' (hd h j c) (bRow b i r) k * qEnt X (bRow b i r) (hd h j c) d

/-- The keys' gradient. -/
def dK (Q : Qs) (K V : Ks) (C : Qs) (b : Fin 4) (h c : Fin 2) (k : Fin 2304) (d : Fin 64) : EReal :=
  ∑ i : Fin 9, part (fun n R => dScore ctx_le Q K V C b n R) (fun n R => dScore le_rfl Q K V C b n R) Q b h c i k d

/-- The values' gradient. -/
def dV (Q : Qs) (K : Ks) (C : Qs) (b : Fin 4) (h c : Fin 2) (k : Fin 2304) (d : Fin 64) : EReal :=
  ∑ i : Fin 9, part (fun n R => soft (score ctx_le Q K b n R)) (fun n R => soft (score le_rfl Q K b n R)) C b h c i k d

/-- The three gradients as arrays. -/
def dQs (Q : Qs) (K V : Ks) (C : Qs) : FVec Ideal ⟨2, ![9216, 512]⟩ .f32 := fun x =>
  dQ Q K V C ⟨(x 0).val / 2304, by have := (x 0).isLt; change _ < 9216 at this; omega⟩ ⟨(x 0).val % 2304, by omega⟩
    ⟨(x 1).val / 64, by have := (x 1).isLt; change _ < 512 at this; omega⟩ ⟨(x 1).val % 64, by omega⟩

def dKs (Q : Qs) (K V : Ks) (C : Qs) : FVec Ideal ⟨2, ![9216, 256]⟩ .f32 := fun x =>
  dK Q K V C ⟨(x 0).val / 2304, by have := (x 0).isLt; change _ < 9216 at this; omega⟩
    ⟨(x 1).val / 128, by have := (x 1).isLt; change _ < 256 at this; omega⟩ ⟨(x 1).val % 128 / 64, by omega⟩
    ⟨(x 0).val % 2304, by omega⟩ ⟨(x 1).val % 64, by omega⟩

def dVs (Q : Qs) (K : Ks) (C : Qs) : FVec Ideal ⟨2, ![9216, 256]⟩ .f32 := fun x =>
  dV Q K C ⟨(x 0).val / 2304, by have := (x 0).isLt; change _ < 9216 at this; omega⟩
    ⟨(x 1).val / 128, by have := (x 1).isLt; change _ < 256 at this; omega⟩ ⟨(x 1).val % 128 / 64, by omega⟩
    ⟨(x 0).val % 2304, by omega⟩ ⟨(x 1).val % 64, by omega⟩

/-- The attention's output, which the gradient call reads. -/
def outEnt (Q : Qs) (K V : Ks) (b : Fin 4) (s : Fin 2304) (n : Fin 8) (d : Fin 64) : EReal :=
  if s.val < 256 then ∑ k : Fin 256, kEnt ctx_le V b n k d * soft (score ctx_le Q K b n (qRow b s)) k
  else ∑ k : Fin 2304, kEnt le_rfl V b n k d * soft (score le_rfl Q K b n (qRow b s)) k

theorem qEnt_re {Q : Qs} (h : Re Q) (R : Fin 9216) (n : Fin 8) : Re (qEnt Q R n) := h.comp _

theorem score_re {N : ℕ} {hN : N ≤ 2304} {Q : Qs} {K : Ks} (hQ : Re Q) (hK : Re K) (b : Fin 4) (n : Fin 8) (R : Fin 9216) :
    Re (score hN Q K b n R) :=
  Re.dot (qEnt_re hQ R n) (hK.comp fun p : Fin N × Fin 64 => ix2 (kRow hN b p.1) ⟨n.val / 4 * 128 + n.val % 2 * 64 + p.2.val, by omega⟩)

/-- The row's inner product of the cotangent with the output, as the call takes it, gives the scores' gradient. -/
theorem dScore_of_out {N : ℕ} (hN : N ≤ 2304) (h0 : 0 < N) {Q : Qs} {K V : Ks} {C : Qs} (hQ : Re Q) (hK : Re K) (hV : Re V) (hC : Re C)
    (b : Fin 4) (n : Fin 8) (R : Fin 9216) (k : Fin N) :
    soft (score hN Q K b n R) k
        * (score hN C V b n R k - ∑ d : Fin 64, qEnt C R n d * ∑ j : Fin N, kEnt hN V b n j d * soft (score hN Q K b n R) j)
      = dScore hN Q K V C b n R k := by
  have e : ∑ d : Fin 64, qEnt C R n d * ∑ j : Fin N, kEnt hN V b n j d * soft (score hN Q K b n R) j
      = ∑ d : Fin 64, qEnt C R n d * ∑ j : Fin N, soft (score hN Q K b n R) j * kEnt hN V b n j d :=
    Finset.sum_congr rfl fun d _ => congrArg _ (Finset.sum_congr rfl fun j _ => mul_comm _ _)
  rw [e, dot_mean h0 (score_re hQ hK b n R) (qEnt_re hC R n)
    (hV.comp fun p : Fin N × Fin 64 => ix2 (kRow hN b p.1) ⟨n.val / 4 * 128 + n.val % 2 * 64 + p.2.val, by omega⟩)]
  rfl

end Attn

end

end
-- ==== Proof.AttnPoint.lean ====
/- What one grid point of the attention gradient computes, over block contents that read as the arrays do. -/
module

public import proofs.«01_k».proof.Proof.AttnBlock
public import proofs.«01_k».proof.Proof.AttnSpec

@[expose] public section

set_option maxRecDepth 16384

noncomputable section

open Idealize.ShloMosaic Idealize.ShloMosaic.TcCoe Idealize.SL.Sem

namespace Cert.AttnGrad

open Cert.Kernel2Ideal Cert.Kernel2Ideal.Gen Attn

/-- A block reads as the rows of query block `i`, the two heads of group `j`. -/
def RdQ (X : Qs) (b : Fin 4) (h j : Fin 2) (i : Fin 9) (A : FVec Ideal S256x128 .bf16) : Prop :=
  ∀ (c : Fin 2) (r : Fin 256) (d : Fin 64), A (ix2 r (lane c d)) = qEnt X (bRow b i r) (hd h j c) d

/-- A block reads as the first `N` rows of key pair `h`. -/
def RdK {N : ℕ} (hN : N ≤ 2304) (X : Ks) (b : Fin 4) (h : Fin 2) (B : FVec Ideal ⟨2, ![N, 128]⟩ .bf16) : Prop :=
  ∀ (j c : Fin 2) (k : Fin N) (d : Fin 64), B (ix2 k (lane c d)) = kEnt hN X b (hd h j c) k d

/-- A block reads as the attention's output on `N` keys. -/
def RdO {N : ℕ} (hN : N ≤ 2304) (Q : Qs) (K V : Ks) (b : Fin 4) (h j : Fin 2) (i : Fin 9) (O : FVec Ideal S256x128 .bf16) : Prop :=
  ∀ (c : Fin 2) (r : Fin 256) (d : Fin 64), O (ix2 r (lane c d))
    = ∑ k : Fin N, kEnt hN V b (hd h j c) k d * soft (score hN Q K b (hd h j c) (bRow b i r)) k

variable {Q C : Qs} {K V : Ks} {b : Fin 4} {h : Fin 2} {i : Fin 9}

theorem bs_eq {N : ℕ} {hN : N ≤ 2304} {j : Fin 2} {A : FVec Ideal S256x128 .bf16} {B : FVec Ideal ⟨2, ![N, 128]⟩ .bf16}
    (hA : RdQ Q b h j i A) (hB : RdK hN K b h B) (c : Fin 2) (r : Fin 256) :
    bs A B c r = score hN Q K b (hd h j c) (bRow b i r) :=
  funext fun k => Finset.sum_congr rfl fun d _ => Ideal.mul_congr (hA c r d) (hB j c k d)

theorem w_eq {N : ℕ} {hN : N ≤ 2304} (h0 : 0 < N) (hQ : Re Q) (hK : Re K) {j : Fin 2} {A : FVec Ideal S256x128 .bf16}
    {B : FVec Ideal ⟨2, ![N, 128]⟩ .bf16} (hA : RdQ Q b h j i A) (hB : RdK hN K b h B) (c : Fin 2) (r : Fin 256) (k : Fin N) :
    ex (bs A B c r) k * Ideal.div 1 (tot (bs A B c r)) = soft (score hN Q K b (hd h j c) (bRow b i r)) k := by
  rw [bs_eq hA hB, soft_mul h0 (score_re hQ hK _ _ _)]

theorem g_eq {N : ℕ} {hN : N ≤ 2304} (h0 : 0 < N) (hQ : Re Q) (hK : Re K) (hV : Re V) (hC : Re C) {j : Fin 2}
    {A D O : FVec Ideal S256x128 .bf16} {B W : FVec Ideal ⟨2, ![N, 128]⟩ .bf16} (hA : RdQ Q b h j i A) (hD : RdQ C b h j i D)
    (hO : RdO hN Q K V b h j i O) (hB : RdK hN K b h B) (hW : RdK hN V b h W) (c : Fin 2) (r : Fin 256) (k : Fin N) :
    ex (bs A B c r) k * Ideal.div 1 (tot (bs A B c r)) * (bs D W c r k - rowdot D O c r)
      = dScore hN Q K V C b (hd h j c) (bRow b i r) k := by
  have e : rowdot D O c r = ∑ d : Fin 64, qEnt C (bRow b i r) (hd h j c) d
      * ∑ k : Fin N, kEnt hN V b (hd h j c) k d * soft (score hN Q K b (hd h j c) (bRow b i r)) k :=
    Finset.sum_congr rfl fun d _ => Ideal.mul_congr (hD c r d) (hO c r d)
  rw [w_eq h0 hQ hK hA hB, bs_eq hD hW, e, dScore_of_out hN h0 hQ hK hV hC]

theorem half_lane (c : Fin 2) (d : Fin 64) : half (lane c d) = c := Fin.ext (by show (c.val * 64 + d.val) / 64 = c.val; omega)

section
variable {B W : FVec Ideal S256x128 .bf16} (hQ : Re Q) (hK : Re K) (hV : Re V) (hC : Re C)
  (hB : RdK (N := 256) ctx_le K b h B) (hW : RdK (N := 256) ctx_le V b h W)

include hQ hK hV hC hB hW in
theorem ds_at_ctx {j : Fin 2} {A D O : FVec Ideal S256x128 .bf16} (hA : RdQ Q b h j i A) (hD : RdQ C b h j i D)
    (hO : RdO (N := 256) ctx_le Q K V b h j i O) (c : Fin 2) (r : Fin 256) (k : Fin 256) :
    k0_pay17 (F := Ideal) k0_pay1 k0_pay2 B W A D O (ix2 (hrow c r) k) = dScore ctx_le Q K V C b (hd h j c) (bRow b i r) k :=
  (ds_ctx B W A D O c r k).trans (g_eq (by omega) hQ hK hV hC hA hD hO hB hW c r k)

include hQ hK hV hC hB hW in
/-- The queries' gradient, first head group. -/
theorem dq_at_ctx {j : Fin 2} {A D O : FVec Ideal S256x128 .bf16} (hA : RdQ Q b h j i A) (hD : RdQ C b h j i D)
    (hO : RdO (N := 256) ctx_le Q K V b h j i O) (c : Fin 2) (r : Fin 256) (d : Fin 64) :
    k0_pay20 (F := Ideal) k0_pay1 (k0_pay18 k0_pay1 k0_pay2 B W A D O) (ix2 r (lane c d))
      = ∑ k : Fin 256, dScore ctx_le Q K V C b (hd h j c) (bRow b i r) k * kEnt ctx_le K b (hd h j c) k d := by
  refine (pick_at _ r (lane c d)).trans ?_
  rw [dq_ctx, half_lane]
  exact Finset.sum_congr rfl fun k _ => Ideal.mul_congr (ds_at_ctx hQ hK hV hC hB hW hA hD hO c r k) (hB j c k d)

include hQ hK hV hC hB hW in
/-- The queries' gradient, second head group. -/
theorem dq2_at_ctx {j : Fin 2} {A D O : FVec Ideal S256x128 .bf16} (hA : RdQ Q b h j i A) (hD : RdQ C b h j i D)
    (hO : RdO (N := 256) ctx_le Q K V b h j i O) (c : Fin 2) (r : Fin 256) (d : Fin 64) :
    k0_pay6 (F := Ideal) B (k0_pay25 k0_pay1 k0_pay2 B W A D O) (ix2 r (lane c d))
      = ∑ k : Fin 256, dScore ctx_le Q K V C b (hd h j c) (bRow b i r) k * kEnt ctx_le K b (hd h j c) k d := by
  rw [dq2_ctx, half_lane]
  exact Finset.sum_congr rfl fun k _ =>
    Ideal.mul_congr ((same_ctx B W A D O _).trans (ds_at_ctx hQ hK hV hC hB hW hA hD hO c r k)) (hB j c k d)

include hQ hK hV hC hB hW in
/-- What the point adds to the keys' gradient. -/
theorem dk_at_ctx {A D O A' D' O' : FVec Ideal S256x128 .bf16} (hA : RdQ Q b h 0 i A) (hD : RdQ C b h 0 i D)
    (hO : RdO (N := 256) ctx_le Q K V b h 0 i O) (hA' : RdQ Q b h 1 i A') (hD' : RdQ C b h 1 i D')
    (hO' : RdO (N := 256) ctx_le Q K V b h 1 i O') (a : FVec Ideal S256x128 .f32) (c : Fin 2) (k : Fin 256) (d : Fin 64) :
    k0_pay8 (F := Ideal) (k0_pay19 (k0_pay13 k0_pay1 k0_pay2 A) (k0_pay17 k0_pay1 k0_pay2 B W A D O))
        (k0_pay21 k0_pay1 k0_pay2 A') (k0_pay25 k0_pay1 k0_pay2 B W A' D' O') a (ix2 k (lane c d))
      = a (ix2 k (lane c d)) + ∑ j : Fin 2, ∑ r : Fin 256, dScore ctx_le Q K V C b (hd h j c) (bRow b i r) k
          * qEnt Q (bRow b i r) (hd h j c) d := by
  rw [addk_ctx, Fin.sum_univ_two, half_lane]
  refine congrArg (fun z : EReal => a (ix2 k (lane c d)) + z) (congrArg₂ (fun x y : EReal => x + y) ?_ ?_)
  · refine (dk_ctx A _ k (lane c d)).trans ?_
    rw [half_lane]
    exact Finset.sum_congr rfl fun r _ => Ideal.mul_congr (ds_at_ctx hQ hK hV hC hB hW hA hD hO c r k) (hA c r d)
  · exact Finset.sum_congr rfl fun r _ =>
      Ideal.mul_congr ((same_ctx B W A' D' O' _).trans (ds_at_ctx hQ hK hV hC hB hW hA' hD' hO' c r k)) (hA' c r d)

include hQ hK hB in
/-- What the point adds to the values' gradient. -/
theorem dv_at_ctx {A D A' D' : FVec Ideal S256x128 .bf16} (hA : RdQ Q b h 0 i A) (hD : RdQ C b h 0 i D)
    (hA' : RdQ Q b h 1 i A') (hD' : RdQ C b h 1 i D') (a : FVec Ideal S256x128 .f32) (c : Fin 2) (k : Fin 256) (d : Fin 64) :
    k0_pay7 (F := Ideal) (k0_pay16 k0_pay1 k0_pay2 B A D) (k0_pay24 k0_pay1 k0_pay2 B A' D') a (ix2 k (lane c d))
      = a (ix2 k (lane c d)) + ∑ j : Fin 2, ∑ r : Fin 256, soft (score ctx_le Q K b (hd h j c) (bRow b i r)) k
          * qEnt C (bRow b i r) (hd h j c) d := by
  have key : ∀ {j : Fin 2} {A D : FVec Ideal S256x128 .bf16}, RdQ Q b h j i A → RdQ C b h j i D →
      k0_pay16 (F := Ideal) k0_pay1 k0_pay2 B A D (ix2 k (lane c d))
        = ∑ r : Fin 256, soft (score ctx_le Q K b (hd h j c) (bRow b i r)) k * qEnt C (bRow b i r) (hd h j c) d := by
    intro j A D hA hD
    rw [dv_ctx, half_lane]
    exact Finset.sum_congr rfl fun r _ => Ideal.mul_congr (w_eq (by omega) hQ hK hA hB c r k) (hD c r d)
  rw [addv_ctx, Fin.sum_univ_two, same_dv_ctx, key hA hD, key hA' hD']

end

section
variable {B W : FVec Ideal S2304x128 .bf16} (hQ : Re Q) (hK : Re K) (hV : Re V) (hC : Re C)
  (hB : RdK (N := 2304) le_rfl K b h B) (hW : RdK (N := 2304) le_rfl V b h W)

include hQ hK hV hC hB hW in
theorem ds_at_all {j : Fin 2} {A D O : FVec Ideal S256x128 .bf16} (hA : RdQ Q b h j i A) (hD : RdQ C b h j i D)
    (hO : RdO (N := 2304) le_rfl Q K V b h j i O) (c : Fin 2) (r : Fin 256) (k : Fin 2304) :
    k0_pay30 (F := Ideal) k0_pay1 k0_pay2 B W A D O (ix2 (hrow c r) k) = dScore le_rfl Q K V C b (hd h j c) (bRow b i r) k :=
  (ds_all B W A D O c r k).trans (g_eq (by omega) hQ hK hV hC hA hD hO hB hW c r k)

include hQ hK hV hC hB hW in
/-- The queries' gradient, first head group. -/
theorem dq_at_all {j : Fin 2} {A D O : FVec Ideal S256x128 .bf16} (hA : RdQ Q b h j i A) (hD : RdQ C b h j i D)
    (hO : RdO (N := 2304) le_rfl Q K V b h j i O) (c : Fin 2) (r : Fin 256) (d : Fin 64) :
    k0_pay33 (F := Ideal) k0_pay1 (k0_pay31 k0_pay1 k0_pay2 B W A D O) (ix2 r (lane c d))
      = ∑ k : Fin 2304, dScore le_rfl Q K V C b (hd h j c) (bRow b i r) k * kEnt le_rfl K b (hd h j c) k d := by
  refine (pick_at _ r (lane c d)).trans ?_
  rw [dq_all, half_lane]
  exact Finset.sum_congr rfl fun k _ => Ideal.mul_congr (ds_at_all hQ hK hV hC hB hW hA hD hO c r k) (hB j c k d)

include hQ hK hV hC hB hW in
/-- The queries' gradient, second head group. -/
theorem dq2_at_all {j : Fin 2} {A D O : FVec Ideal S256x128 .bf16} (hA : RdQ Q b h j i A) (hD : RdQ C b h j i D)
    (hO : RdO (N := 2304) le_rfl Q K V b h j i O) (c : Fin 2) (r : Fin 256) (d : Fin 64) :
    k0_pay10 (F := Ideal) B (k0_pay38 k0_pay1 k0_pay2 B W A D O) (ix2 r (lane c d))
      = ∑ k : Fin 2304, dScore le_rfl Q K V C b (hd h j c) (bRow b i r) k * kEnt le_rfl K b (hd h j c) k d := by
  rw [dq2_all, half_lane]
  exact Finset.sum_congr rfl fun k _ =>
    Ideal.mul_congr ((same_all B W A D O _).trans (ds_at_all hQ hK hV hC hB hW hA hD hO c r k)) (hB j c k d)

include hQ hK hV hC hB hW in
/-- What the point adds to the keys' gradient. -/
theorem dk_at_all {A D O A' D' O' : FVec Ideal S256x128 .bf16} (hA : RdQ Q b h 0 i A) (hD : RdQ C b h 0 i D)
    (hO : RdO (N := 2304) le_rfl Q K V b h 0 i O) (hA' : RdQ Q b h 1 i A') (hD' : RdQ C b h 1 i D')
    (hO' : RdO (N := 2304) le_rfl Q K V b h 1 i O') (a : FVec Ideal S2304x128 .f32) (c : Fin 2) (k : Fin 2304) (d : Fin 64) :
    k0_pay12 (F := Ideal) (k0_pay32 (k0_pay26 k0_pay1 k0_pay2 A) (k0_pay30 k0_pay1 k0_pay2 B W A D O))
        (k0_pay34 k0_pay1 k0_pay2 A') (k0_pay38 k0_pay1 k0_pay2 B W A' D' O') a (ix2 k (lane c d))
      = a (ix2 k (lane c d)) + ∑ j : Fin 2, ∑ r : Fin 256, dScore le_rfl Q K V C b (hd h j c) (bRow b i r) k
          * qEnt Q (bRow b i r) (hd h j c) d := by
  rw [addk_all, Fin.sum_univ_two, half_lane]
  refine congrArg (fun z : EReal => a (ix2 k (lane c d)) + z) (congrArg₂ (fun x y : EReal => x + y) ?_ ?_)
  · refine (dk_all A _ k (lane c d)).trans ?_
    rw [half_lane]
    exact Finset.sum_congr rfl fun r _ => Ideal.mul_congr (ds_at_all hQ hK hV hC hB hW hA hD hO c r k) (hA c r d)
  · exact Finset.sum_congr rfl fun r _ =>
      Ideal.mul_congr ((same_all B W A' D' O' _).trans (ds_at_all hQ hK hV hC hB hW hA' hD' hO' c r k)) (hA' c r d)

include hQ hK hB in
/-- What the point adds to the values' gradient. -/
theorem dv_at_all {A D A' D' : FVec Ideal S256x128 .bf16} (hA : RdQ Q b h 0 i A) (hD : RdQ C b h 0 i D)
    (hA' : RdQ Q b h 1 i A') (hD' : RdQ C b h 1 i D') (a : FVec Ideal S2304x128 .f32) (c : Fin 2) (k : Fin 2304) (d : Fin 64) :
    k0_pay11 (F := Ideal) (k0_pay29 k0_pay1 k0_pay2 B A D) (k0_pay37 k0_pay1 k0_pay2 B A' D') a (ix2 k (lane c d))
      = a (ix2 k (lane c d)) + ∑ j : Fin 2, ∑ r : Fin 256, soft (score le_rfl Q K b (hd h j c) (bRow b i r)) k
          * qEnt C (bRow b i r) (hd h j c) d := by
  have key : ∀ {j : Fin 2} {A D : FVec Ideal S256x128 .bf16}, RdQ Q b h j i A → RdQ C b h j i D →
      k0_pay29 (F := Ideal) k0_pay1 k0_pay2 B A D (ix2 k (lane c d))
        = ∑ r : Fin 256, soft (score le_rfl Q K b (hd h j c) (bRow b i r)) k * qEnt C (bRow b i r) (hd h j c) d := by
    intro j A D hA hD
    rw [dv_all, half_lane]
    exact Finset.sum_congr rfl fun r _ => Ideal.mul_congr (w_eq (by omega) hQ hK hA hB c r k) (hD c r d)
  rw [addv_all, Fin.sum_univ_two, same_dv_all, key hA hD, key hA' hD']

end

end Cert.AttnGrad

end

end
-- ==== Proof.AttnOut.lean ====
/- Attention computed on the host, read entry by entry: the heads, the scores, their softmax and the output. -/
module

public import proofs.«01_k».proof.Proof.AttnBlock
public import proofs.«01_k».proof.Proof.AttnSpec

@[expose] public section

set_option maxRecDepth 16384

noncomputable section

open Idealize.ShloMosaic Idealize.ShloMosaic.TcCoe Idealize.SL.Sem

namespace Cert.AttnGrad

open Cert.Kernel2Ideal Cert.Kernel2Ideal.Gen Attn

theorem max_bot_top {N : ℕ} (f : Fin N → EReal) : max ⊥ (Finset.univ.fold max ⊥ f) = top f := max_eq_right bot_le

/-- The queries by head, and the key copies spread over the heads. -/
def hq (Q : Qs) : FVec Ideal S4x2304x8x64 .f32 := shapeCast S4x2304x8x64 (extf (F := Ideal) .f32 (Q : FVec Ideal S9216x512 .bf16) bitsLt_bf16_f32) shapeCasts_S9216x512_S4x2304x8x64

def hk (K : Ks) : FVec Ideal S4x2304x8x64 .f32 := shapeCast S4x2304x8x64
  (broadcastInDim S9216x2x2x128 ![0, 1, 2, 3] bcast_S9216x2x1x128_S9216x2x2x128_0_1_2_3
    (shapeCast S9216x2x1x128 (extf (F := Ideal) .f32 (K : FVec Ideal S9216x256 .bf16) bitsLt_bf16_f32) shapeCasts_S9216x256_S9216x2x1x128))
  shapeCasts_S9216x2x2x128_S4x2304x8x64

theorem hq_at (Q : Qs) (b : Fin 4) (s : Fin 2304) (n : Fin 8) (d : Fin 64) :
    hq Q (ix4 b s n d) = qEnt Q (qRow b s) n d := by
  pointwise [hq, qEnt, qRow]

theorem hk_at (K : Ks) (b : Fin 4) (k : Fin 2304) (n : Fin 8) (d : Fin 64) :
    hk K (ix4 b k n d) = kEnt le_rfl K b n k d := by
  pointwise [hk, kEnt, kRow]
  refine congrArg K ?_
  idx_ext <;> (try dsimp only) <;> omega

/-- The first 256 rows of a sequence on its first 256 keys: scores, exponentials, their sums, output. -/
def sC (q k : FVec Ideal S4x2304x8x64 .f32) : FVec Ideal S4x8x256x256 .f32 := Host.dotGeneral dot_S4x256x8x64_S4x256x8x64_S4x8x256x256_3_3_1_1_02_02 none (extractStridedSlice S4x256x8x64 ![0, 0, 0, 0] q slices_S4x2304x8x64_S4x256x8x64_0_0_0_0) (extractStridedSlice S4x256x8x64 ![0, 0, 0, 0] k slices_S4x2304x8x64_S4x256x8x64_0_0_0_0)

def mC (s : FVec Ideal S4x8x256x256 .f32) (v : FVec Ideal S_ .f32) : FVec Ideal S4x8x256 .f32 :=
  Host.reduce FloatOps.maximumf s v reducesTo_S4x8x256x256_S4x8x256_d3 h_S_

def fC (s : FVec Ideal S4x8x256x256 .f32) (M : FVec Ideal S4x8x256 .f32) : FVec Ideal S4x8x256x256 .f32 := Host.exp (subf s (broadcastInDim S4x8x256x256 ![0, 1, 2, 3] bcast_S4x8x256x1_S4x8x256x256_0_1_2_3 (broadcastInDim S4x8x256x1 ![0, 1, 2] bcast_S4x8x256_S4x8x256x1_0_1_2 (maximumf (broadcastInDim S4x8x256 ![] bcast_S_S4x8x256 (constant S_ .f32 0xFF800000#32)) M))))

def eC (s : FVec Ideal S4x8x256x256 .f32) : FVec Ideal S4x8x256x256 .f32 := fC s (mC s (constant S_ .f32 0xFF800000#32))

def zC (e : FVec Ideal S4x8x256x256 .f32) : FVec Ideal S4x8x256x256 .f32 := broadcastInDim S4x8x256x256 ![0, 1, 2, 3] bcast_S4x8x256x1_S4x8x256x256_0_1_2_3 (broadcastInDim S4x8x256x1 ![0, 1, 2] bcast_S4x8x256_S4x8x256x1_0_1_2 (Host.reduceAdd e (constant S_ .f32 0x00000000#32) reducesTo_S4x8x256x256_S4x8x256_d3 h_S_))

def oC (v : FVec Ideal S4x2304x8x64 .f32) (p : FVec Ideal S4x8x256x256 .f32) : FVec Ideal S4x256x8x64 .f32 :=
  transpose S4x256x8x64 [0, 3, 1, 2] (Host.dotGeneral dot_S4x256x8x64_S4x8x256x256_S4x8x64x256_1_3_3_2_02_01 none (extractStridedSlice S4x256x8x64 ![0, 0, 0, 0] v slices_S4x2304x8x64_S4x256x8x64_0_0_0_0) p) transposes_S4x8x64x256_S4x256x8x64_0_3_1_2

theorem sC_at (Q : Qs) (K : Ks) (b : Fin 4) (n : Fin 8) (s : Fin 256) (k : Fin 256) :
    sC (hq Q) (hk K) (ix4 b n s k) = score ctx_le Q K b n (qRow b ⟨s.val, by omega⟩) k := by
  have hs := s.isLt
  have hkl := k.isLt
  pointwise [sC]
  refine Finset.sum_congr rfl fun d _ => ?_
  refine Ideal.mul_congr ?_ ?_
  · exact (hq_at Q b ⟨s.val, by omega⟩ n d)
  · exact (hk_at K b ⟨k.val, by omega⟩ n d)

theorem mC_at (s : FVec Ideal S4x8x256x256 .f32) (v : FVec Ideal S_ .f32) (b : Fin 4) (n : Fin 8) (r : Fin 256) :
    mC s v (ix3 b n r) = Finset.univ.fold max (v (Shape.Idx.first h_S_)) (fun k : Fin 256 => s (ix4 b n r k)) := by
  pointwise [mC]

theorem fC_at (s : FVec Ideal S4x8x256x256 .f32) (M : FVec Ideal S4x8x256 .f32) (b : Fin 4) (n : Fin 8) (r : Fin 256) (k : Fin 256) :
    fC s M (ix4 b n r k) = Ideal.exp (s (ix4 b n r k) - max ⊥ (M (ix3 b n r))) := by
  pointwise [fC, neg_inf]

theorem eC_at (s : FVec Ideal S4x8x256x256 .f32) (b : Fin 4) (n : Fin 8) (r : Fin 256) (k : Fin 256) :
    eC s (ix4 b n r k) = ex (fun k => s (ix4 b n r k)) k := by
  refine (fC_at s _ b n r k).trans (congrArg (fun z : EReal => Ideal.exp (s (ix4 b n r k) - z)) ?_)
  refine Eq.trans (congrArg (max ⊥) ((mC_at s _ b n r).trans ?_)) (max_bot_top _)
  exact congrArg (fun z : EReal => Finset.univ.fold max z (fun k : Fin 256 => s (ix4 b n r k))) neg_inf

theorem zC_at (e : FVec Ideal S4x8x256x256 .f32) (b : Fin 4) (n : Fin 8) (r : Fin 256) (k : Fin 256) :
    zC e (ix4 b n r k) = ∑ k, e (ix4 b n r k) := by
  pointwise [zC]

theorem oC_at (V : Ks) (p : FVec Ideal S4x8x256x256 .f32) (b : Fin 4) (n : Fin 8) (r : Fin 256) (d : Fin 64) :
    oC (hk V) p (ix4 b r n d) = ∑ k : Fin 256, kEnt ctx_le V b n k d * p (ix4 b n r k) := by
  pointwise [oC]
  refine Finset.sum_congr rfl fun k _ => ?_
  have hkl := k.isLt
  refine Ideal.mul_congr ?_ rfl
  exact (hk_at V b ⟨k.val, by omega⟩ n d)

/-- The softmax of the scores. -/
def pC (s : FVec Ideal S4x8x256x256 .f32) : FVec Ideal S4x8x256x256 .f32 := Host.divf (eC s) (zC (eC s))

theorem pC_at (s : FVec Ideal S4x8x256x256 .f32) (b : Fin 4) (n : Fin 8) (r : Fin 256) (k : Fin 256) :
    pC s (ix4 b n r k) = soft (fun k => s (ix4 b n r k)) k := by
  pointwise [pC]
  rw [soft, tot, eC_at, zC_at]
  exact congrArg _ (Finset.sum_congr rfl fun k _ => eC_at s b n r k)

/-- The other rows on all keys. -/
def sA (q k : FVec Ideal S4x2304x8x64 .f32) : FVec Ideal S4x8x2048x2304 .f32 := Host.dotGeneral dot_S4x2048x8x64_S4x2304x8x64_S4x8x2048x2304_3_3_1_1_02_02 none (extractStridedSlice S4x2048x8x64 ![0, 256, 0, 0] q slices_S4x2304x8x64_S4x2048x8x64_0_256_0_0) (k)

def mA (s : FVec Ideal S4x8x2048x2304 .f32) (v : FVec Ideal S_ .f32) : FVec Ideal S4x8x2048 .f32 :=
  Host.reduce FloatOps.maximumf s v reducesTo_S4x8x2048x2304_S4x8x2048_d3 h_S_

def fA (s : FVec Ideal S4x8x2048x2304 .f32) (M : FVec Ideal S4x8x2048 .f32) : FVec Ideal S4x8x2048x2304 .f32 := Host.exp (subf s (broadcastInDim S4x8x2048x2304 ![0, 1, 2, 3] bcast_S4x8x2048x1_S4x8x2048x2304_0_1_2_3 (broadcastInDim S4x8x2048x1 ![0, 1, 2] bcast_S4x8x2048_S4x8x2048x1_0_1_2 (maximumf (broadcastInDim S4x8x2048 ![] bcast_S_S4x8x2048 (constant S_ .f32 0xFF800000#32)) M))))

def eA (s : FVec Ideal S4x8x2048x2304 .f32) : FVec Ideal S4x8x2048x2304 .f32 := fA s (mA s (constant S_ .f32 0xFF800000#32))

def zA (e : FVec Ideal S4x8x2048x2304 .f32) : FVec Ideal S4x8x2048x2304 .f32 := broadcastInDim S4x8x2048x2304 ![0, 1, 2, 3] bcast_S4x8x2048x1_S4x8x2048x2304_0_1_2_3 (broadcastInDim S4x8x2048x1 ![0, 1, 2] bcast_S4x8x2048_S4x8x2048x1_0_1_2 (Host.reduceAdd e (constant S_ .f32 0x00000000#32) reducesTo_S4x8x2048x2304_S4x8x2048_d3 h_S_))

def oA (v : FVec Ideal S4x2304x8x64 .f32) (p : FVec Ideal S4x8x2048x2304 .f32) : FVec Ideal S4x2048x8x64 .f32 :=
  transpose S4x2048x8x64 [0, 3, 1, 2] (Host.dotGeneral dot_S4x2304x8x64_S4x8x2048x2304_S4x8x64x2048_1_3_3_2_02_01 none (v) p) transposes_S4x8x64x2048_S4x2048x8x64_0_3_1_2

theorem sA_at (Q : Qs) (K : Ks) (b : Fin 4) (n : Fin 8) (s : Fin 2048) (k : Fin 2304) :
    sA (hq Q) (hk K) (ix4 b n s k) = score le_rfl Q K b n (qRow b ⟨256 + s.val, by omega⟩) k := by
  have hs := s.isLt
  have hkl := k.isLt
  pointwise [sA]
  refine Finset.sum_congr rfl fun d _ => ?_
  refine Ideal.mul_congr ?_ ?_
  · exact (hq_at Q b ⟨256 + s.val, by omega⟩ n d)
  · exact (hk_at K b ⟨k.val, by omega⟩ n d)

theorem mA_at (s : FVec Ideal S4x8x2048x2304 .f32) (v : FVec Ideal S_ .f32) (b : Fin 4) (n : Fin 8) (r : Fin 2048) :
    mA s v (ix3 b n r) = Finset.univ.fold max (v (Shape.Idx.first h_S_)) (fun k : Fin 2304 => s (ix4 b n r k)) := by
  pointwise [mA]

theorem fA_at (s : FVec Ideal S4x8x2048x2304 .f32) (M : FVec Ideal S4x8x2048 .f32) (b : Fin 4) (n : Fin 8) (r : Fin 2048) (k : Fin 2304) :
    fA s M (ix4 b n r k) = Ideal.exp (s (ix4 b n r k) - max ⊥ (M (ix3 b n r))) := by
  pointwise [fA, neg_inf]

theorem eA_at (s : FVec Ideal S4x8x2048x2304 .f32) (b : Fin 4) (n : Fin 8) (r : Fin 2048) (k : Fin 2304) :
    eA s (ix4 b n r k) = ex (fun k => s (ix4 b n r k)) k := by
  refine (fA_at s _ b n r k).trans (congrArg (fun z : EReal => Ideal.exp (s (ix4 b n r k) - z)) ?_)
  refine Eq.trans (congrArg (max ⊥) ((mA_at s _ b n r).trans ?_)) (max_bot_top _)
  exact congrArg (fun z : EReal => Finset.univ.fold max z (fun k : Fin 2304 => s (ix4 b n r k))) neg_inf

theorem zA_at (e : FVec Ideal S4x8x2048x2304 .f32) (b : Fin 4) (n : Fin 8) (r : Fin 2048) (k : Fin 2304) :
    zA e (ix4 b n r k) = ∑ k, e (ix4 b n r k) := by
  pointwise [zA]

theorem oA_at (V : Ks) (p : FVec Ideal S4x8x2048x2304 .f32) (b : Fin 4) (n : Fin 8) (r : Fin 2048) (d : Fin 64) :
    oA (hk V) p (ix4 b r n d) = ∑ k : Fin 2304, kEnt le_rfl V b n k d * p (ix4 b n r k) := by
  pointwise [oA]
  refine Finset.sum_congr rfl fun k _ => ?_
  have hkl := k.isLt
  refine Ideal.mul_congr ?_ rfl
  exact (hk_at V b ⟨k.val, by omega⟩ n d)

/-- The softmax of the scores. -/
def pA (s : FVec Ideal S4x8x2048x2304 .f32) : FVec Ideal S4x8x2048x2304 .f32 := Host.divf (eA s) (zA (eA s))

theorem pA_at (s : FVec Ideal S4x8x2048x2304 .f32) (b : Fin 4) (n : Fin 8) (r : Fin 2048) (k : Fin 2304) :
    pA s (ix4 b n r k) = soft (fun k => s (ix4 b n r k)) k := by
  pointwise [pA]
  rw [soft, tot, eA_at, zA_at]
  exact congrArg _ (Finset.sum_congr rfl fun k _ => eA_at s b n r k)

/-- The attention's output. -/
def oT (q k v : FVec Ideal S4x2304x8x64 .f32) : FVec Ideal S9216x512 .bf16 :=
  truncf .bf16 (shapeCast S9216x512 (concatenate S4x2304x8x64 1
    [⟨S4x256x8x64, oC v (pC (sC q k))⟩, ⟨S4x2048x8x64, oA v (pA (sA q k))⟩]
    concatenates_S4x256x8x64_S4x2048x8x64_S4x2304x8x64_d1) shapeCasts_S4x2304x8x64_S9216x512) bitsLt_bf16_f32

theorem outC_at (Q : Qs) (K V : Ks) (b : Fin 4) (s : Fin 2304) (n : Fin 8) (d : Fin 64) (b' : Fin 4) (r : Fin 256) (n' : Fin 8)
    (d' : Fin 64) (hb : b'.val = b.val) (hr : s.val = r.val) (hn : n'.val = n.val) (hd : d'.val = d.val) :
    oC (hk V) (pC (sC (hq Q) (hk K))) (ix4 b' r n' d') = outEnt Q K V b s n d := by
  obtain rfl := Fin.ext hb
  obtain rfl := Fin.ext hn
  obtain rfl := Fin.ext hd
  have hl := r.isLt
  rw [outEnt, if_pos (by omega)]
  refine (oC_at V _ b' n' r d').trans (Finset.sum_congr rfl fun k _ => congrArg _ ?_)
  refine (pC_at _ b' n' r k).trans (congrArg (fun w : Fin 256 → EReal => soft w k) (funext fun j => ?_))
  exact (sC_at Q K b' n' r j).trans (congrArg (fun z => score ctx_le Q K b' n' (qRow b' z) j) (Fin.ext hr.symm))

theorem outA_at (Q : Qs) (K V : Ks) (b : Fin 4) (s : Fin 2304) (n : Fin 8) (d : Fin 64) (b' : Fin 4) (r : Fin 2048) (n' : Fin 8)
    (d' : Fin 64) (hb : b'.val = b.val) (hr : s.val = 256 + r.val) (hn : n'.val = n.val) (hd : d'.val = d.val) :
    oA (hk V) (pA (sA (hq Q) (hk K))) (ix4 b' r n' d') = outEnt Q K V b s n d := by
  obtain rfl := Fin.ext hb
  obtain rfl := Fin.ext hn
  obtain rfl := Fin.ext hd
  have hl := r.isLt
  rw [outEnt, if_neg (by omega)]
  refine (oA_at V _ b' n' r d').trans (Finset.sum_congr rfl fun k _ => congrArg _ ?_)
  refine (pA_at _ b' n' r k).trans (congrArg (fun w : Fin 2304 → EReal => soft w k) (funext fun j => ?_))
  exact (sA_at Q K b' n' r j).trans (congrArg (fun z => score le_rfl Q K b' n' (qRow b' z) j) (Fin.ext hr.symm))

theorem oT_at (Q : Qs) (K V : Ks) (b : Fin 4) (s : Fin 2304) (n : Fin 8) (d : Fin 64) (R : Fin 9216) (L : Fin 512)
    (hR : R.val = b.val * 2304 + s.val) (hL : L.val = n.val * 64 + d.val) :
    oT (hq Q) (hk K) (hk V) (ix2 R L) = outEnt Q K V b s n d := by
  have e1 : R.val / 2304 = b.val := by omega
  have e2 : L.val / 64 = n.val := by omega
  have e3 : L.val % 64 = d.val := by omega
  have e4 : R.val % 2304 = s.val := by omega
  pointwise [oT]
  refine dite_same (fun p => ?_) (fun p => ?_)
  · exact outC_at Q K V b s n d _ _ _ _ e1 e4.symm e2 e3
  · exact outA_at Q K V b s n d _ _ _ _ e1 (show s.val = 256 + (R.val % 2304 - 256) by omega) e2 e3

end Cert.AttnGrad

end

end
-- ==== Proof.AttnGrad.lean ====
/- What the attention gradient leaves in its three result arrays.

   Grid point `t` takes sequence `t / 18`, key pair `t % 18 / 9` and query block `t % 9`. The first query block of a sequence
   sees the first 256 keys only; it also clears the two accumulators, to which every point adds. -/
module

public import proofs.«01_k».proof.Proof.Gen.Kernel2Ideal.Frame
public import proofs.«01_k».proof.Proof.AttnPoint
public import proofs.«01_k».proof.Proof.AttnOut
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnGrad

open Cert.Kernel2Ideal Cert.Kernel2Ideal.Gen Attn

variable (m : (ℓ : Loc nD τ sig) → Buf (Elt Ideal) ℓ)

/-- The argument arrays. -/
abbrev argQ (c : Dev nD) : Qs := m ((c : Thread nD τ).loc main_arg0)
abbrev argK (c : Dev nD) : Ks := m ((c : Thread nD τ).loc main_arg1)
abbrev argV (c : Dev nD) : Ks := m ((c : Thread nD τ).loc main_arg2)
abbrev argC (c : Dev nD) : Qs := m ((c : Thread nD τ).loc main_arg3)

/-- Where each window's block sits at grid point `t`. -/
theorem idx : ∀ t : Fin cfg0.N, win0_0.index t = ![t.val / 18 * 9 + t.val % 9, t.val % 18 / 9]
    ∧ win0_1.index t = ![t.val / 18, t.val % 18 / 9] ∧ win0_2.index t = ![t.val / 18, t.val % 18 / 9]
    ∧ win0_3.index t = ![t.val / 18 * 9 + t.val % 9, t.val % 18 / 9]
    ∧ win0_4.index t = ![t.val / 18 * 9 + t.val % 9, t.val % 18 / 9]
    ∧ win0_5.index t = ![t.val / 18 * 9 + t.val % 9, t.val % 18 / 9]
    ∧ win0_6.index t = ![t.val / 18, t.val % 18 / 9] ∧ win0_7.index t = ![t.val / 18, t.val % 18 / 9] :=
  (by decide +kernel : ∀ t : Fin grid0.N, _)

theorem blkQ (c : Dev nD) (t : Fin cfg0.N) (r l : Fin 256) (R : Fin 9216) (L : Fin 512)
    (hR : R.val = (t.val / 18 * 9 + t.val % 9) * 256 + r.val) (hL : L.val = t.val % 18 / 9 * 256 + l.val) :
    (show FVec Ideal S256x256 .bf16 from iblk m c 0 t) (ix2 r l) = argQ m c (ix2 R L) := by
  blk_ext [iblk, V, idx t]

theorem blkC (c : Dev nD) (t : Fin cfg0.N) (r l : Fin 256) (R : Fin 9216) (L : Fin 512)
    (hR : R.val = (t.val / 18 * 9 + t.val % 9) * 256 + r.val) (hL : L.val = t.val % 18 / 9 * 256 + l.val) :
    (show FVec Ideal S256x256 .bf16 from iblk m c 4 t) (ix2 r l) = argC m c (ix2 R L) := by
  blk_ext [iblk, V, idx t]

theorem blkK (c : Dev nD) (t : Fin cfg0.N) (k : Fin 2304) (l : Fin 128) (R : Fin 9216) (L : Fin 256)
    (hR : R.val = t.val / 18 * 2304 + k.val) (hL : L.val = t.val % 18 / 9 * 128 + l.val) :
    (show FVec Ideal S2304x128 .bf16 from iblk m c 1 t) (ix2 k l) = argK m c (ix2 R L) := by
  blk_ext [iblk, V, idx t]

theorem blkV (c : Dev nD) (t : Fin cfg0.N) (k : Fin 2304) (l : Fin 128) (R : Fin 9216) (L : Fin 256)
    (hR : R.val = t.val / 18 * 2304 + k.val) (hL : L.val = t.val % 18 / 9 * 128 + l.val) :
    (show FVec Ideal S2304x128 .bf16 from iblk m c 2 t) (ix2 k l) = argV m c (ix2 R L) := by
  blk_ext [iblk, V, idx t]

theorem out_at (c : Dev nD) (b : Fin 4) (s : Fin 2304) (n : Fin 8) (d : Fin 64) (R : Fin 9216) (L : Fin 512)
    (hR : R.val = b.val * 2304 + s.val) (hL : L.val = n.val * 64 + d.val) :
    (show FVec Ideal S9216x512 .bf16 from V m c (Pipeline.arrRef spec0 3)) (ix2 R L) = outEnt (argQ m c) (argK m c) (argV m c) b s n d := by
  entry_read
  exact oT_at (argQ m c) (argK m c) (argV m c) b s n d R L hR hL

theorem blkO (c : Dev nD) (t : Fin cfg0.N) (b : Fin 4) (s : Fin 2304) (n : Fin 8) (d : Fin 64) (r l : Fin 256)
    (hR : b.val * 2304 + s.val = (t.val / 18 * 9 + t.val % 9) * 256 + r.val) (hL : n.val * 64 + d.val = t.val % 18 / 9 * 256 + l.val) :
    (show FVec Ideal S256x256 .bf16 from iblk m c 3 t) (ix2 r l) = outEnt (argQ m c) (argK m c) (argV m c) b s n d := by
  refine Eq.trans ?_ (out_at m c b s n d ⟨b.val * 2304 + s.val, by omega⟩ ⟨n.val * 64 + d.val, by omega⟩ rfl rfl)
  blk_ext [iblk, idx t]

/-- The sequence, the key pair and the query block of grid point `t`. -/
def tb (t : Fin cfg0.N) : Fin 4 := ⟨t.val / 18, by have := lt_of_lt_of_eq t.isLt N_0; omega⟩
def th (t : Fin cfg0.N) : Fin 2 := ⟨t.val % 18 / 9, by omega⟩
def ti (t : Fin cfg0.N) : Fin 9 := ⟨t.val % 9, by omega⟩

/-- Row `r` of query block `i` within its sequence. -/
def sRow (i : Fin 9) (r : Fin 256) : Fin 2304 := ⟨i.val * 256 + r.val, by omega⟩

theorem qRow_sRow (b : Fin 4) (i : Fin 9) (r : Fin 256) : qRow b (sRow i r) = bRow b i r :=
  Fin.ext (by show b.val * 2304 + (i.val * 256 + r.val) = b.val * 2304 + i.val * 256 + r.val; omega)

theorem entQ (c : Dev nD) (t : Fin cfg0.N) (j e : Fin 2) (r : Fin 256) (d : Fin 64) (l : Fin 256) (hl : l.val = j.val * 128 + (lane e d).val) :
    (show FVec Ideal S256x256 .bf16 from iblk m c 0 t) (ix2 r l) = qEnt (argQ m c) (bRow (tb t) (ti t) r) (hd (th t) j e) d := by
  refine blkQ m c t r l _ _ ?_ ?_
  · show t.val / 18 * 2304 + t.val % 9 * 256 + r.val = _
    omega
  · show (t.val % 18 / 9 * 4 + j.val * 2 + e.val) * 64 + d.val = _
    change l.val = j.val * 128 + (e.val * 64 + d.val) at hl
    omega

theorem entC (c : Dev nD) (t : Fin cfg0.N) (j e : Fin 2) (r : Fin 256) (d : Fin 64) (l : Fin 256) (hl : l.val = j.val * 128 + (lane e d).val) :
    (show FVec Ideal S256x256 .bf16 from iblk m c 4 t) (ix2 r l) = qEnt (argC m c) (bRow (tb t) (ti t) r) (hd (th t) j e) d := by
  refine blkC m c t r l _ _ ?_ ?_
  · show t.val / 18 * 2304 + t.val % 9 * 256 + r.val = _
    omega
  · show (t.val % 18 / 9 * 4 + j.val * 2 + e.val) * 64 + d.val = _
    change l.val = j.val * 128 + (e.val * 64 + d.val) at hl
    omega

theorem entO (c : Dev nD) (t : Fin cfg0.N) (j e : Fin 2) (r : Fin 256) (d : Fin 64) (l : Fin 256) (hl : l.val = j.val * 128 + (lane e d).val) :
    (show FVec Ideal S256x256 .bf16 from iblk m c 3 t) (ix2 r l)
      = outEnt (argQ m c) (argK m c) (argV m c) (tb t) (sRow (ti t) r) (hd (th t) j e) d := by
  refine blkO m c t _ _ _ _ r l ?_ ?_
  · show t.val / 18 * 2304 + (t.val % 9 * 256 + r.val) = _
    omega
  · show (t.val % 18 / 9 * 4 + j.val * 2 + e.val) * 64 + d.val = _
    change l.val = j.val * 128 + (e.val * 64 + d.val) at hl
    omega

theorem entK {N : ℕ} (hN : N ≤ 2304) (c : Dev nD) (t : Fin cfg0.N) (j e : Fin 2) (k : Fin N) (d : Fin 64) (k' : Fin 2304) (hk : k'.val = k.val) :
    (show FVec Ideal S2304x128 .bf16 from iblk m c 1 t) (ix2 k' (lane e d)) = kEnt hN (argK m c) (tb t) (hd (th t) j e) k d := by
  refine blkK m c t k' _ _ _ ?_ ?_
  · show t.val / 18 * 2304 + k.val = _
    omega
  · show (t.val % 18 / 9 * 4 + j.val * 2 + e.val) / 4 * 128 + (t.val % 18 / 9 * 4 + j.val * 2 + e.val) % 2 * 64 + d.val
      = t.val % 18 / 9 * 128 + (e.val * 64 + d.val)
    omega

theorem entV {N : ℕ} (hN : N ≤ 2304) (c : Dev nD) (t : Fin cfg0.N) (j e : Fin 2) (k : Fin N) (d : Fin 64) (k' : Fin 2304) (hk : k'.val = k.val) :
    (show FVec Ideal S2304x128 .bf16 from iblk m c 2 t) (ix2 k' (lane e d)) = kEnt hN (argV m c) (tb t) (hd (th t) j e) k d := by
  refine blkV m c t k' _ _ _ ?_ ?_
  · show t.val / 18 * 2304 + k.val = _
    omega
  · show (t.val % 18 / 9 * 4 + j.val * 2 + e.val) / 4 * 128 + (t.val % 18 / 9 * 4 + j.val * 2 + e.val) % 2 * 64 + d.val
      = t.val % 18 / 9 * 128 + (e.val * 64 + d.val)
    omega

theorem out_ctx {Q : Qs} {K V : Ks} {b : Fin 4} {i : Fin 9} {r : Fin 256} {n : Fin 8} {d : Fin 64} (hi : i.val = 0) :
    outEnt Q K V b (sRow i r) n d = ∑ k : Fin 256, kEnt ctx_le V b n k d * soft (score ctx_le Q K b n (bRow b i r)) k := by
  have hs : (sRow i r).val < 256 := by show i.val * 256 + r.val < 256; omega
  rw [outEnt, if_pos hs, qRow_sRow]

theorem out_all {Q : Qs} {K V : Ks} {b : Fin 4} {i : Fin 9} {r : Fin 256} {n : Fin 8} {d : Fin 64} (hi : ¬i.val = 0) :
    outEnt Q K V b (sRow i r) n d = ∑ k : Fin 2304, kEnt le_rfl V b n k d * soft (score le_rfl Q K b n (bRow b i r)) k := by
  have hs : ¬(sRow i r).val < 256 := by show ¬i.val * 256 + r.val < 256; omega
  rw [outEnt, if_neg hs, qRow_sRow]

theorem dQs_ctx {Q C : Qs} {K V : Ks} {b : Fin 4} {i : Fin 9} {r : Fin 256} {n : Fin 8} {d : Fin 64} (hi : i.val = 0)
    {x : S9216x512.Idx} (h0 : (x 0).val = (bRow b i r).val) (h1 : (x 1).val = n.val * 64 + d.val) :
    ∑ k : Fin 256, dScore ctx_le Q K V C b n (bRow b i r) k * kEnt ctx_le K b n k d = dQs Q K V C x := by
  change _ = b.val * 2304 + i.val * 256 + r.val at h0
  have hs : (sRow i r).val < 256 := by show i.val * 256 + r.val < 256; omega
  have e0 : (⟨(x 0).val / 2304, by omega⟩ : Fin 4) = b := Fin.ext (by show (x 0).val / 2304 = b.val; omega)
  have e1 : (⟨(x 0).val % 2304, by omega⟩ : Fin 2304) = sRow i r :=
    Fin.ext (by show (x 0).val % 2304 = i.val * 256 + r.val; omega)
  have e2 : (⟨(x 1).val / 64, by omega⟩ : Fin 8) = n := Fin.ext (by show (x 1).val / 64 = n.val; omega)
  have e3 : (⟨(x 1).val % 64, by omega⟩ : Fin 64) = d := Fin.ext (by show (x 1).val % 64 = d.val; omega)
  simp only [dQs, e0, e1, e2, e3]
  rw [dQ, if_pos hs, qRow_sRow]

theorem dQs_all {Q C : Qs} {K V : Ks} {b : Fin 4} {i : Fin 9} {r : Fin 256} {n : Fin 8} {d : Fin 64} (hi : ¬i.val = 0)
    {x : S9216x512.Idx} (h0 : (x 0).val = (bRow b i r).val) (h1 : (x 1).val = n.val * 64 + d.val) :
    ∑ k : Fin 2304, dScore le_rfl Q K V C b n (bRow b i r) k * kEnt le_rfl K b n k d = dQs Q K V C x := by
  change _ = b.val * 2304 + i.val * 256 + r.val at h0
  have hs : ¬(sRow i r).val < 256 := by show ¬i.val * 256 + r.val < 256; omega
  have e0 : (⟨(x 0).val / 2304, by omega⟩ : Fin 4) = b := Fin.ext (by show (x 0).val / 2304 = b.val; omega)
  have e1 : (⟨(x 0).val % 2304, by omega⟩ : Fin 2304) = sRow i r :=
    Fin.ext (by show (x 0).val % 2304 = i.val * 256 + r.val; omega)
  have e2 : (⟨(x 1).val / 64, by omega⟩ : Fin 8) = n := Fin.ext (by show (x 1).val / 64 = n.val; omega)
  have e3 : (⟨(x 1).val % 64, by omega⟩ : Fin 64) = d := Fin.ext (by show (x 1).val % 64 = d.val; omega)
  simp only [dQs, e0, e1, e2, e3]
  rw [dQ, if_neg hs, qRow_sRow]

theorem lane_cases (l : Fin 128) : ∃ (e : Fin 2) (d : Fin 64), l = lane e d :=
  ⟨⟨l.val / 64, by omega⟩, ⟨l.val % 64, by omega⟩, Fin.ext (by show l.val = l.val / 64 * 64 + l.val % 64; omega)⟩

variable {m} {c : Dev nD} (hQ : Re (argQ m c)) (hK : Re (argK m c)) (hV : Re (argV m c)) (hC : Re (argC m c))

include hQ hK hV hC in
set_option maxHeartbeats 1600000 in
/-- The queries' gradient, as the run leaves it. -/
theorem final5 : (dats m 0 c).arrAt 5 (cfgs 0).N = dQs (argQ m c) (argK m c) (argV m c) (argC m c) := by
  refine (dats m 0 c).arrAt_eq_of_covers 5 _ (by decide +kernel) fun t _ y => ?_
  blk_simp
  rw [after0_5]
  by_cases h : t.val % 9 = 0
  · rw [outsAt0_A m c t h h (by omega)]
    frame_out
    canon_tiles x hx
    · idx_vars x
      obtain ⟨e, d, rfl⟩ := lane_cases x1
      refine (dq2_at_ctx (b := tb t) (h := th t) (i := ti t) (j := 1) hQ hK hV hC ?_ ?_ ?_ ?_ ?_ e x0 d).trans ?_
      · intro j e k d; pointwise; exact entK m _ c t j e k d _ rfl
      · intro j e k d; pointwise; exact entV m _ c t j e k d _ rfl
      · intro e r d; pointwise; exact entQ m c t 1 e r d _ (by show 128 + (lane e d).val = 1 * 128 + (lane e d).val; omega)
      · intro e r d; pointwise; exact entC m c t 1 e r d _ (by show 128 + (lane e d).val = 1 * 128 + (lane e d).val; omega)
      · intro e r d; pointwise; exact (entO m c t 1 e r d _ (by show 128 + (lane e d).val = 1 * 128 + (lane e d).val; omega)).trans (out_ctx h)
      refine dQs_ctx h ?_ ?_
      · blk_simp [idx t]
        show _ = t.val / 18 * 2304 + t.val % 9 * 256 + x0.val
        omega
      · blk_simp [idx t]
        change (y 1).val = 128 + (e.val * 64 + d.val) at hx1
        show _ = (t.val % 18 / 9 * 4 + 1 * 2 + e.val) * 64 + d.val
        omega
    · idx_vars x
      obtain ⟨e, d, rfl⟩ := lane_cases x1
      refine (dq_at_ctx (b := tb t) (h := th t) (i := ti t) (j := 0) hQ hK hV hC ?_ ?_ ?_ ?_ ?_ e x0 d).trans ?_
      · intro j e k d; pointwise; exact entK m _ c t j e k d _ rfl
      · intro j e k d; pointwise; exact entV m _ c t j e k d _ rfl
      · intro e r d; pointwise; exact entQ m c t 0 e r d _ (by show (lane e d).val = 0 * 128 + (lane e d).val; omega)
      · intro e r d; pointwise; exact entC m c t 0 e r d _ (by show (lane e d).val = 0 * 128 + (lane e d).val; omega)
      · intro e r d; pointwise; exact (entO m c t 0 e r d _ (by show (lane e d).val = 0 * 128 + (lane e d).val; omega)).trans (out_ctx h)
      refine dQs_ctx h ?_ ?_
      · blk_simp [idx t]
        show _ = t.val / 18 * 2304 + t.val % 9 * 256 + x0.val
        omega
      · blk_simp [idx t]
        change (y 1).val = (e.val * 64 + d.val) at hx1
        show _ = (t.val % 18 / 9 * 4 + 0 * 2 + e.val) * 64 + d.val
        omega
  · rw [outsAt0_B m c t h h (by omega)]
    frame_out
    canon_tiles x hx
    · idx_vars x
      obtain ⟨e, d, rfl⟩ := lane_cases x1
      refine (dq2_at_all (b := tb t) (h := th t) (i := ti t) (j := 1) hQ hK hV hC ?_ ?_ ?_ ?_ ?_ e x0 d).trans ?_
      · intro j e k d; exact entK m _ c t j e k d _ rfl
      · intro j e k d; exact entV m _ c t j e k d _ rfl
      · intro e r d; pointwise; exact entQ m c t 1 e r d _ (by show 128 + (lane e d).val = 1 * 128 + (lane e d).val; omega)
      · intro e r d; pointwise; exact entC m c t 1 e r d _ (by show 128 + (lane e d).val = 1 * 128 + (lane e d).val; omega)
      · intro e r d; pointwise; exact (entO m c t 1 e r d _ (by show 128 + (lane e d).val = 1 * 128 + (lane e d).val; omega)).trans (out_all h)
      refine dQs_all h ?_ ?_
      · blk_simp [idx t]
        show _ = t.val / 18 * 2304 + t.val % 9 * 256 + x0.val
        omega
      · blk_simp [idx t]
        change (y 1).val = 128 + (e.val * 64 + d.val) at hx1
        show _ = (t.val % 18 / 9 * 4 + 1 * 2 + e.val) * 64 + d.val
        omega
    · idx_vars x
      obtain ⟨e, d, rfl⟩ := lane_cases x1
      refine (dq_at_all (b := tb t) (h := th t) (i := ti t) (j := 0) hQ hK hV hC ?_ ?_ ?_ ?_ ?_ e x0 d).trans ?_
      · intro j e k d; exact entK m _ c t j e k d _ rfl
      · intro j e k d; exact entV m _ c t j e k d _ rfl
      · intro e r d; pointwise; exact entQ m c t 0 e r d _ (by show (lane e d).val = 0 * 128 + (lane e d).val; omega)
      · intro e r d; pointwise; exact entC m c t 0 e r d _ (by show (lane e d).val = 0 * 128 + (lane e d).val; omega)
      · intro e r d; pointwise; exact (entO m c t 0 e r d _ (by show (lane e d).val = 0 * 128 + (lane e d).val; omega)).trans (out_all h)
      refine dQs_all h ?_ ?_
      · blk_simp [idx t]
        show _ = t.val / 18 * 2304 + t.val % 9 * 256 + x0.val
        omega
      · blk_simp [idx t]
        change (y 1).val = (e.val * 64 + d.val) at hx1
        show _ = (t.val % 18 / 9 * 4 + 0 * 2 + e.val) * 64 + d.val
        omega

/-- What grid point `t` adds to the keys' gradient. -/
def ptK (m : (ℓ : Loc nD τ sig) → Buf (Elt Ideal) ℓ) (c : Dev nD) (b : Fin 4) (h e : Fin 2) (k : Fin 2304) (d : Fin 64) (i : Fin 9) : EReal :=
  part (fun n R => dScore ctx_le (argQ m c) (argK m c) (argV m c) (argC m c) b n R) (fun n R => dScore le_rfl (argQ m c) (argK m c) (argV m c) (argC m c) b n R) (argQ m c) b h e i k d

include hQ hK hV hC in
theorem dk_first (t : Fin cfg0.N) (h : t.val % 9 = 0) (e : Fin 2) (k : Fin 2304) (d : Fin 64) :
    (outsAt0 m c t.val t.isLt).2.1 (ix2 k (lane e d)) = ptK m c (tb t) (th t) e k d 0 := by
  rw [outsAt0_A m c t h h (by omega), ptK, part, if_pos rfl]
  frame_out
  have hi : ti t = 0 := Fin.ext h
  by_cases hk : k.val < 256
  · rw [dif_pos hk]
    have ei : (ix2 k (lane e d) : S2304x128.Idx)
        = (Rect.unit ![0, 0] ![256, 128] inb_S2304x128_S256x128_0_0).emb (ix2 ⟨k.val, hk⟩ (lane e d)) := by
      idx_ext
    rw [ei, View.canon_cons_emb, View.readCov_fill _ _ _ _ _ (by decide)]
    refine (dk_at_ctx (C := argC m c) (b := tb t) (h := th t) (i := ti t) hQ hK hV hC ?_ ?_ ?_ ?_ ?_ ?_ ?_ ?_ _ e ⟨k.val, hk⟩ d).trans ?_
    · intro j e k d; pointwise; exact entK m _ c t j e k d _ rfl
    · intro j e k d; pointwise; exact entV m _ c t j e k d _ rfl
    · intro e r d; pointwise; exact entQ m c t 0 e r d _ (by show (lane e d).val = 0 * 128 + (lane e d).val; omega)
    · intro e r d; pointwise; exact entC m c t 0 e r d _ (by show (lane e d).val = 0 * 128 + (lane e d).val; omega)
    · intro e r d; pointwise; exact (entO m c t 0 e r d _ (by show (lane e d).val = 0 * 128 + (lane e d).val; omega)).trans (out_ctx h)
    · intro e r d; pointwise; exact entQ m c t 1 e r d _ (by show 128 + (lane e d).val = 1 * 128 + (lane e d).val; omega)
    · intro e r d; pointwise; exact entC m c t 1 e r d _ (by show 128 + (lane e d).val = 1 * 128 + (lane e d).val; omega)
    · intro e r d; pointwise; exact (entO m c t 1 e r d _ (by show 128 + (lane e d).val = 1 * 128 + (lane e d).val; omega)).trans (out_ctx h)
    rw [hi]
    refine Eq.trans (congrArg (fun z : EReal => z + _) ?_) (zero_add _)
    pointwise
    exact zero_k _
  · rw [dif_neg hk]
    refine (View.canon_cons_of_not_mem _ _ ?_).trans ?_
    · rw [Rect.mem_set_unit]
      exact fun q => hk (lt_of_lt_of_le (q 0).2 (by decide))
    · rw [View.canon_cons_unit_lit]
      · exact zero_k _
      · decide

include hQ hK hV hC in
theorem dk_next (t : Fin cfg0.N) (h : ¬t.val % 9 = 0) (e : Fin 2) (k : Fin 2304) (d : Fin 64) :
    (outsAt0 m c t.val t.isLt).2.1 (ix2 k (lane e d))
      = (outsAt0 m c (t.val - 1) (lt_of_le_of_lt (Nat.sub_le _ _) t.isLt)).2.1 (ix2 k (lane e d)) + ptK m c (tb t) (th t) e k d (ti t) := by
  have hi : ¬ti t = 0 := fun q => h (congrArg Fin.val q)
  rw [outsAt0_B m c t h h (by omega), ptK, part, if_neg hi]
  frame_out
  refine (dk_at_all (C := argC m c) (b := tb t) (h := th t) (i := ti t) hQ hK hV hC ?_ ?_ ?_ ?_ ?_ ?_ ?_ ?_ _ e k d).trans ?_
  · intro j e k d; exact entK m _ c t j e k d _ rfl
  · intro j e k d; exact entV m _ c t j e k d _ rfl
  · intro e r d; pointwise; exact entQ m c t 0 e r d _ (by show (lane e d).val = 0 * 128 + (lane e d).val; omega)
  · intro e r d; pointwise; exact entC m c t 0 e r d _ (by show (lane e d).val = 0 * 128 + (lane e d).val; omega)
  · intro e r d; pointwise; exact (entO m c t 0 e r d _ (by show (lane e d).val = 0 * 128 + (lane e d).val; omega)).trans (out_all h)
  · intro e r d; pointwise; exact entQ m c t 1 e r d _ (by show 128 + (lane e d).val = 1 * 128 + (lane e d).val; omega)
  · intro e r d; pointwise; exact entC m c t 1 e r d _ (by show 128 + (lane e d).val = 1 * 128 + (lane e d).val; omega)
  · intro e r d; pointwise; exact (entO m c t 1 e r d _ (by show 128 + (lane e d).val = 1 * 128 + (lane e d).val; omega)).trans (out_all h)
  rfl

include hQ hK hV hC in
/-- After point `n`, the accumulator holds what the points of the group have added. -/
theorem dk_acc : ∀ (n : ℕ) (hn : n < cfg0.N) (e : Fin 2) (k : Fin 2304) (d : Fin 64),
    (outsAt0 m c n hn).2.1 (ix2 k (lane e d))
      = ∑ i ∈ Finset.range (n % 9 + 1), if hi : i < 9 then ptK m c (tb ⟨n, hn⟩) (th ⟨n, hn⟩) e k d ⟨i, hi⟩ else 0 := by
  have first : ∀ (n : ℕ) (hn : n < cfg0.N) (e : Fin 2) (k : Fin 2304) (d : Fin 64), n % 9 = 0 → (outsAt0 m c n hn).2.1 (ix2 k (lane e d))
      = ∑ i ∈ Finset.range (n % 9 + 1), if hi : i < 9 then ptK m c (tb ⟨n, hn⟩) (th ⟨n, hn⟩) e k d ⟨i, hi⟩ else 0 := by
    intro n hn e k d h
    rw [h, Finset.sum_range_one, dif_pos (by omega)]
    exact dk_first hQ hK hV hC ⟨n, hn⟩ h e k d
  intro n
  induction n with
  | zero => exact fun hn e k d => first 0 hn e k d rfl
  | succ n ih =>
    intro hn e k d
    by_cases h : (n + 1) % 9 = 0
    · exact first (n + 1) hn e k d h
    · have hb : tb ⟨n + 1, hn⟩ = tb ⟨n, Nat.lt_of_succ_lt hn⟩ := Fin.ext (by show (n + 1) / 18 = n / 18; omega)
      have hh : th ⟨n + 1, hn⟩ = th ⟨n, Nat.lt_of_succ_lt hn⟩ := Fin.ext (by show (n + 1) % 18 / 9 = n % 18 / 9; omega)
      have hm : (n + 1) % 9 = n % 9 + 1 := by omega
      refine (dk_next hQ hK hV hC ⟨n + 1, hn⟩ h e k d).trans ?_
      rw [Finset.sum_range_succ, dif_pos (by omega), hb, hh]
      exact congrArg₂ (fun x y : EReal => x + y) ((ih (Nat.lt_of_succ_lt hn) e k d).trans (by rw [hm])) rfl

include hQ hK hV hC in
theorem dk_last (t : Fin cfg0.N) (ht : t.val % 9 = 8) (y : S2304x128.Idx) (x : S9216x256.Idx)
    (h0 : (x 0).val = t.val / 18 * 2304 + (y 0).val) (h1 : (x 1).val = t.val % 18 / 9 * 128 + (y 1).val) :
    (outsAt0 m c t.val t.isLt).2.1 y = dKs (argQ m c) (argK m c) (argV m c) (argC m c) x := by
  have hN := lt_of_lt_of_eq t.isLt N_0
  idx_vars y
  obtain ⟨e, d, rfl⟩ := lane_cases y1
  change (x 0).val = t.val / 18 * 2304 + y0.val at h0
  change (x 1).val = t.val % 18 / 9 * 128 + (e.val * 64 + d.val) at h1
  have e0 : (⟨(x 0).val / 2304, by omega⟩ : Fin 4) = tb t := Fin.ext (by show (x 0).val / 2304 = t.val / 18; omega)
  have e1 : (⟨(x 1).val / 128, by omega⟩ : Fin 2) = th t := Fin.ext (by show (x 1).val / 128 = t.val % 18 / 9; omega)
  have e2 : (⟨(x 1).val % 128 / 64, by omega⟩ : Fin 2) = e := Fin.ext (by show (x 1).val % 128 / 64 = e.val; omega)
  have e3 : (⟨(x 0).val % 2304, by omega⟩ : Fin 2304) = y0 := Fin.ext (by show (x 0).val % 2304 = y0.val; omega)
  have e4 : (⟨(x 1).val % 64, by omega⟩ : Fin 64) = d := Fin.ext (by show (x 1).val % 64 = d.val; omega)
  simp only [dKs, e0, e1, e2, e3, e4]
  rw [dk_acc hQ hK hV hC, ht, Finset.sum_range]
  exact Finset.sum_congr rfl fun i _ => dif_pos i.isLt

theorem flush6 : ∀ t : Fin cfg0.N, (win0 6).flush t = true → t.val % 9 = 8 :=
  (by decide +kernel : ∀ t : Fin grid0.N, _)

include hQ hK hV hC in
/-- The keys' gradient, as the run leaves it. -/
theorem final6 : (dats m 0 c).arrAt 6 (cfgs 0).N = dKs (argQ m c) (argK m c) (argV m c) (argC m c) := by
  refine (dats m 0 c).arrAt_eq_of_covers 6 _ (by decide +kernel) fun t ht y => ?_
  blk_simp
  rw [after0_6]
  exact dk_last hQ hK hV hC t (flush6 t ht) _ _ (by blk_simp [idx t]) (by blk_simp [idx t])

/-- What grid point `t` adds to the values' gradient. -/
def ptV (m : (ℓ : Loc nD τ sig) → Buf (Elt Ideal) ℓ) (c : Dev nD) (b : Fin 4) (h e : Fin 2) (k : Fin 2304) (d : Fin 64) (i : Fin 9) : EReal :=
  part (fun n R => soft (score ctx_le (argQ m c) (argK m c) b n R)) (fun n R => soft (score le_rfl (argQ m c) (argK m c) b n R)) (argC m c) b h e i k d

include hQ hK in
theorem dv_first (t : Fin cfg0.N) (h : t.val % 9 = 0) (e : Fin 2) (k : Fin 2304) (d : Fin 64) :
    (outsAt0 m c t.val t.isLt).2.2 (ix2 k (lane e d)) = ptV m c (tb t) (th t) e k d 0 := by
  rw [outsAt0_A m c t h h (by omega), ptV, part, if_pos rfl]
  frame_out
  have hi : ti t = 0 := Fin.ext h
  by_cases hk : k.val < 256
  · rw [dif_pos hk]
    have ei : (ix2 k (lane e d) : S2304x128.Idx)
        = (Rect.unit ![0, 0] ![256, 128] inb_S2304x128_S256x128_0_0).emb (ix2 ⟨k.val, hk⟩ (lane e d)) := by
      idx_ext
    rw [ei, View.canon_cons_emb, View.readCov_fill _ _ _ _ _ (by decide)]
    refine (dv_at_ctx (C := argC m c) (b := tb t) (h := th t) (i := ti t) hQ hK ?_ ?_ ?_ ?_ ?_ _ e ⟨k.val, hk⟩ d).trans ?_
    · intro j e k d; pointwise; exact entK m _ c t j e k d _ rfl
    · intro e r d; pointwise; exact entQ m c t 0 e r d _ (by show (lane e d).val = 0 * 128 + (lane e d).val; omega)
    · intro e r d; pointwise; exact entC m c t 0 e r d _ (by show (lane e d).val = 0 * 128 + (lane e d).val; omega)
    · intro e r d; pointwise; exact entQ m c t 1 e r d _ (by show 128 + (lane e d).val = 1 * 128 + (lane e d).val; omega)
    · intro e r d; pointwise; exact entC m c t 1 e r d _ (by show 128 + (lane e d).val = 1 * 128 + (lane e d).val; omega)
    rw [hi]
    refine Eq.trans (congrArg (fun z : EReal => z + _) ?_) (zero_add _)
    pointwise
    exact zero_v _
  · rw [dif_neg hk]
    refine (View.canon_cons_of_not_mem _ _ ?_).trans ?_
    · rw [Rect.mem_set_unit]
      exact fun q => hk (lt_of_lt_of_le (q 0).2 (by decide))
    · rw [View.canon_cons_unit_lit]
      · exact zero_v _
      · decide

include hQ hK in
theorem dv_next (t : Fin cfg0.N) (h : ¬t.val % 9 = 0) (e : Fin 2) (k : Fin 2304) (d : Fin 64) :
    (outsAt0 m c t.val t.isLt).2.2 (ix2 k (lane e d))
      = (outsAt0 m c (t.val - 1) (lt_of_le_of_lt (Nat.sub_le _ _) t.isLt)).2.2 (ix2 k (lane e d)) + ptV m c (tb t) (th t) e k d (ti t) := by
  have hi : ¬ti t = 0 := fun q => h (congrArg Fin.val q)
  rw [outsAt0_B m c t h h (by omega), ptV, part, if_neg hi]
  frame_out
  refine (dv_at_all (C := argC m c) (b := tb t) (h := th t) (i := ti t) hQ hK ?_ ?_ ?_ ?_ ?_ _ e k d).trans ?_
  · intro j e k d; exact entK m _ c t j e k d _ rfl
  · intro e r d; pointwise; exact entQ m c t 0 e r d _ (by show (lane e d).val = 0 * 128 + (lane e d).val; omega)
  · intro e r d; pointwise; exact entC m c t 0 e r d _ (by show (lane e d).val = 0 * 128 + (lane e d).val; omega)
  · intro e r d; pointwise; exact entQ m c t 1 e r d _ (by show 128 + (lane e d).val = 1 * 128 + (lane e d).val; omega)
  · intro e r d; pointwise; exact entC m c t 1 e r d _ (by show 128 + (lane e d).val = 1 * 128 + (lane e d).val; omega)
  rfl

include hQ hK in
/-- After point `n`, the accumulator holds what the points of the group have added. -/
theorem dv_acc : ∀ (n : ℕ) (hn : n < cfg0.N) (e : Fin 2) (k : Fin 2304) (d : Fin 64),
    (outsAt0 m c n hn).2.2 (ix2 k (lane e d))
      = ∑ i ∈ Finset.range (n % 9 + 1), if hi : i < 9 then ptV m c (tb ⟨n, hn⟩) (th ⟨n, hn⟩) e k d ⟨i, hi⟩ else 0 := by
  have first : ∀ (n : ℕ) (hn : n < cfg0.N) (e : Fin 2) (k : Fin 2304) (d : Fin 64), n % 9 = 0 → (outsAt0 m c n hn).2.2 (ix2 k (lane e d))
      = ∑ i ∈ Finset.range (n % 9 + 1), if hi : i < 9 then ptV m c (tb ⟨n, hn⟩) (th ⟨n, hn⟩) e k d ⟨i, hi⟩ else 0 := by
    intro n hn e k d h
    rw [h, Finset.sum_range_one, dif_pos (by omega)]
    exact dv_first hQ hK ⟨n, hn⟩ h e k d
  intro n
  induction n with
  | zero => exact fun hn e k d => first 0 hn e k d rfl
  | succ n ih =>
    intro hn e k d
    by_cases h : (n + 1) % 9 = 0
    · exact first (n + 1) hn e k d h
    · have hb : tb ⟨n + 1, hn⟩ = tb ⟨n, Nat.lt_of_succ_lt hn⟩ := Fin.ext (by show (n + 1) / 18 = n / 18; omega)
      have hh : th ⟨n + 1, hn⟩ = th ⟨n, Nat.lt_of_succ_lt hn⟩ := Fin.ext (by show (n + 1) % 18 / 9 = n % 18 / 9; omega)
      have hm : (n + 1) % 9 = n % 9 + 1 := by omega
      refine (dv_next hQ hK ⟨n + 1, hn⟩ h e k d).trans ?_
      rw [Finset.sum_range_succ, dif_pos (by omega), hb, hh]
      exact congrArg₂ (fun x y : EReal => x + y) ((ih (Nat.lt_of_succ_lt hn) e k d).trans (by rw [hm])) rfl

include hQ hK in
theorem dv_last (t : Fin cfg0.N) (ht : t.val % 9 = 8) (y : S2304x128.Idx) (x : S9216x256.Idx)
    (h0 : (x 0).val = t.val / 18 * 2304 + (y 0).val) (h1 : (x 1).val = t.val % 18 / 9 * 128 + (y 1).val) :
    (outsAt0 m c t.val t.isLt).2.2 y = dVs (argQ m c) (argK m c) (argC m c) x := by
  have hN := lt_of_lt_of_eq t.isLt N_0
  idx_vars y
  obtain ⟨e, d, rfl⟩ := lane_cases y1
  change (x 0).val = t.val / 18 * 2304 + y0.val at h0
  change (x 1).val = t.val % 18 / 9 * 128 + (e.val * 64 + d.val) at h1
  have e0 : (⟨(x 0).val / 2304, by omega⟩ : Fin 4) = tb t := Fin.ext (by show (x 0).val / 2304 = t.val / 18; omega)
  have e1 : (⟨(x 1).val / 128, by omega⟩ : Fin 2) = th t := Fin.ext (by show (x 1).val / 128 = t.val % 18 / 9; omega)
  have e2 : (⟨(x 1).val % 128 / 64, by omega⟩ : Fin 2) = e := Fin.ext (by show (x 1).val % 128 / 64 = e.val; omega)
  have e3 : (⟨(x 0).val % 2304, by omega⟩ : Fin 2304) = y0 := Fin.ext (by show (x 0).val % 2304 = y0.val; omega)
  have e4 : (⟨(x 1).val % 64, by omega⟩ : Fin 64) = d := Fin.ext (by show (x 1).val % 64 = d.val; omega)
  simp only [dVs, e0, e1, e2, e3, e4]
  rw [dv_acc hQ hK, ht, Finset.sum_range]
  exact Finset.sum_congr rfl fun i _ => dif_pos i.isLt

theorem flush7 : ∀ t : Fin cfg0.N, (win0 7).flush t = true → t.val % 9 = 8 :=
  (by decide +kernel : ∀ t : Fin grid0.N, _)

include hQ hK in
/-- The values' gradient, as the run leaves it. -/
theorem final7 : (dats m 0 c).arrAt 7 (cfgs 0).N = dVs (argQ m c) (argK m c) (argC m c) := by
  refine (dats m 0 c).arrAt_eq_of_covers 7 _ (by decide +kernel) fun t ht y => ?_
  blk_simp
  rw [after0_7]
  exact dv_last hQ hK t (flush7 t ht) _ _ (by blk_simp [idx t]) (by blk_simp [idx t])

end Cert.AttnGrad

end

end
-- ==== Proof.AttnRef.lean ====
/- The reference's gradient of attention, read entry by entry. -/
module

public import proofs.«01_k».proof.Proof.Gen.Reference2Ideal.Read
public import proofs.«01_k».proof.Proof.AttnOut

@[expose] public section

set_option maxRecDepth 16384

noncomputable section

open Idealize.ShloMosaic Idealize.ShloMosaic.TcCoe Idealize.SL.Sem

namespace Cert.AttnRef

open Cert.Reference2Ideal Cert.Reference2Ideal.Gen Attn AttnGrad

/-- The sums of a row's exponentials, kept as a column, and the gradient of the scores from the gradient of their softmax. -/
def kC (e : FVec Ideal S4x8x256x256 .f32) : FVec Ideal S4x8x256x1 .f32 :=
  broadcastInDim S4x8x256x1 ![0, 1, 2] bcast_S4x8x256_S4x8x256x1_0_1_2 (Host.reduceAdd e (constant S_ .f32 0x00000000#32) reducesTo_S4x8x256x256_S4x8x256_d3 h_S_)

def aC (g e : FVec Ideal S4x8x256x256 .f32) (z : FVec Ideal S4x8x256x1 .f32) : FVec Ideal S4x8x256 .f32 :=
  Host.reduceAdd (mulf (mulf g (broadcastInDim S4x8x256x256 ![0, 1, 2, 3] bcast_S4x8x256x1_S4x8x256x256_0_1_2_3
    (Host.divf (broadcastInDim S4x8x256x1 ![] bcast_S_S4x8x256x1 (constant S_ .f32 0x3F800000#32)) (mulf z z)))) e)
    (constant S_ .f32 0x00000000#32) reducesTo_S4x8x256x256_S4x8x256_d3 h_S_

def bC (a : FVec Ideal S4x8x256 .f32) : FVec Ideal S4x8x256 .f32 :=
  Host.reduceAdd (Host.negf (shapeCast S4x8x256x1 a shapeCasts_S4x8x256_S4x8x256x1)) (constant S_ .f32 0x00000000#32) reducesTo_S4x8x256x1_S4x8x256_d3 h_S_

def dC (g e : FVec Ideal S4x8x256x256 .f32) (z : FVec Ideal S4x8x256x1 .f32) : FVec Ideal S4x8x256x256 .f32 :=
  mulf (addf (Host.divf g (broadcastInDim S4x8x256x256 ![0, 1, 2, 3] bcast_S4x8x256x1_S4x8x256x256_0_1_2_3 z))
    (broadcastInDim S4x8x256x256 ![0, 1, 2] bcast_S4x8x256_S4x8x256x256_0_1_2 (bC (aC g e z)))) e

theorem kC_at (e : FVec Ideal S4x8x256x256 .f32) (b : Fin 4) (n : Fin 8) (r : Fin 256) : kC e (ix4 b n r 0) = ∑ k, e (ix4 b n r k) := by
  pointwise [kC]

theorem aC_at (g e : FVec Ideal S4x8x256x256 .f32) (z : FVec Ideal S4x8x256x1 .f32) (b : Fin 4) (n : Fin 8) (r : Fin 256) :
    aC g e z (ix3 b n r) = ∑ j : Fin 256, g (ix4 b n r j) * Ideal.div 1 (z (ix4 b n r 0) * z (ix4 b n r 0)) * e (ix4 b n r j) := by
  pointwise [aC]

theorem bC_at (a : FVec Ideal S4x8x256 .f32) (b : Fin 4) (n : Fin 8) (r : Fin 256) : bC a (ix3 b n r) = -a (ix3 b n r) := by
  pointwise [bC]
  exact Fin.sum_univ_one _

theorem dC_at (g e : FVec Ideal S4x8x256x256 .f32) (z : FVec Ideal S4x8x256x1 .f32) (b : Fin 4) (n : Fin 8) (r : Fin 256) (k : Fin 256) :
    dC g e z (ix4 b n r k) = (Ideal.div (g (ix4 b n r k)) (z (ix4 b n r 0))
      + -∑ j : Fin 256, g (ix4 b n r j) * Ideal.div 1 (z (ix4 b n r 0) * z (ix4 b n r 0)) * e (ix4 b n r j)) * e (ix4 b n r k) := by
  pointwise [dC, bC_at, aC_at]

/-- The products: the weights' gradient, and the values', keys' and queries' gradients. -/
def gC (c v : FVec Ideal S4x2304x8x64 .f32) : FVec Ideal S4x8x256x256 .f32 := Host.dotGeneral dot_S4x8x64x256_S4x256x8x64_S4x8x256x256_2_3_3_1_01_02 none
  (transpose S4x8x64x256 [0, 2, 3, 1] (extractStridedSlice S4x256x8x64 ![0, 0, 0, 0] c slices_S4x2304x8x64_S4x256x8x64_0_0_0_0) transposes_S4x256x8x64_S4x8x64x256_0_2_3_1) (extractStridedSlice S4x256x8x64 ![0, 0, 0, 0] v slices_S4x2304x8x64_S4x256x8x64_0_0_0_0)

def vC (c : FVec Ideal S4x2304x8x64 .f32) (p : FVec Ideal S4x8x256x256 .f32) : FVec Ideal S4x256x8x64 .f32 :=
  transpose S4x256x8x64 [0, 3, 1, 2] (Host.dotGeneral dot_S4x8x64x256_S4x8x256x256_S4x8x64x256_3_2_2_3_01_01 none
    (transpose S4x8x64x256 [0, 2, 3, 1] (extractStridedSlice S4x256x8x64 ![0, 0, 0, 0] c slices_S4x2304x8x64_S4x256x8x64_0_0_0_0) transposes_S4x256x8x64_S4x8x64x256_0_2_3_1) p) transposes_S4x8x64x256_S4x256x8x64_0_3_1_2

def yC (q : FVec Ideal S4x2304x8x64 .f32) (d : FVec Ideal S4x8x256x256 .f32) : FVec Ideal S4x256x8x64 .f32 :=
  transpose S4x256x8x64 [0, 2, 1, 3] (Host.dotGeneral dot_S4x8x256x256_S4x256x8x64_S4x8x256x64_2_1_3_3_01_02 none d (extractStridedSlice S4x256x8x64 ![0, 0, 0, 0] q slices_S4x2304x8x64_S4x256x8x64_0_0_0_0)) transposes_S4x8x256x64_S4x256x8x64_0_2_1_3

def xC (k : FVec Ideal S4x2304x8x64 .f32) (d : FVec Ideal S4x8x256x256 .f32) : FVec Ideal S4x256x8x64 .f32 :=
  transpose S4x256x8x64 [0, 2, 1, 3] (Host.dotGeneral dot_S4x8x256x256_S4x256x8x64_S4x8x256x64_3_1_2_3_01_02 none d (extractStridedSlice S4x256x8x64 ![0, 0, 0, 0] k slices_S4x2304x8x64_S4x256x8x64_0_0_0_0)) transposes_S4x8x256x64_S4x256x8x64_0_2_1_3

theorem rowC (Q : Qs) (b : Fin 4) (s : Fin 256) (n : Fin 8) (d : Fin 64) (h : s.val < 2304) :
    hq Q (ix4 b ⟨s.val, h⟩ n d) = qEnt Q (qRow b ⟨s.val, h⟩) n d := hq_at Q b _ n d

theorem gC_at (C : Qs) (V : Ks) (b : Fin 4) (n : Fin 8) (s : Fin 256) (k : Fin 256) :
    gC (hq C) (hk V) (ix4 b n s k) = score ctx_le C V b n (qRow b ⟨s.val, by omega⟩) k := by
  have hkl := k.isLt
  pointwise [gC]
  exact Finset.sum_congr rfl fun d _ => Ideal.mul_congr (rowC C b s n d _) (hk_at V b ⟨k.val, by omega⟩ n d)

theorem vC_at (C : Qs) (p : FVec Ideal S4x8x256x256 .f32) (b : Fin 4) (n : Fin 8) (k : Fin 256) (d : Fin 64) :
    vC (hq C) p (ix4 b k n d) = ∑ s : Fin 256, p (ix4 b n s k) * qEnt C (qRow b ⟨s.val, by omega⟩) n d := by
  pointwise [vC]
  exact Finset.sum_congr rfl fun s _ => (Ideal.mul_congr (rowC C b s n d _) rfl).trans (mul_comm _ _)

theorem yC_at (Q : Qs) (p : FVec Ideal S4x8x256x256 .f32) (b : Fin 4) (n : Fin 8) (k : Fin 256) (d : Fin 64) :
    yC (hq Q) p (ix4 b k n d) = ∑ s : Fin 256, p (ix4 b n s k) * qEnt Q (qRow b ⟨s.val, by omega⟩) n d := by
  pointwise [yC]
  exact Finset.sum_congr rfl fun s _ => Ideal.mul_congr rfl (rowC Q b s n d _)

theorem xC_at (K : Ks) (p : FVec Ideal S4x8x256x256 .f32) (b : Fin 4) (n : Fin 8) (s : Fin 256) (d : Fin 64) :
    xC (hk K) p (ix4 b s n d) = ∑ k : Fin 256, p (ix4 b n s k) * kEnt ctx_le K b n k d := by
  pointwise [xC]
  exact Finset.sum_congr rfl fun k _ => Ideal.mul_congr rfl (hk_at K b ⟨k.val, by omega⟩ n d)

/-- The gradient of the scores, from the arguments. -/
def wC (Q : Qs) (K V : Ks) (C : Qs) : FVec Ideal S4x8x256x256 .f32 :=
  dC (gC (hq C) (hk V)) (eC (sC (hq Q) (hk K))) (kC (eC (sC (hq Q) (hk K))))

theorem eC_score (Q : Qs) (K : Ks) (b : Fin 4) (n : Fin 8) (s : Fin 256) (k : Fin 256) :
    eC (sC (hq Q) (hk K)) (ix4 b n s k) = ex (score ctx_le Q K b n (qRow b ⟨s.val, by omega⟩)) k :=
  (eC_at _ b n s k).trans (congrArg (fun f : Fin 256 → EReal => ex f k) (funext fun j => sC_at Q K b n s j))

theorem pC_score (Q : Qs) (K : Ks) (b : Fin 4) (n : Fin 8) (s : Fin 256) (k : Fin 256) :
    pC (sC (hq Q) (hk K)) (ix4 b n s k) = soft (score ctx_le Q K b n (qRow b ⟨s.val, by omega⟩)) k :=
  (pC_at _ b n s k).trans (congrArg (fun f : Fin 256 → EReal => soft f k) (funext fun j => sC_at Q K b n s j))

theorem wC_at {Q : Qs} {K V : Ks} {C : Qs} (hQ : Re Q) (hK : Re K) (hV : Re V) (hC : Re C) (b : Fin 4) (n : Fin 8) (s : Fin 256)
    (k : Fin 256) : wC Q K V C (ix4 b n s k) = dScore ctx_le Q K V C b n (qRow b ⟨s.val, by omega⟩) k := by
  have hz : kC (eC (sC (hq Q) (hk K))) (ix4 b n s 0) = tot (score ctx_le Q K b n (qRow b ⟨s.val, by omega⟩)) :=
    (kC_at _ b n s).trans (Finset.sum_congr rfl fun j _ => eC_score Q K b n s j)
  rw [wC, dC_at, hz]
  simp only [gC_at, eC_score]
  exact softGrad_quot (by omega) (score_re hQ hK b n _) (score_re hC hV b n _) k

/-- The sums of a row's exponentials, kept as a column, and the gradient of the scores from the gradient of their softmax. -/
def kA (e : FVec Ideal S4x8x2048x2304 .f32) : FVec Ideal S4x8x2048x1 .f32 :=
  broadcastInDim S4x8x2048x1 ![0, 1, 2] bcast_S4x8x2048_S4x8x2048x1_0_1_2 (Host.reduceAdd e (constant S_ .f32 0x00000000#32) reducesTo_S4x8x2048x2304_S4x8x2048_d3 h_S_)

def aA (g e : FVec Ideal S4x8x2048x2304 .f32) (z : FVec Ideal S4x8x2048x1 .f32) : FVec Ideal S4x8x2048 .f32 :=
  Host.reduceAdd (mulf (mulf g (broadcastInDim S4x8x2048x2304 ![0, 1, 2, 3] bcast_S4x8x2048x1_S4x8x2048x2304_0_1_2_3
    (Host.divf (broadcastInDim S4x8x2048x1 ![] bcast_S_S4x8x2048x1 (constant S_ .f32 0x3F800000#32)) (mulf z z)))) e)
    (constant S_ .f32 0x00000000#32) reducesTo_S4x8x2048x2304_S4x8x2048_d3 h_S_

def bA (a : FVec Ideal S4x8x2048 .f32) : FVec Ideal S4x8x2048 .f32 :=
  Host.reduceAdd (Host.negf (shapeCast S4x8x2048x1 a shapeCasts_S4x8x2048_S4x8x2048x1)) (constant S_ .f32 0x00000000#32) reducesTo_S4x8x2048x1_S4x8x2048_d3 h_S_

def dA (g e : FVec Ideal S4x8x2048x2304 .f32) (z : FVec Ideal S4x8x2048x1 .f32) : FVec Ideal S4x8x2048x2304 .f32 :=
  mulf (addf (Host.divf g (broadcastInDim S4x8x2048x2304 ![0, 1, 2, 3] bcast_S4x8x2048x1_S4x8x2048x2304_0_1_2_3 z))
    (broadcastInDim S4x8x2048x2304 ![0, 1, 2] bcast_S4x8x2048_S4x8x2048x2304_0_1_2 (bA (aA g e z)))) e

theorem kA_at (e : FVec Ideal S4x8x2048x2304 .f32) (b : Fin 4) (n : Fin 8) (r : Fin 2048) : kA e (ix4 b n r 0) = ∑ k, e (ix4 b n r k) := by
  pointwise [kA]

theorem aA_at (g e : FVec Ideal S4x8x2048x2304 .f32) (z : FVec Ideal S4x8x2048x1 .f32) (b : Fin 4) (n : Fin 8) (r : Fin 2048) :
    aA g e z (ix3 b n r) = ∑ j : Fin 2304, g (ix4 b n r j) * Ideal.div 1 (z (ix4 b n r 0) * z (ix4 b n r 0)) * e (ix4 b n r j) := by
  pointwise [aA]

theorem bA_at (a : FVec Ideal S4x8x2048 .f32) (b : Fin 4) (n : Fin 8) (r : Fin 2048) : bA a (ix3 b n r) = -a (ix3 b n r) := by
  pointwise [bA]
  exact Fin.sum_univ_one _

theorem dA_at (g e : FVec Ideal S4x8x2048x2304 .f32) (z : FVec Ideal S4x8x2048x1 .f32) (b : Fin 4) (n : Fin 8) (r : Fin 2048) (k : Fin 2304) :
    dA g e z (ix4 b n r k) = (Ideal.div (g (ix4 b n r k)) (z (ix4 b n r 0))
      + -∑ j : Fin 2304, g (ix4 b n r j) * Ideal.div 1 (z (ix4 b n r 0) * z (ix4 b n r 0)) * e (ix4 b n r j)) * e (ix4 b n r k) := by
  pointwise [dA, bA_at, aA_at]

/-- The products: the weights' gradient, and the values', keys' and queries' gradients. -/
def gA (c v : FVec Ideal S4x2304x8x64 .f32) : FVec Ideal S4x8x2048x2304 .f32 := Host.dotGeneral dot_S4x8x64x2048_S4x2304x8x64_S4x8x2048x2304_2_3_3_1_01_02 none
  (transpose S4x8x64x2048 [0, 2, 3, 1] (extractStridedSlice S4x2048x8x64 ![0, 256, 0, 0] c slices_S4x2304x8x64_S4x2048x8x64_0_256_0_0) transposes_S4x2048x8x64_S4x8x64x2048_0_2_3_1) (v)

def vA (c : FVec Ideal S4x2304x8x64 .f32) (p : FVec Ideal S4x8x2048x2304 .f32) : FVec Ideal S4x2304x8x64 .f32 :=
  transpose S4x2304x8x64 [0, 3, 1, 2] (Host.dotGeneral dot_S4x8x64x2048_S4x8x2048x2304_S4x8x64x2304_3_2_2_3_01_01 none
    (transpose S4x8x64x2048 [0, 2, 3, 1] (extractStridedSlice S4x2048x8x64 ![0, 256, 0, 0] c slices_S4x2304x8x64_S4x2048x8x64_0_256_0_0) transposes_S4x2048x8x64_S4x8x64x2048_0_2_3_1) p) transposes_S4x8x64x2304_S4x2304x8x64_0_3_1_2

def yA (q : FVec Ideal S4x2304x8x64 .f32) (d : FVec Ideal S4x8x2048x2304 .f32) : FVec Ideal S4x2304x8x64 .f32 :=
  transpose S4x2304x8x64 [0, 2, 1, 3] (Host.dotGeneral dot_S4x8x2048x2304_S4x2048x8x64_S4x8x2304x64_2_1_3_3_01_02 none d (extractStridedSlice S4x2048x8x64 ![0, 256, 0, 0] q slices_S4x2304x8x64_S4x2048x8x64_0_256_0_0)) transposes_S4x8x2304x64_S4x2304x8x64_0_2_1_3

def xA (k : FVec Ideal S4x2304x8x64 .f32) (d : FVec Ideal S4x8x2048x2304 .f32) : FVec Ideal S4x2048x8x64 .f32 :=
  transpose S4x2048x8x64 [0, 2, 1, 3] (Host.dotGeneral dot_S4x8x2048x2304_S4x2304x8x64_S4x8x2048x64_3_1_2_3_01_02 none d (k)) transposes_S4x8x2048x64_S4x2048x8x64_0_2_1_3

theorem rowA (Q : Qs) (b : Fin 4) (s : Fin 2048) (n : Fin 8) (d : Fin 64) (h : 256 + s.val < 2304) :
    hq Q (ix4 b ⟨256 + s.val, h⟩ n d) = qEnt Q (qRow b ⟨256 + s.val, h⟩) n d := hq_at Q b _ n d

theorem gA_at (C : Qs) (V : Ks) (b : Fin 4) (n : Fin 8) (s : Fin 2048) (k : Fin 2304) :
    gA (hq C) (hk V) (ix4 b n s k) = score le_rfl C V b n (qRow b ⟨256 + s.val, by omega⟩) k := by
  have hkl := k.isLt
  pointwise [gA]
  exact Finset.sum_congr rfl fun d _ => Ideal.mul_congr (rowA C b s n d _) (hk_at V b ⟨k.val, by omega⟩ n d)

theorem vA_at (C : Qs) (p : FVec Ideal S4x8x2048x2304 .f32) (b : Fin 4) (n : Fin 8) (k : Fin 2304) (d : Fin 64) :
    vA (hq C) p (ix4 b k n d) = ∑ s : Fin 2048, p (ix4 b n s k) * qEnt C (qRow b ⟨256 + s.val, by omega⟩) n d := by
  pointwise [vA]
  exact Finset.sum_congr rfl fun s _ => (Ideal.mul_congr (rowA C b s n d _) rfl).trans (mul_comm _ _)

theorem yA_at (Q : Qs) (p : FVec Ideal S4x8x2048x2304 .f32) (b : Fin 4) (n : Fin 8) (k : Fin 2304) (d : Fin 64) :
    yA (hq Q) p (ix4 b k n d) = ∑ s : Fin 2048, p (ix4 b n s k) * qEnt Q (qRow b ⟨256 + s.val, by omega⟩) n d := by
  pointwise [yA]
  exact Finset.sum_congr rfl fun s _ => Ideal.mul_congr rfl (rowA Q b s n d _)

theorem xA_at (K : Ks) (p : FVec Ideal S4x8x2048x2304 .f32) (b : Fin 4) (n : Fin 8) (s : Fin 2048) (d : Fin 64) :
    xA (hk K) p (ix4 b s n d) = ∑ k : Fin 2304, p (ix4 b n s k) * kEnt le_rfl K b n k d := by
  pointwise [xA]
  exact Finset.sum_congr rfl fun k _ => Ideal.mul_congr rfl (hk_at K b ⟨k.val, by omega⟩ n d)

/-- The gradient of the scores, from the arguments. -/
def wA (Q : Qs) (K V : Ks) (C : Qs) : FVec Ideal S4x8x2048x2304 .f32 :=
  dA (gA (hq C) (hk V)) (eA (sA (hq Q) (hk K))) (kA (eA (sA (hq Q) (hk K))))

theorem eA_score (Q : Qs) (K : Ks) (b : Fin 4) (n : Fin 8) (s : Fin 2048) (k : Fin 2304) :
    eA (sA (hq Q) (hk K)) (ix4 b n s k) = ex (score le_rfl Q K b n (qRow b ⟨256 + s.val, by omega⟩)) k :=
  (eA_at _ b n s k).trans (congrArg (fun f : Fin 2304 → EReal => ex f k) (funext fun j => sA_at Q K b n s j))

theorem pA_score (Q : Qs) (K : Ks) (b : Fin 4) (n : Fin 8) (s : Fin 2048) (k : Fin 2304) :
    pA (sA (hq Q) (hk K)) (ix4 b n s k) = soft (score le_rfl Q K b n (qRow b ⟨256 + s.val, by omega⟩)) k :=
  (pA_at _ b n s k).trans (congrArg (fun f : Fin 2304 → EReal => soft f k) (funext fun j => sA_at Q K b n s j))

theorem wA_at {Q : Qs} {K V : Ks} {C : Qs} (hQ : Re Q) (hK : Re K) (hV : Re V) (hC : Re C) (b : Fin 4) (n : Fin 8) (s : Fin 2048)
    (k : Fin 2304) : wA Q K V C (ix4 b n s k) = dScore le_rfl Q K V C b n (qRow b ⟨256 + s.val, by omega⟩) k := by
  have hz : kA (eA (sA (hq Q) (hk K))) (ix4 b n s 0) = tot (score le_rfl Q K b n (qRow b ⟨256 + s.val, by omega⟩)) :=
    (kA_at _ b n s).trans (Finset.sum_congr rfl fun j _ => eA_score Q K b n s j)
  rw [wA, dA_at, hz]
  simp only [gA_at, eA_score]
  exact softGrad_quot (by omega) (score_re hQ hK b n _) (score_re hC hV b n _) k

/-- Rows padded with zeros, below or above. -/
def padC (x : FVec Ideal S4x256x8x64 .f32) : FVec Ideal S4x2304x8x64 .f32 :=
  pad S4x2304x8x64 ![0, 0, 0, 0] ![0, 2048, 0, 0] ![0, 0, 0, 0] x (constant S_ .f32 0x00000000#32) pads_S4x256x8x64_S4x2304x8x64_000_020480_000_000 h_S_

def padA (x : FVec Ideal S4x2048x8x64 .f32) : FVec Ideal S4x2304x8x64 .f32 :=
  pad S4x2304x8x64 ![0, 256, 0, 0] ![0, 0, 0, 0] ![0, 0, 0, 0] x (constant S_ .f32 0x00000000#32) pads_S4x2048x8x64_S4x2304x8x64_000_25600_000_000 h_S_

theorem padC_at (x : FVec Ideal S4x256x8x64 .f32) (b : Fin 4) (s : Fin 2304) (n : Fin 8) (d : Fin 64) :
    padC x (ix4 b s n d) = if h : s.val < 256 then x (ix4 b ⟨s.val, h⟩ n d) else 0 := by
  pointwise [padC]

theorem padA_at (x : FVec Ideal S4x2048x8x64 .f32) (b : Fin 4) (s : Fin 2304) (n : Fin 8) (d : Fin 64) :
    padA x (ix4 b s n d) = if h : s.val < 256 then 0 else x (ix4 b ⟨s.val - 256, by omega⟩ n d) := by
  have hs := s.isLt
  pointwise [padA]
  by_cases h : s.val < 256
  · rw [dif_pos h, dif_neg (by omega)]
  · rw [dif_neg h, dif_pos (by omega)]

/-- The heads' key gradients, summed over the two head groups that share a key copy. -/
def sumK (x : FVec Ideal S4x2304x8x64 .f32) : FVec Ideal S9216x256 .f32 :=
  shapeCast S9216x256 (broadcastInDim S9216x2x1x128 ![0, 1, 3] bcast_S9216x2x128_S9216x2x1x128_0_1_3
    (Host.reduceAdd (shapeCast S9216x2x2x128 x shapeCasts_S4x2304x8x64_S9216x2x2x128) (constant S_ .f32 0x00000000#32)
      reducesTo_S9216x2x2x128_S9216x2x128_d2 h_S_)) shapeCasts_S9216x2x1x128_S9216x256

theorem sumK_at (x : FVec Ideal S4x2304x8x64 .f32) (b : Fin 4) (h e : Fin 2) (k : Fin 2304) (d : Fin 64) (R : Fin 9216) (L : Fin 256)
    (hR : R.val = b.val * 2304 + k.val) (hL : L.val = h.val * 128 + e.val * 64 + d.val) :
    sumK x (ix2 R L) = ∑ j : Fin 2, x (ix4 b k (hd h j e) d) := by
  pointwise [sumK]
  refine Finset.sum_congr rfl fun j _ => congrArg x ?_
  refine (ix4_inj ..).2 ⟨?_, ?_, ?_, ?_⟩
  · exact Fin.ext (by show R.val / 2304 = b.val; omega)
  · exact Fin.ext (by show R.val % 2304 = k.val; omega)
  · exact Fin.ext (by show L.val / 128 * 4 + j.val * 2 + L.val % 128 / 64 = h.val * 4 + j.val * 2 + e.val; omega)
  · exact Fin.ext (by show L.val % 128 % 64 = d.val; omega)

/-- The nine query blocks' parts, head by head: the rows that see all keys, and the first rows where the key is among the first. -/
theorem parts (w : Fin 8 → Fin 9216 → Fin 256 → EReal) (w' : Fin 8 → Fin 9216 → Fin 2304 → EReal) (X : Qs) (b : Fin 4) (h e : Fin 2)
    (k : Fin 2304) (d : Fin 64) :
    ∑ j : Fin 2, ((∑ s : Fin 2048, w' (hd h j e) (qRow b ⟨256 + s.val, by omega⟩) k * qEnt X (qRow b ⟨256 + s.val, by omega⟩) (hd h j e) d)
        + if hk : k.val < 256 then
            ∑ s : Fin 256, w (hd h j e) (qRow b ⟨s.val, by omega⟩) ⟨k.val, hk⟩ * qEnt X (qRow b ⟨s.val, by omega⟩) (hd h j e) d else 0)
      = ∑ i : Fin 9, part w w' X b h e i k d := by
  rw [Fin.sum_univ_succ (n := 8), Finset.sum_add_distrib, add_comm]
  refine congrArg₂ (fun x y : EReal => x + y) ?_ ?_
  · rw [part, if_pos rfl]
    by_cases hk : k.val < 256
    · rw [dif_pos hk]
      refine Finset.sum_congr rfl fun j _ => ?_
      rw [dif_pos hk]
      refine Finset.sum_congr rfl fun s _ => ?_
      have hr : qRow b ⟨s.val, by omega⟩ = bRow b 0 s := Fin.ext (by show b.val * 2304 + s.val = b.val * 2304 + 0 * 256 + s.val; omega)
      rw [hr]
    · rw [dif_neg hk]
      exact Finset.sum_eq_zero fun j _ => dif_neg hk
  · have hs : ∀ i : Fin 8, part w w' X b h e i.succ k d
        = ∑ j : Fin 2, ∑ r : Fin 256, w' (hd h j e) (bRow b i.succ r) k * qEnt X (bRow b i.succ r) (hd h j e) d := fun i => by
      rw [part, if_neg (Fin.succ_ne_zero i)]
    refine Eq.trans ?_ (Finset.sum_congr rfl fun i _ => hs i).symm
    refine Eq.trans ?_ Finset.sum_comm
    refine Finset.sum_congr rfl fun j _ => ?_
    refine (Fin.sum_univ_tiles 8 256 rfl _).trans (Finset.sum_congr rfl fun i _ => Finset.sum_congr rfl fun r _ => ?_)
    have hr : qRow b ⟨256 + (i.val * 256 + r.val), by omega⟩ = bRow b i.succ r :=
      Fin.ext (by show b.val * 2304 + (256 + (i.val * 256 + r.val)) = b.val * 2304 + (i.val + 1) * 256 + r.val; omega)
    exact congrArg (fun R : Fin 9216 => w' (hd h j e) R k * qEnt X R (hd h j e) d) hr

theorem flat_at (x : FVec Ideal S4x2304x8x64 .f32) (R : Fin 9216) (L : Fin 512) :
    shapeCast S9216x512 x shapeCasts_S4x2304x8x64_S9216x512 (ix2 R L)
      = x (ix4 ⟨R.val / 2304, by omega⟩ ⟨R.val % 2304, by omega⟩ ⟨L.val / 64, by omega⟩ ⟨L.val % 64, by omega⟩) := by
  pointwise

theorem addf_at (x y : FVec Ideal S4x2304x8x64 .f32) (i : S4x2304x8x64.Idx) : addf x y i = x i + y i := rfl

variable {Q : Qs} {K V : Ks} {C : Qs} (hQ : Re Q) (hK : Re K) (hV : Re V) (hC : Re C)

include hQ hK hV hC in
/-- The reference's gradient of the keys. -/
theorem ref136 : Read.val_main_v136 (F := Ideal) Q K V C = dKs Q K V C := by
  have e : Read.val_main_v136 (F := Ideal) Q K V C
      = sumK (addf (yA (hq Q) (wA Q K V C)) (padC (yC (hq Q) (wC Q K V C)))) := rfl
  rw [e]
  funext i
  idx_vars i
  refine (sumK_at _ ⟨i0.val / 2304, by omega⟩ ⟨i1.val / 128, by omega⟩ ⟨i1.val % 128 / 64, by omega⟩ ⟨i0.val % 2304, by omega⟩
    ⟨i1.val % 64, by omega⟩ i0 i1 (by dsimp only; omega) (by dsimp only; omega)).trans ?_
  refine Eq.trans ?_ (parts _ _ Q _ _ _ _ _)
  refine Finset.sum_congr rfl fun j _ => ?_
  rw [addf_at, yA_at, padC_at]
  simp only [yC_at, wC_at hQ hK hV hC, wA_at hQ hK hV hC]
  rfl

include hQ hK in
/-- The reference's gradient of the values. -/
theorem ref132 : Read.val_main_v132 (F := Ideal) Q K C = dVs Q K C := by
  have e : Read.val_main_v132 (F := Ideal) Q K C
      = sumK (addf (vA (hq C) (pA (sA (hq Q) (hk K)))) (padC (vC (hq C) (pC (sC (hq Q) (hk K)))))) := rfl
  rw [e]
  funext i
  idx_vars i
  refine (sumK_at _ ⟨i0.val / 2304, by omega⟩ ⟨i1.val / 128, by omega⟩ ⟨i1.val % 128 / 64, by omega⟩ ⟨i0.val % 2304, by omega⟩
    ⟨i1.val % 64, by omega⟩ i0 i1 (by dsimp only; omega) (by dsimp only; omega)).trans ?_
  refine Eq.trans ?_ (parts _ _ C _ _ _ _ _)
  refine Finset.sum_congr rfl fun j _ => ?_
  rw [addf_at, vA_at, padC_at]
  simp only [vC_at, pC_score, pA_score]
  rfl

include hQ hK hV hC in
/-- The reference's gradient of the queries. -/
theorem ref137 : Read.val_main_v137 (F := Ideal) Q K V C = dQs Q K V C := by
  have e : Read.val_main_v137 (F := Ideal) Q K V C
      = shapeCast S9216x512 (addf (padA (xA (hk K) (wA Q K V C))) (padC (xC (hk K) (wC Q K V C)))) shapeCasts_S4x2304x8x64_S9216x512 := rfl
  rw [e]
  funext i
  idx_vars i
  refine (flat_at _ i0 i1).trans ?_
  rw [addf_at, padA_at, padC_at]
  by_cases h : i0.val % 2304 < 256
  · rw [dif_pos h, dif_pos h, zero_add, xC_at]
    refine Eq.trans ?_ (if_pos h).symm
    simp only [wC_at hQ hK hV hC]
    rfl
  · have hr : (⟨256 + (i0.val % 2304 - 256), by omega⟩ : Fin 2304) = ⟨i0.val % 2304, by omega⟩ :=
      Fin.ext (by show 256 + (i0.val % 2304 - 256) = i0.val % 2304; omega)
    rw [dif_neg h, dif_neg h, add_zero, xA_at]
    refine Eq.trans ?_ (if_neg h).symm
    simp only [wA_at hQ hK hV hC, hr]
    rfl

end Cert.AttnRef

end

end
-- ==== Proof.FiniteArgs.lean ====
/- What the precondition of the attention gradient's value claim says: every entry of the four argument arrays is a real number. -/
module

public import proofs.«01_k».proof.Defs
public import proofs.«01_k».proof.Proof.AttnGrad

@[expose] public section

set_option maxRecDepth 16384

noncomputable section

open Idealize.ShloMosaic Idealize.ShloMosaic.TcCoe Idealize.SL.Sem

namespace Cert.FiniteArgs

open Cert.Pre_finite2 Attn AttnGrad

/-- The predicate's own side conditions. -/
theorem facts : Cert.Pre_finite2.Facts where
  concatenates_S9216x512_S9216x256_S9216x256_S9216x512_S9216x1536_d1 := by decide +kernel
  bcast_S_S9216x1536 := by decide +kernel

/-- The number whose size lies below infinity is neither infinity. -/
theorem re_of_lt {x : EReal} (h : BitVec.ofBool (decide (FloatOps.absf (F := Ideal) (φ := .bf16) x < Ideal.ofBits FTy.bf16 32640#16)) = 1#1) : x ≠ ⊥ ∧ x ≠ ⊤ := by
  have ht : Ideal.ofBits FTy.bf16 32640#16 = ⊤ := by
    simp [Ideal.ofBits, Ideal.ieee]
  rw [ht] at h
  have hlt : FloatOps.absf (F := Ideal) (φ := .bf16) x < ⊤ := by
    by_contra hn
    rw [decide_eq_false hn] at h
    exact absurd h (by decide)
  change max x (-x) < ⊤ at hlt
  constructor
  · rintro rfl
    exact absurd hlt (by simp)
  · rintro rfl
    exact absurd hlt (by simp)

variable {q : FVec Ideal S9216x512 .bf16} {k v : FVec Ideal S9216x256 .bf16} {c : FVec Ideal S9216x512 .bf16}

/-- The four arrays side by side, read at a row and a column. -/
def side (q : FVec Ideal S9216x512 .bf16) (k v : FVec Ideal S9216x256 .bf16) (c : FVec Ideal S9216x512 .bf16) (r : Fin 9216) (l : Fin 1536) : EReal :=
  if h : l.val < 512 then q (ix2 r ⟨l.val, h⟩)
  else if h : l.val - 512 < 256 then k (ix2 r ⟨l.val - 512, h⟩)
  else if h : l.val - 512 - 256 < 256 then v (ix2 r ⟨l.val - 512 - 256, h⟩)
  else c (ix2 r ⟨l.val - 512 - 256 - 256, by omega⟩)

theorem side_real [Facts] (h : fn (F := Ideal) q k v c = fun _ => 1#1) (r : Fin 9216) (l : Fin 1536) :
    side q k v c r l ≠ ⊥ ∧ side q k v c r l ≠ ⊤ := by
  refine re_of_lt (Eq.trans ?_ (congrFun h (ix2 r l)))
  unfold fn
  pointwise [side]

theorem re_q [Facts] (h : fn (F := Ideal) q k v c = fun _ => 1#1) : Re q := by
  refine Re.of_forall fun i => ?_
  idx_vars i
  have e : side q k v c i0 ⟨i1.val, by omega⟩ = q (ix2 i0 i1) := dif_pos i1.isLt
  exact e ▸ side_real h i0 ⟨i1.val, by omega⟩

theorem re_k [Facts] (h : fn (F := Ideal) q k v c = fun _ => 1#1) : Re k := by
  refine Re.of_forall fun i => ?_
  idx_vars i
  have hl : 512 + i1.val - 512 = i1.val := by omega
  have e : side q k v c i0 ⟨512 + i1.val, by omega⟩ = k (ix2 i0 i1) := by
    simp only [side]
    rw [dif_neg (by omega), dif_pos (by omega)]
    exact congrArg (fun l => k (ix2 i0 l)) (Fin.ext hl)
  exact e ▸ side_real h i0 ⟨512 + i1.val, by omega⟩

theorem re_v [Facts] (h : fn (F := Ideal) q k v c = fun _ => 1#1) : Re v := by
  refine Re.of_forall fun i => ?_
  idx_vars i
  have hl : 768 + i1.val - 512 - 256 = i1.val := by omega
  have e : side q k v c i0 ⟨768 + i1.val, by omega⟩ = v (ix2 i0 i1) := by
    simp only [side]
    rw [dif_neg (by omega), dif_neg (by omega), dif_pos (by omega)]
    exact congrArg (fun l => v (ix2 i0 l)) (Fin.ext hl)
  exact e ▸ side_real h i0 ⟨768 + i1.val, by omega⟩

theorem re_c [Facts] (h : fn (F := Ideal) q k v c = fun _ => 1#1) : Re c := by
  refine Re.of_forall fun i => ?_
  idx_vars i
  have hl : 1024 + i1.val - 512 - 256 - 256 = i1.val := by omega
  have e : side q k v c i0 ⟨1024 + i1.val, by omega⟩ = c (ix2 i0 i1) := by
    simp only [side]
    rw [dif_neg (by omega), dif_neg (by omega), dif_neg (by omega)]
    exact congrArg (fun l => c (ix2 i0 l)) (Fin.ext hl)
  exact e ▸ side_real h i0 ⟨1024 + i1.val, by omega⟩

end Cert.FiniteArgs

end

end
-- ==== Proof.Tiles.lean ====
/- A sum taken tile after tile, as an accumulator that starts at zero takes it. -/
module

public import Idealize.ShloMosaic.Lib.Pipeline.ValueKit
public import Idealize.ShloMosaic.Lib.Pointwise.Sums

@[expose] public section

noncomputable section

open Idealize.ShloMosaic

namespace Cert.Tiles

/-- The sum over the first `n` tiles of `B` terms each; terms past the end of `f` count as zero. -/
def upTo {M : ℕ} (f : Fin M → EReal) (B n : ℕ) : EReal :=
  ∑ u ∈ Finset.range n, ∑ q : Fin B, if h : u * B + q.val < M then f ⟨u * B + q.val, h⟩ else 0

/-- Before any tile. -/
theorem none {M : ℕ} (f : Fin M → EReal) (B : ℕ) : upTo f B 0 = 0 := rfl

/-- One more tile. -/
theorem next {M B n : ℕ} {f : Fin M → EReal} {a : EReal} (ha : a = upTo f B n) (g : Fin B → EReal)
    (hg : ∀ (q : Fin B) (R : Fin M), R.val = n * B + q.val → g q = f R) (hB : (n + 1) * B ≤ M) : a + ∑ q, g q = upTo f B (n + 1) := by
  subst ha
  rw [upTo, upTo, Finset.sum_range_succ]
  refine congrArg (fun s : EReal => _ + s) (Finset.sum_congr rfl fun q _ => ?_)
  have h : n * B + q.val < M := lt_of_lt_of_le (Nat.add_lt_add_left q.isLt _) (by rw [Nat.add_mul, Nat.one_mul] at hB; exact hB)
  rw [dif_pos h]
  exact hg q ⟨_, h⟩ rfl

/-- All the tiles. -/
theorem all {M : ℕ} (N B : ℕ) (h : N * B = M) (f : Fin M → EReal) : upTo f B N = ∑ r, f r := by
  rw [Fin.sum_univ_tiles N B h f, upTo, Finset.sum_range]
  refine Finset.sum_congr rfl fun u _ => Finset.sum_congr rfl fun q _ => dif_pos _

end Cert.Tiles

end

end
-- ==== Proof.DFfnIn.lean ====
/- The gradient of the feed-forward's input, from the gradient of its two projections and the weights' four column shards.

   Grid point `t` adds shard `t % 4`'s products to a scratch buffer for rows `1024 (t / 4) …`, which the first of four
   points clears and the last copies out. -/
module

public import proofs.«01_k».proof.Proof.Gen.Kernel3Ideal.Frame
public import proofs.«01_k».proof.Proof.Gen.Reference3Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DFfnIn

open Cert.Kernel3Ideal Cert.Kernel3Ideal.Gen

variable (m : (ℓ : Loc nD τ sig) → Buf (Elt Ideal) ℓ)

/-- The weights, shard by shard. -/
abbrev argW (c : Dev nD) : FVec Ideal S4x1024x1408 .bf16 := m ((c : Thread nD τ).loc main_arg0)
/-- The gradient of the two projections. -/
abbrev argU (c : Dev nD) : FVec Ideal S2x9216x2816 .bf16 := m ((c : Thread nD τ).loc main_arg1)

/-- Entry `n` of row `R` of the gradient of the two projections, which lie side by side. -/
def uEnt (U : FVec Ideal S2x9216x2816 .bf16) (R : Fin 9216) (n : Fin 5632) : EReal :=
  U (ix3 ⟨n.val / 2816, by omega⟩ R ⟨n.val % 2816, by omega⟩)

/-- Column `n`'s product at row `R`, lane `J`. -/
def term (W : FVec Ideal S4x1024x1408 .bf16) (U : FVec Ideal S2x9216x2816 .bf16) (R : Fin 9216) (J : Fin 1024) (n : Fin 5632) : EReal :=
  uEnt U R n * W (ix3 ⟨n.val / 1408, by omega⟩ J ⟨n.val % 1408, by omega⟩)

/-- The gradient. -/
def dH (W : FVec Ideal S4x1024x1408 .bf16) (U : FVec Ideal S2x9216x2816 .bf16) : FVec Ideal S9216x1024 .f32 :=
  fun i => ∑ n, term W U (i 0) (i 1) n

/-- The gradient read at an index given by its coordinates. -/
theorem dH_at {W : FVec Ideal S4x1024x1408 .bf16} {U : FVec Ideal S2x9216x2816 .bf16} {i : S9216x1024.Idx} {R : Fin 9216} {J : Fin 1024}
    (h0 : (i 0).val = R.val) (h1 : (i 1).val = J.val) : ∑ n, term W U R J n = dH W U i := by
  obtain rfl : i 0 = R := Fin.ext h0
  obtain rfl : i 1 = J := Fin.ext h1
  rfl

theorem idx : ∀ t : Fin cfg0.N, win0_0.index t = ![t.val % 4 / 2, t.val / 4, t.val % 2] ∧ win0_1.index t = ![t.val % 4, 0, 0]
    ∧ win0_2.index t = ![t.val / 4, 0] :=
  (by decide +kernel : ∀ t : Fin grid0.N, _)

theorem blkU (c : Dev nD) (t : Fin cfg0.N) (r : Fin 1024) (q : Fin 1408) (R : Fin 9216) (n : Fin 5632)
    (hR : R.val = t.val / 4 * 1024 + r.val) (hn : n.val = t.val % 4 * 1408 + q.val) :
    (show FVec Ideal S1x1024x1408 .bf16 from iblk m c 0 t) (ix3 0 r q) = uEnt (argU m c) R n := by
  unfold uEnt
  blk_ext [iblk, V, idx t]

theorem blkW (c : Dev nD) (t : Fin cfg0.N) (J : Fin 1024) (q : Fin 1408) (n : Fin 5632) (hn : n.val = t.val % 4 * 1408 + q.val) :
    (show FVec Ideal S1x1024x1408 .bf16 from iblk m c 1 t) (ix3 0 J q)
      = argW m c (ix3 ⟨n.val / 1408, by omega⟩ J ⟨n.val % 1408, by omega⟩) := by
  blk_ext [iblk, V, idx t]

/-- One point adds one shard's products to what the scratch buffer held. -/
theorem step (c : Dev nD) (t : Fin cfg0.N) (S : FVec Ideal S1024x1024 .f32) (r J : Fin 1024) (R : Fin 9216)
    (hR : R.val = t.val / 4 * 1024 + r.val)
    (hS : S (ix2 r J) = Tiles.upTo (term (argW m c) (argU m c) R J) 1408 (t.val % 4)) :
    k0_pay2 (F := Ideal) S (iblk m c 0 t) (iblk m c 1 t) (ix2 r J)
      = Tiles.upTo (term (argW m c) (argU m c) R J) 1408 (t.val % 4 + 1) := by
  pointwise [k0_pay2]
  refine Tiles.next hS _ (fun q n hn => ?_) (by omega)
  exact congrArg₂ (fun x y : EReal => x * y) (blkU m c t r q R n hR hn) (blkW m c t J q n hn)

/-- What the scratch buffer holds after grid point `k`. -/
theorem scratch_at (c : Dev nD) : ∀ (k : ℕ) (hk : k < cfg0.N) (r J : Fin 1024) (R : Fin 9216),
    R.val = k / 4 * 1024 + r.val →
    (outsAt0 m c k hk).2 (ix2 r J) = Tiles.upTo (term (argW m c) (argU m c) R J) 1408 (k % 4 + 1) := by
  intro k
  induction k with
  | zero =>
    intro hk r J R hR
    rw [outsAt0_A m c ⟨0, hk⟩ (Nat.zero_mod _) (by show ¬ 0 % 4 = 3; omega)]
    frame_out
    exact step m c ⟨0, hk⟩ _ r J R hR (by pointwise [k0_pay1]; rfl)
  | succ k ih =>
    intro hk r J R hR
    have hN := lt_of_lt_of_eq hk N_0
    by_cases h0 : (k + 1) % 4 = 0
    · rw [outsAt0_A m c ⟨k + 1, hk⟩ h0 (by show ¬ (k + 1) % 4 = 3; omega)]
      frame_out
      refine step m c ⟨k + 1, hk⟩ _ r J R hR ?_
      rw [show (⟨k + 1, hk⟩ : Fin cfg0.N).val % 4 = 0 from h0]
      pointwise [k0_pay1]
      rfl
    · have hs := ih (Nat.lt_of_succ_lt hk) r J R (by omega)
      rw [show k % 4 + 1 = (k + 1) % 4 by omega] at hs
      by_cases h3 : (k + 1) % 4 = 3
      · rw [outsAt0_C m c ⟨k + 1, hk⟩ h0 h3]
        frame_out
        simp only [read_unread_whole]
        exact step m c ⟨k + 1, hk⟩ _ r J R hR hs
      · rw [outsAt0_B m c ⟨k + 1, hk⟩ h0 h3]
        frame_out
        simp only [read_unread_whole]
        exact step m c ⟨k + 1, hk⟩ _ r J R hR hs

/-- The gradient, as the run leaves it. -/
theorem final (c : Dev nD) : (dats m 0 c).arrAt 2 (cfgs 0).N = dH (argW m c) (argU m c) := by
  refine (dats m 0 c).arrAt_eq_of_covers 2 _ (by decide +kernel) fun t hf y => ?_
  have h3 := (by decide +kernel : ∀ t : Fin grid0.N, (win0 2).flush t = true → t.val % 4 = 3) t hf
  have hN := lt_of_lt_of_eq t.isLt N_0
  blk_simp
  rw [after0_2, outsAt0_C m c t (by omega) h3]
  frame_out
  simp only [read_unread_whole]
  idx_vars y
  have hR : (⟨t.val / 4 * 1024 + y0.val, by omega⟩ : Fin 9216).val = t.val / 4 * 1024 + y0.val := rfl
  have hs := scratch_at m c (t.val - 1) (lt_of_le_of_lt (Nat.sub_le _ _) t.isLt) y0 y1 _ (by rw [hR]; omega)
  rw [show (t.val - 1) % 4 + 1 = t.val % 4 by omega] at hs
  refine (step m c t _ y0 y1 _ hR hs).trans ?_
  rw [h3, Tiles.all 4 1408 rfl]
  exact dH_at (by blk_simp [idx t]) (by blk_simp [idx t])

/-- The first half of the columns is the first projection's. -/
theorem first (U : FVec Ideal S2x9216x2816 .bf16) (R : Fin 9216) (n : Fin 2816) :
    uEnt U R (Fin.castAdd 2816 n) = U (ix3 0 R n) := by
  unfold uEnt
  have h0 : (⟨(Fin.castAdd 2816 n).val / 2816, by omega⟩ : Fin 2) = 0 := Fin.ext (by show n.val / 2816 = 0; omega)
  have h1 : (⟨(Fin.castAdd 2816 n).val % 2816, by omega⟩ : Fin 2816) = n := Fin.ext (by show n.val % 2816 = n.val; omega)
  rw [h0, h1]

/-- The second half of the columns is the second projection's. -/
theorem second (U : FVec Ideal S2x9216x2816 .bf16) (R : Fin 9216) (n : Fin 2816) :
    uEnt U R (Fin.natAdd 2816 n) = U (ix3 1 R n) := by
  unfold uEnt
  have h0 : (⟨(Fin.natAdd 2816 n).val / 2816, by omega⟩ : Fin 2) = 1 := Fin.ext (by show (2816 + n.val) / 2816 = 1; omega)
  have h1 : (⟨(Fin.natAdd 2816 n).val % 2816, by omega⟩ : Fin 2816) = n := Fin.ext (by show (2816 + n.val) % 2816 = n.val; omega)
  rw [h0, h1]

theorem ref (W : FVec Ideal S4x1024x1408 .bf16) (U : FVec Ideal S2x9216x2816 .bf16) :
    Reference3Ideal.Read.val_main_v11 (F := Ideal) W U = dH W U := by
  rw [← Reference3Ideal.Read.val_main_v11_eq]
  funext i
  idx_vars i
  pointwise [dH, term]
  refine Eq.trans ?_ (Fin.sum_univ_add (a := 2816) (b := 2816) (term W U i0 i1)).symm
  refine congrArg₂ (fun x y : EReal => x + y) (Finset.sum_congr rfl fun n _ => ?_) (Finset.sum_congr rfl fun n _ => ?_)
  · exact congrArg (fun x : EReal => x * W (ix3 ⟨n.val / 1408, by omega⟩ i1 ⟨n.val % 1408, by omega⟩)) (first U i0 n).symm
  · exact congrArg (fun x : EReal => x * W (ix3 ⟨(2816 + n.val) / 1408, by omega⟩ i1 ⟨(2816 + n.val) % 1408, by omega⟩)) (second U i0 n).symm

end Cert.DFfnIn

end

end
-- ==== Proof.DwFfnIn.lean ====
/- The gradient of the feed-forward's input weights, kept in four column shards.

   Grid point `t` adds rows `1024 (t % 9) …` of the products to a scratch buffer for shard `t / 9`, which the first of nine
   points clears and the last copies out. -/
module

public import proofs.«01_k».proof.Proof.Gen.Kernel4Ideal.Frame
public import proofs.«01_k».proof.Proof.Gen.Reference4Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwFfnIn

open Cert.Kernel4Ideal Cert.Kernel4Ideal.Gen

variable (m : (ℓ : Loc nD τ sig) → Buf (Elt Ideal) ℓ)

/-- The normalised input. -/
abbrev argX (c : Dev nD) : FVec Ideal S9216x1024 .bf16 := m ((c : Thread nD τ).loc main_arg0)
/-- The gradient of the two projections. -/
abbrev argU (c : Dev nD) : FVec Ideal S2x9216x2816 .bf16 := m ((c : Thread nD τ).loc main_arg1)

/-- Entry `n` of row `R` of the gradient of the two projections, which lie side by side. -/
def uEnt (U : FVec Ideal S2x9216x2816 .bf16) (R : Fin 9216) (n : Fin 5632) : EReal :=
  U (ix3 ⟨n.val / 2816, by omega⟩ R ⟨n.val % 2816, by omega⟩)

/-- Row `r`'s product at weight entry `(I, n)`. -/
def term (X : FVec Ideal S9216x1024 .bf16) (U : FVec Ideal S2x9216x2816 .bf16) (I : Fin 1024) (n : Fin 5632) (r : Fin 9216) : EReal :=
  X (ix2 r I) * uEnt U r n

/-- The gradient, shard by shard. -/
def dW (X : FVec Ideal S9216x1024 .bf16) (U : FVec Ideal S2x9216x2816 .bf16) : FVec Ideal S4x1024x1408 .bf16 :=
  fun i =>
    have h0 : (i 0).val < 4 := (i 0).isLt
    have h2 : (i 2).val < 1408 := (i 2).isLt
    ∑ r, term X U (i 1) ⟨(i 0).val * 1408 + (i 2).val, by omega⟩ r

/-- The gradient read at an index given by its coordinates. -/
theorem dW_at {X : FVec Ideal S9216x1024 .bf16} {U : FVec Ideal S2x9216x2816 .bf16} {i : S4x1024x1408.Idx} {I : Fin 1024} {n : Fin 5632}
    (h0 : (i 0).val * 1408 + (i 2).val = n.val) (h1 : (i 1).val = I.val) : ∑ r, term X U I n r = dW X U i := by
  obtain rfl : i 1 = I := Fin.ext h1
  obtain ⟨n, hn⟩ := n
  subst h0
  rfl

theorem idx : ∀ t : Fin cfg0.N, win0_0.index t = ![t.val % 9, 0] ∧ win0_1.index t = ![t.val / 9 / 2, t.val % 9, t.val / 9 % 2]
    ∧ win0_2.index t = ![t.val / 9, 0, 0] :=
  (by decide +kernel : ∀ t : Fin grid0.N, _)

theorem blkX (c : Dev nD) (t : Fin cfg0.N) (q : Fin 1024) (i : Fin 1024) (R : Fin 9216) (hR : R.val = t.val % 9 * 1024 + q.val) :
    (show FVec Ideal S1024x1024 .bf16 from iblk m c 0 t) (ix2 q i) = argX m c (ix2 R i) := by
  blk_ext [iblk, V, idx t]

theorem blkU (c : Dev nD) (t : Fin cfg0.N) (q : Fin 1024) (j : Fin 1408) (R : Fin 9216) (n : Fin 5632)
    (hR : R.val = t.val % 9 * 1024 + q.val) (hn : n.val = t.val / 9 * 1408 + j.val) :
    (show FVec Ideal S1x1024x1408 .bf16 from iblk m c 1 t) (ix3 0 q j) = uEnt (argU m c) R n := by
  unfold uEnt
  blk_ext [iblk, V, idx t]

/-- One point adds one tile of rows to what the scratch buffer held. -/
theorem step (c : Dev nD) (t : Fin cfg0.N) (S : FVec Ideal S1024x1408 .f32) (i : Fin 1024) (j : Fin 1408) (n : Fin 5632)
    (hn : n.val = t.val / 9 * 1408 + j.val)
    (hS : S (ix2 i j) = Tiles.upTo (term (argX m c) (argU m c) i n) 1024 (t.val % 9)) :
    k0_pay2 (F := Ideal) S (iblk m c 0 t) (iblk m c 1 t) (ix2 i j)
      = Tiles.upTo (term (argX m c) (argU m c) i n) 1024 (t.val % 9 + 1) := by
  pointwise [k0_pay2]
  refine Tiles.next hS _ (fun q R hR => ?_) (by omega)
  exact congrArg₂ (fun x y : EReal => x * y) (blkX m c t q i R hR) (blkU m c t q j R n hR hn)

/-- What the scratch buffer holds after grid point `k`. -/
theorem scratch_at (c : Dev nD) : ∀ (k : ℕ) (hk : k < cfg0.N) (i : Fin 1024) (j : Fin 1408) (n : Fin 5632),
    n.val = k / 9 * 1408 + j.val →
    (outsAt0 m c k hk).2 (ix2 i j) = Tiles.upTo (term (argX m c) (argU m c) i n) 1024 (k % 9 + 1) := by
  intro k
  induction k with
  | zero =>
    intro hk i j n hn
    rw [outsAt0_A m c ⟨0, hk⟩ (Nat.zero_mod _) (by show ¬ 0 % 9 = 8; omega)]
    frame_out
    exact step m c ⟨0, hk⟩ _ i j n hn (by pointwise [k0_pay1]; rfl)
  | succ k ih =>
    intro hk i j n hn
    have hN := lt_of_lt_of_eq hk N_0
    by_cases h0 : (k + 1) % 9 = 0
    · rw [outsAt0_A m c ⟨k + 1, hk⟩ h0 (by show ¬ (k + 1) % 9 = 8; omega)]
      frame_out
      refine step m c ⟨k + 1, hk⟩ _ i j n hn ?_
      rw [show (⟨k + 1, hk⟩ : Fin cfg0.N).val % 9 = 0 from h0]
      pointwise [k0_pay1]
      rfl
    · have hs := ih (Nat.lt_of_succ_lt hk) i j n (by omega)
      rw [show k % 9 + 1 = (k + 1) % 9 by omega] at hs
      by_cases h8 : (k + 1) % 9 = 8
      · rw [outsAt0_C m c ⟨k + 1, hk⟩ h0 h8]
        frame_out
        simp only [read_unread_whole]
        exact step m c ⟨k + 1, hk⟩ _ i j n hn hs
      · rw [outsAt0_B m c ⟨k + 1, hk⟩ h0 h8]
        frame_out
        simp only [read_unread_whole]
        exact step m c ⟨k + 1, hk⟩ _ i j n hn hs

/-- The gradient, as the run leaves it. -/
theorem final (c : Dev nD) : (dats m 0 c).arrAt 2 (cfgs 0).N = dW (argX m c) (argU m c) := by
  refine (dats m 0 c).arrAt_eq_of_covers 2 _ (by decide +kernel) fun t hf y => ?_
  have h8 := (by decide +kernel : ∀ t : Fin grid0.N, (win0 2).flush t = true → t.val % 9 = 8) t hf
  have hN := lt_of_lt_of_eq t.isLt N_0
  blk_simp
  rw [after0_2, outsAt0_C m c t (by omega) h8]
  frame_out
  simp only [read_unread_whole]
  idx_vars y
  have hn : (⟨t.val / 9 * 1408 + y2.val, by omega⟩ : Fin 5632).val = t.val / 9 * 1408 + y2.val := rfl
  have hs := scratch_at m c (t.val - 1) (lt_of_le_of_lt (Nat.sub_le _ _) t.isLt) y1 y2 _ (by rw [hn]; omega)
  rw [show (t.val - 1) % 9 + 1 = t.val % 9 by omega] at hs
  pointwise [k0_pay3]
  refine (step m c t _ y1 y2 _ hn hs).trans ?_
  rw [h8, Tiles.all 9 1024 rfl]
  exact dW_at (by blk_simp [idx t]; try omega) (by blk_simp [idx t])

/-- The two projections' gradients, joined along their lanes. -/
theorem joined_at (U : FVec Ideal S2x9216x2816 .bf16) (R : Fin 9216) (n : Fin 5632) :
    (if h : n.val < 2816 then U (ix3 0 R ⟨n.val, h⟩) else U (ix3 1 R ⟨n.val - 2816, by omega⟩)) = uEnt U R n := by
  unfold uEnt
  by_cases h : n.val < 2816
  · rw [dif_pos h]
    have h0 : (⟨n.val / 2816, by omega⟩ : Fin 2) = 0 := Fin.ext (by show n.val / 2816 = 0; omega)
    have h1 : (⟨n.val % 2816, by omega⟩ : Fin 2816) = ⟨n.val, h⟩ := Fin.ext (by show n.val % 2816 = n.val; omega)
    rw [h0, h1]
  · rw [dif_neg h]
    have h0 : (⟨n.val / 2816, by omega⟩ : Fin 2) = 1 := Fin.ext (by show n.val / 2816 = 1; omega)
    have h1 : (⟨n.val % 2816, by omega⟩ : Fin 2816) = ⟨n.val - 2816, by omega⟩ := Fin.ext (by show n.val % 2816 = n.val - 2816; omega)
    rw [h0, h1]

theorem ref (X : FVec Ideal S9216x1024 .bf16) (U : FVec Ideal S2x9216x2816 .bf16) :
    Reference4Ideal.Read.val_main_v13 (F := Ideal) X U = dW X U := by
  rw [← Reference4Ideal.Read.val_main_v13_eq]
  funext i
  idx_vars i
  pointwise [dW, term]
  refine Finset.sum_congr rfl fun r _ => ?_
  rw [mul_comm]
  refine congrArg (fun x : EReal => _ * x) ?_
  exact joined_at U r ⟨i0.val * 1408 + i2.val, by omega⟩

end Cert.DwFfnIn

end

end
-- ==== Proof.DwFfnOut.lean ====
/- The gradient of the feed-forward's output weights: the activations' rows against the cotangent's.

   Grid point `t` adds rows `1024 (t % 9) …` of the products to a scratch buffer for weight rows `1408 (t / 9) …`, which
   the first of nine points clears and the last copies out. -/
module

public import proofs.«01_k».proof.Proof.Gen.Kernel5Ideal.Frame
public import proofs.«01_k».proof.Proof.Gen.Reference5Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwFfnOut

open Cert.Kernel5Ideal Cert.Kernel5Ideal.Gen

variable (m : (ℓ : Loc nD τ sig) → Buf (Elt Ideal) ℓ)

/-- The activations. -/
abbrev argX (c : Dev nD) : FVec Ideal S9216x2816 .bf16 := m ((c : Thread nD τ).loc main_arg0)
/-- The cotangent. -/
abbrev argC (c : Dev nD) : FVec Ideal S9216x1024 .bf16 := m ((c : Thread nD τ).loc main_arg1)

/-- Row `r`'s product at weight entry `(I, J)`. -/
def term (X : FVec Ideal S9216x2816 .bf16) (C : FVec Ideal S9216x1024 .bf16) (I : Fin 2816) (J : Fin 1024) (r : Fin 9216) : EReal :=
  X (ix2 r I) * C (ix2 r J)

/-- The gradient. -/
def dW (X : FVec Ideal S9216x2816 .bf16) (C : FVec Ideal S9216x1024 .bf16) : FVec Ideal S2816x1024 .bf16 :=
  fun i => ∑ r, term X C (i 0) (i 1) r

/-- The gradient read at an index given by its coordinates. -/
theorem dW_at {X : FVec Ideal S9216x2816 .bf16} {C : FVec Ideal S9216x1024 .bf16} {i : S2816x1024.Idx} {I : Fin 2816} {J : Fin 1024}
    (h0 : (i 0).val = I.val) (h1 : (i 1).val = J.val) : ∑ r, term X C I J r = dW X C i := by
  obtain rfl : i 0 = I := Fin.ext h0
  obtain rfl : i 1 = J := Fin.ext h1
  rfl

theorem idx : ∀ t : Fin cfg0.N, win0_0.index t = ![t.val % 9, t.val / 9] ∧ win0_1.index t = ![t.val % 9, 0]
    ∧ win0_2.index t = ![t.val / 9, 0] :=
  (by decide +kernel : ∀ t : Fin grid0.N, _)

theorem blkX (c : Dev nD) (t : Fin cfg0.N) (q : Fin 1024) (i : Fin 1408) (R : Fin 9216) (I : Fin 2816)
    (hR : R.val = t.val % 9 * 1024 + q.val) (hI : I.val = t.val / 9 * 1408 + i.val) :
    (show FVec Ideal S1024x1408 .bf16 from iblk m c 0 t) (ix2 q i) = argX m c (ix2 R I) := by
  blk_ext [iblk, V, idx t]

theorem blkC (c : Dev nD) (t : Fin cfg0.N) (q : Fin 1024) (j : Fin 1024) (R : Fin 9216)
    (hR : R.val = t.val % 9 * 1024 + q.val) :
    (show FVec Ideal S1024x1024 .bf16 from iblk m c 1 t) (ix2 q j) = argC m c (ix2 R j) := by
  blk_ext [iblk, V, idx t]

/-- One point adds one tile of rows to what the scratch buffer held. -/
theorem step (c : Dev nD) (t : Fin cfg0.N) (S : FVec Ideal S1408x1024 .f32) (i : Fin 1408) (j : Fin 1024) (I : Fin 2816)
    (hI : I.val = t.val / 9 * 1408 + i.val)
    (hS : S (ix2 i j) = Tiles.upTo (term (argX m c) (argC m c) I j) 1024 (t.val % 9)) :
    k0_pay2 (F := Ideal) S (iblk m c 0 t) (iblk m c 1 t) (ix2 i j)
      = Tiles.upTo (term (argX m c) (argC m c) I j) 1024 (t.val % 9 + 1) := by
  pointwise [k0_pay2]
  refine Tiles.next hS _ (fun q R hR => ?_) (by omega)
  exact congrArg₂ (fun x y : EReal => x * y) (blkX m c t q i R I hR hI) (blkC m c t q j R hR)

/-- What the scratch buffer holds after grid point `n`. -/
theorem scratch_at (c : Dev nD) : ∀ (n : ℕ) (hn : n < cfg0.N) (i : Fin 1408) (j : Fin 1024) (I : Fin 2816),
    I.val = n / 9 * 1408 + i.val →
    (outsAt0 m c n hn).2 (ix2 i j) = Tiles.upTo (term (argX m c) (argC m c) I j) 1024 (n % 9 + 1) := by
  intro n
  induction n with
  | zero =>
    intro hn i j I hI
    rw [outsAt0_A m c ⟨0, hn⟩ (Nat.zero_mod _) (by show ¬ 0 % 9 = 8; omega)]
    frame_out
    exact step m c ⟨0, hn⟩ _ i j I hI (by pointwise [k0_pay1]; rfl)
  | succ n ih =>
    intro hn i j I hI
    have hN := lt_of_lt_of_eq hn N_0
    by_cases h0 : (n + 1) % 9 = 0
    · rw [outsAt0_A m c ⟨n + 1, hn⟩ h0 (by show ¬ (n + 1) % 9 = 8; omega)]
      frame_out
      refine step m c ⟨n + 1, hn⟩ _ i j I hI ?_
      rw [show (⟨n + 1, hn⟩ : Fin cfg0.N).val % 9 = 0 from h0]
      pointwise [k0_pay1]
      rfl
    · have hs := ih (Nat.lt_of_succ_lt hn) i j I (by omega)
      rw [show n % 9 + 1 = (n + 1) % 9 by omega] at hs
      by_cases h8 : (n + 1) % 9 = 8
      · rw [outsAt0_C m c ⟨n + 1, hn⟩ h0 h8]
        frame_out
        simp only [read_unread_whole]
        exact step m c ⟨n + 1, hn⟩ _ i j I hI hs
      · rw [outsAt0_B m c ⟨n + 1, hn⟩ h0 h8]
        frame_out
        simp only [read_unread_whole]
        exact step m c ⟨n + 1, hn⟩ _ i j I hI hs

/-- The gradient, as the run leaves it. -/
theorem final (c : Dev nD) : (dats m 0 c).arrAt 2 (cfgs 0).N = dW (argX m c) (argC m c) := by
  refine (dats m 0 c).arrAt_eq_of_covers 2 _ (by decide +kernel) fun t hf y => ?_
  have h8 := (by decide +kernel : ∀ t : Fin grid0.N, (win0 2).flush t = true → t.val % 9 = 8) t hf
  have hN := lt_of_lt_of_eq t.isLt N_0
  blk_simp
  rw [after0_2, outsAt0_C m c t (by omega) h8]
  frame_out
  simp only [read_unread_whole]
  idx_vars y
  have hI : (⟨t.val / 9 * 1408 + y0.val, by omega⟩ : Fin 2816).val = t.val / 9 * 1408 + y0.val := rfl
  have hs := scratch_at m c (t.val - 1) (lt_of_le_of_lt (Nat.sub_le _ _) t.isLt) y0 y1 _ (by rw [hI]; omega)
  rw [show (t.val - 1) % 9 + 1 = t.val % 9 by omega] at hs
  pointwise [k0_pay3]
  refine (step m c t _ y0 y1 _ hI hs).trans ?_
  rw [h8, Tiles.all 9 1024 rfl]
  exact dW_at (by blk_simp [idx t]) (by blk_simp [idx t])

theorem ref (X : FVec Ideal S9216x2816 .bf16) (C : FVec Ideal S9216x1024 .bf16) :
    Reference5Ideal.Read.val_main_v6 (F := Ideal) X C = dW X C := by
  rw [← Reference5Ideal.Read.val_main_v6_eq]
  funext i
  idx_vars i
  pointwise [dW, term]
  exact Finset.sum_congr rfl fun r _ => mul_comm _ _

end Cert.DwFfnOut

end

end
-- ==== Proof.DInMain.lean ====
/- The gradient of the layer's normalised input through the projection's columns before the gates' logits.

   Grid point `t` holds rows `512 t …` of the incoming gradient. The first point stores the transposed weights in a scratch
   buffer, and every point multiplies its rows by that buffer. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DInMain

open Cert.Kernel6Ideal Cert.Kernel6Ideal.Gen

variable (m : (ℓ : Loc nD τ sig) → Buf (Elt Ideal) ℓ)

/-- The weights. -/
abbrev argW (c : Dev nD) : FVec Ideal S1024x3328 .bf16 := m ((c : Thread nD τ).loc main_arg0)
/-- The gradient of the projection's output. -/
abbrev argC (c : Dev nD) : FVec Ideal S9216x3328 .bf16 := m ((c : Thread nD τ).loc main_arg1)

/-- The gradient: row `R` of the incoming gradient times row `J` of the weights. -/
def dX (W : FVec Ideal S1024x3328 .bf16) (C : FVec Ideal S9216x3328 .bf16) : FVec Ideal S9216x1024 .f32 :=
  fun i => ∑ n : Fin 3328, C (ix2 (i 0) n) * W (ix2 (i 1) n)

/-- The gradient read at an index given by its coordinates. -/
theorem dX_at {W : FVec Ideal S1024x3328 .bf16} {C : FVec Ideal S9216x3328 .bf16} {i : S9216x1024.Idx} {R : Fin 9216} {J : Fin 1024}
    (h0 : (i 0).val = R.val) (h1 : (i 1).val = J.val) : ∑ n : Fin 3328, C (ix2 R n) * W (ix2 J n) = dX W C i := by
  idx_vars i
  obtain rfl : i0 = R := Fin.ext h0
  obtain rfl : i1 = J := Fin.ext h1
  rfl

theorem idx : ∀ t : Fin cfg0.N, win0_0.index t = ![t.val, 0] ∧ win0_1.index t = ![0, 0] ∧ win0_2.index t = ![t.val, 0] :=
  (by decide +kernel : ∀ t : Fin grid0.N, _)

theorem blkC (c : Dev nD) (t : Fin cfg0.N) (r : Fin 512) (n : Fin 3328) (R : Fin 9216) (hR : R.val = t.val * 512 + r.val) :
    (show FVec Ideal S512x3328 .bf16 from iblk m c 0 t) (ix2 r n) = argC m c (ix2 R n) := by
  blk_ext [iblk, V, idx t]

/-- The transposed weights, as the first point stores them. -/
theorem wt_at (c : Dev nD) (t : Fin cfg0.N) (n : Fin 3328) (J : Fin 1024) :
    k0_pay1 (F := Ideal) (iblk m c 1 t) (ix2 n J) = argW m c (ix2 J n) := by
  pointwise [k0_pay1]
  blk_point [iblk, V, idx t]

/-- After every point the scratch buffer holds the transposed weights. -/
theorem scratch_at (c : Dev nD) : ∀ (k : ℕ) (hk : k < cfg0.N) (n : Fin 3328) (J : Fin 1024),
    (outsAt0 m c k hk).2 (ix2 n J) = argW m c (ix2 J n) := by
  intro k
  induction k with
  | zero =>
    intro hk n J
    rw [outsAt0_A m c ⟨0, hk⟩ (Nat.zero_mod _)]
    frame_out
    exact wt_at m c ⟨0, hk⟩ n J
  | succ k ih =>
    intro hk n J
    have hN := lt_of_lt_of_eq hk N_0
    rw [outsAt0_B m c ⟨k + 1, hk⟩ (by show ¬ (k + 1) % 18 = 0; omega)]
    unfold sout0_B_0
    exact ih (Nat.lt_of_succ_lt hk) n J

/-- What a point stores, when the scratch buffer holds the transposed weights. -/
theorem out_at (c : Dev nD) (t : Fin cfg0.N) (S : FVec Ideal S3328x1024 .bf16) (hS : ∀ (n : Fin 3328) (J : Fin 1024), S (ix2 n J) = argW m c (ix2 J n))
    (r : Fin 512) (J : Fin 1024) (i : S9216x1024.Idx) (h0 : (i 0).val = t.val * 512 + r.val) (h1 : (i 1).val = J.val) :
    k0_pay2 (F := Ideal) (iblk m c 0 t) S (ix2 r J) = dX (argW m c) (argC m c) i := by
  refine Eq.trans ?_ (dX_at (R := i 0) (J := J) rfl h1)
  pointwise [k0_pay2]
  refine (Finset.sum_congr rfl fun n _ => ?_)
  exact congrArg₂ (fun x y : EReal => x * y) (blkC m c t r n _ h0) (hS n J)

/-- The gradient, as the run leaves it. -/
theorem final (c : Dev nD) : (dats m 0 c).arrAt 2 (cfgs 0).N = dX (argW m c) (argC m c) := by
  refine (dats m 0 c).arrAt_eq_of_covers 2 _ (by decide +kernel) fun t _ y => ?_
  have hN := lt_of_lt_of_eq t.isLt N_0
  blk_simp
  rw [after0_2]
  by_cases h : t.val % 18 = 0
  · rw [outsAt0_A m c t h]
    frame_out
    idx_vars y
    exact out_at m c t _ (wt_at m c t) y0 y1 _ (by blk_simp [idx t]) (by blk_simp [idx t])
  · rw [outsAt0_B m c t h]
    frame_out
    simp only [read_unread_whole]
    idx_vars y
    exact out_at m c t _ (scratch_at m c (t.val - 1) (lt_of_le_of_lt (Nat.sub_le _ _) t.isLt)) y0 y1 _
      (by blk_simp [idx t]) (by blk_simp [idx t])

theorem ref (W : FVec Ideal S1024x3328 .bf16) (C : FVec Ideal S9216x3328 .bf16) :
    Reference6Ideal.Read.val_main_v4 (F := Ideal) W C = dX W C := by
  rw [← Reference6Ideal.Read.val_main_v4_eq]
  funext i
  idx_vars i
  pointwise [dX]

end Cert.DInMain

end

end
-- ==== Proof.DInGate.lean ====
/- The gradient of the layer's normalised input through the gate logits' columns, added to the other columns' part.

   Grid point `t` holds rows `512 t …` of the incoming gradient. The first point stores the transposed weights in a scratch
   buffer, and every point multiplies its rows by that buffer. -/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DInGate

open Cert.Kernel7Ideal Cert.Kernel7Ideal.Gen

variable (m : (ℓ : Loc nD τ sig) → Buf (Elt Ideal) ℓ)

/-- The weights. -/
abbrev argW (c : Dev nD) : FVec Ideal S1024x3072 .bf16 := m ((c : Thread nD τ).loc main_arg0)
/-- The gradient of the gate logits. -/
abbrev argC (c : Dev nD) : FVec Ideal S9216x3072 .bf16 := m ((c : Thread nD τ).loc main_arg1)
/-- What the other columns gave already. -/
abbrev argA (c : Dev nD) : FVec Ideal S9216x1024 .f32 := m ((c : Thread nD τ).loc main_arg2)

/-- The gradient: row `R` of the incoming gradient times row `J` of the weights, added to what was there. -/
def dX (W : FVec Ideal S1024x3072 .bf16) (C : FVec Ideal S9216x3072 .bf16) (A : FVec Ideal S9216x1024 .f32) : FVec Ideal S9216x1024 .f32 :=
  fun i => ∑ n : Fin 3072, C (ix2 (i 0) n) * W (ix2 (i 1) n) + A i

/-- The gradient read at an index given by its coordinates. -/
theorem dX_at {W : FVec Ideal S1024x3072 .bf16} {C : FVec Ideal S9216x3072 .bf16} {A : FVec Ideal S9216x1024 .f32} {i : S9216x1024.Idx} {R : Fin 9216} {J : Fin 1024}
    (h0 : (i 0).val = R.val) (h1 : (i 1).val = J.val) : ∑ n : Fin 3072, C (ix2 R n) * W (ix2 J n) + A (ix2 R J) = dX W C A i := by
  idx_vars i
  obtain rfl : i0 = R := Fin.ext h0
  obtain rfl : i1 = J := Fin.ext h1
  rfl

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem blkC (c : Dev nD) (t : Fin cfg0.N) (r : Fin 512) (n : Fin 3072) (R : Fin 9216) (hR : R.val = t.val * 512 + r.val) :
    (show FVec Ideal S512x3072 .bf16 from iblk m c 0 t) (ix2 r n) = argC m c (ix2 R n) := by
  blk_ext [iblk, V, idx t]

theorem blkA (c : Dev nD) (t : Fin cfg0.N) (r : Fin 512) (J : Fin 1024) (R : Fin 9216) (hR : R.val = t.val * 512 + r.val) :
    (show FVec Ideal S512x1024 .f32 from iblk m c 2 t) (ix2 r J) = argA m c (ix2 R J) := by
  blk_ext [iblk, V, idx t]

/-- The transposed weights, as the first point stores them. -/
theorem wt_at (c : Dev nD) (t : Fin cfg0.N) (n : Fin 3072) (J : Fin 1024) :
    k0_pay1 (F := Ideal) (iblk m c 1 t) (ix2 n J) = argW m c (ix2 J n) := by
  pointwise [k0_pay1]
  blk_point [iblk, V, idx t]

/-- After every point the scratch buffer holds the transposed weights. -/
theorem scratch_at (c : Dev nD) : ∀ (k : ℕ) (hk : k < cfg0.N) (n : Fin 3072) (J : Fin 1024),
    (outsAt0 m c k hk).2 (ix2 n J) = argW m c (ix2 J n) := by
  intro k
  induction k with
  | zero =>
    intro hk n J
    rw [outsAt0_A m c ⟨0, hk⟩ (Nat.zero_mod _)]
    frame_out
    exact wt_at m c ⟨0, hk⟩ n J
  | succ k ih =>
    intro hk n J
    have hN := lt_of_lt_of_eq hk N_0
    rw [outsAt0_B m c ⟨k + 1, hk⟩ (by show ¬ (k + 1) % 18 = 0; omega)]
    unfold sout0_B_0
    exact ih (Nat.lt_of_succ_lt hk) n J

/-- What a point stores, when the scratch buffer holds the transposed weights. -/
theorem out_at (c : Dev nD) (t : Fin cfg0.N) (S : FVec Ideal S3072x1024 .bf16) (hS : ∀ (n : Fin 3072) (J : Fin 1024), S (ix2 n J) = argW m c (ix2 J n))
    (r : Fin 512) (J : Fin 1024) (i : S9216x1024.Idx) (h0 : (i 0).val = t.val * 512 + r.val) (h1 : (i 1).val = J.val) :
    k0_pay2 (F := Ideal) (iblk m c 0 t) S (iblk m c 2 t) (ix2 r J) = dX (argW m c) (argC m c) (argA m c) i := by
  refine Eq.trans ?_ (dX_at (R := i 0) (J := J) rfl h1)
  pointwise [k0_pay2]
  refine congrArg₂ (fun x y : EReal => x + y) (Finset.sum_congr rfl fun n _ => ?_) (blkA m c t r J _ h0)
  exact congrArg₂ (fun x y : EReal => x * y) (blkC m c t r n _ h0) (hS n J)

/-- The gradient, as the run leaves it. -/
theorem final (c : Dev nD) : (dats m 0 c).arrAt 3 (cfgs 0).N = dX (argW m c) (argC m c) (argA m c) := by
  refine (dats m 0 c).arrAt_eq_of_covers 3 _ (by decide +kernel) fun t _ y => ?_
  have hN := lt_of_lt_of_eq t.isLt N_0
  blk_simp
  rw [after0_3]
  by_cases h : t.val % 18 = 0
  · rw [outsAt0_A m c t h]
    frame_out
    idx_vars y
    exact out_at m c t _ (wt_at m c t) y0 y1 _ (by blk_simp [idx t]) (by blk_simp [idx t])
  · rw [outsAt0_B m c t h]
    frame_out
    simp only [read_unread_whole]
    idx_vars y
    exact out_at m c t _ (scratch_at m c (t.val - 1) (lt_of_le_of_lt (Nat.sub_le _ _) t.isLt)) y0 y1 _
      (by blk_simp [idx t]) (by blk_simp [idx t])

theorem ref (W : FVec Ideal S1024x3072 .bf16) (C : FVec Ideal S9216x3072 .bf16) (A : FVec Ideal S9216x1024 .f32) :
    Reference7Ideal.Read.val_main_v5 (F := Ideal) W C A = dX W C A := by
  rw [← Reference7Ideal.Read.val_main_v5_eq]
  funext i
  idx_vars i
  pointwise [dX]
  exact add_comm _ _

end Cert.DInGate

end

end
-- ==== Proof.DwInMain.lean ====
/- The gradient of the input projection's weights, the columns before the gates' logits: the activations' rows against the incoming gradient's.

   Grid point `t` adds rows `1024 (t % 9) …` of the products to a scratch buffer for weight columns `1664 (t / 9) …`, which
   the first of nine points clears and the last copies out. -/
module

public import proofs.«01_k».proof.Proof.Gen.Kernel8Ideal.Frame
public import proofs.«01_k».proof.Proof.Gen.Reference8Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInMain

open Cert.Kernel8Ideal Cert.Kernel8Ideal.Gen

variable (m : (ℓ : Loc nD τ sig) → Buf (Elt Ideal) ℓ)

/-- The layer's normalised input. -/
abbrev argX (c : Dev nD) : FVec Ideal S9216x1024 .bf16 := m ((c : Thread nD τ).loc main_arg0)
/-- The gradient of the projection's output. -/
abbrev argC (c : Dev nD) : FVec Ideal S9216x3328 .bf16 := m ((c : Thread nD τ).loc main_arg1)

/-- Row `r`'s product at weight entry `(I, J)`. -/
def term (X : FVec Ideal S9216x1024 .bf16) (C : FVec Ideal S9216x3328 .bf16) (I : Fin 1024) (J : Fin 3328) (r : Fin 9216) : EReal :=
  X (ix2 r I) * C (ix2 r J)

/-- The gradient. -/
def dW (X : FVec Ideal S9216x1024 .bf16) (C : FVec Ideal S9216x3328 .bf16) : FVec Ideal S1024x3328 .bf16 :=
  fun i => ∑ r, term X C (i 0) (i 1) r

/-- The gradient read at an index given by its coordinates. -/
theorem dW_at {X : FVec Ideal S9216x1024 .bf16} {C : FVec Ideal S9216x3328 .bf16} {i : S1024x3328.Idx} {I : Fin 1024} {J : Fin 3328}
    (h0 : (i 0).val = I.val) (h1 : (i 1).val = J.val) : ∑ r, term X C I J r = dW X C i := by
  obtain rfl : i 0 = I := Fin.ext h0
  obtain rfl : i 1 = J := Fin.ext h1
  rfl

theorem idx : ∀ t : Fin cfg0.N, win0_0.index t = ![t.val % 9, 0] ∧ win0_1.index t = ![t.val % 9, t.val / 9]
    ∧ win0_2.index t = ![0, t.val / 9] :=
  (by decide +kernel : ∀ t : Fin grid0.N, _)

theorem blkX (c : Dev nD) (t : Fin cfg0.N) (q : Fin 1024) (i : Fin 1024) (R : Fin 9216)
    (hR : R.val = t.val % 9 * 1024 + q.val) :
    (show FVec Ideal S1024x1024 .bf16 from iblk m c 0 t) (ix2 q i) = argX m c (ix2 R i) := by
  blk_ext [iblk, V, idx t]

theorem blkC (c : Dev nD) (t : Fin cfg0.N) (q : Fin 1024) (j : Fin 1664) (R : Fin 9216) (J : Fin 3328)
    (hR : R.val = t.val % 9 * 1024 + q.val) (hJ : J.val = t.val / 9 * 1664 + j.val) :
    (show FVec Ideal S1024x1664 .bf16 from iblk m c 1 t) (ix2 q j) = argC m c (ix2 R J) := by
  blk_ext [iblk, V, idx t]

/-- One point adds one tile of rows to what the scratch buffer held. -/
theorem step (c : Dev nD) (t : Fin cfg0.N) (S : FVec Ideal S1024x1664 .f32) (i : Fin 1024) (j : Fin 1664) (J : Fin 3328)
    (hJ : J.val = t.val / 9 * 1664 + j.val)
    (hS : S (ix2 i j) = Tiles.upTo (term (argX m c) (argC m c) i J) 1024 (t.val % 9)) :
    k0_pay2 (F := Ideal) S (iblk m c 0 t) (iblk m c 1 t) (ix2 i j)
      = Tiles.upTo (term (argX m c) (argC m c) i J) 1024 (t.val % 9 + 1) := by
  pointwise [k0_pay2]
  refine Tiles.next hS _ (fun q R hR => ?_) (by omega)
  exact congrArg₂ (fun x y : EReal => x * y) (blkX m c t q i R hR) (blkC m c t q j R J hR hJ)

/-- What the scratch buffer holds after grid point `n`. -/
theorem scratch_at (c : Dev nD) : ∀ (n : ℕ) (hn : n < cfg0.N) (i : Fin 1024) (j : Fin 1664) (J : Fin 3328),
    J.val = n / 9 * 1664 + j.val →
    (outsAt0 m c n hn).2 (ix2 i j) = Tiles.upTo (term (argX m c) (argC m c) i J) 1024 (n % 9 + 1) := by
  intro n
  induction n with
  | zero =>
    intro hn i j J hJ
    rw [outsAt0_A m c ⟨0, hn⟩ (Nat.zero_mod _) (by show ¬ 0 % 9 = 8; omega)]
    frame_out
    exact step m c ⟨0, hn⟩ _ i j J hJ (by pointwise [k0_pay1]; rfl)
  | succ n ih =>
    intro hn i j J hJ
    have hN := lt_of_lt_of_eq hn N_0
    by_cases h0 : (n + 1) % 9 = 0
    · rw [outsAt0_A m c ⟨n + 1, hn⟩ h0 (by show ¬ (n + 1) % 9 = 8; omega)]
      frame_out
      refine step m c ⟨n + 1, hn⟩ _ i j J hJ ?_
      rw [show (⟨n + 1, hn⟩ : Fin cfg0.N).val % 9 = 0 from h0]
      pointwise [k0_pay1]
      rfl
    · have hs := ih (Nat.lt_of_succ_lt hn) i j J (by omega)
      rw [show n % 9 + 1 = (n + 1) % 9 by omega] at hs
      by_cases h8 : (n + 1) % 9 = 8
      · rw [outsAt0_C m c ⟨n + 1, hn⟩ h0 h8]
        frame_out
        simp only [read_unread_whole]
        exact step m c ⟨n + 1, hn⟩ _ i j J hJ hs
      · rw [outsAt0_B m c ⟨n + 1, hn⟩ h0 h8]
        frame_out
        simp only [read_unread_whole]
        exact step m c ⟨n + 1, hn⟩ _ i j J hJ hs

/-- The gradient, as the run leaves it. -/
theorem final (c : Dev nD) : (dats m 0 c).arrAt 2 (cfgs 0).N = dW (argX m c) (argC m c) := by
  refine (dats m 0 c).arrAt_eq_of_covers 2 _ (by decide +kernel) fun t hf y => ?_
  have h8 := (by decide +kernel : ∀ t : Fin grid0.N, (win0 2).flush t = true → t.val % 9 = 8) t hf
  have hN := lt_of_lt_of_eq t.isLt N_0
  blk_simp
  rw [after0_2, outsAt0_C m c t (by omega) h8]
  frame_out
  simp only [read_unread_whole]
  idx_vars y
  have hJ : (⟨t.val / 9 * 1664 + y1.val, by omega⟩ : Fin 3328).val = t.val / 9 * 1664 + y1.val := rfl
  have hs := scratch_at m c (t.val - 1) (lt_of_le_of_lt (Nat.sub_le _ _) t.isLt) y0 y1 _ (by rw [hJ]; omega)
  rw [show (t.val - 1) % 9 + 1 = t.val % 9 by omega] at hs
  pointwise [k0_pay3]
  refine (step m c t _ y0 y1 _ hJ hs).trans ?_
  rw [h8, Tiles.all 9 1024 rfl]
  exact dW_at (by blk_simp [idx t]) (by blk_simp [idx t])

theorem ref (X : FVec Ideal S9216x1024 .bf16) (C : FVec Ideal S9216x3328 .bf16) :
    Reference8Ideal.Read.val_main_v6 (F := Ideal) X C = dW X C := by
  rw [← Reference8Ideal.Read.val_main_v6_eq]
  funext i
  idx_vars i
  pointwise [dW, term]
  exact Finset.sum_congr rfl fun r _ => mul_comm _ _

end Cert.DwInMain

end

end
-- ==== Proof.DwInGate.lean ====
/- The gradient of the input projection's weights, the gate logits' columns: the activations' rows against the incoming gradient's.

   Grid point `t` adds rows `1024 (t % 9) …` of the products to a scratch buffer for weight columns `1536 (t / 9) …`, which
   the first of nine points clears and the last copies out. -/
module

public import proofs.«01_k».proof.Proof.Gen.Kernel9Ideal.Frame
public import proofs.«01_k».proof.Proof.Gen.Reference9Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInGate

open Cert.Kernel9Ideal Cert.Kernel9Ideal.Gen

variable (m : (ℓ : Loc nD τ sig) → Buf (Elt Ideal) ℓ)

/-- The layer's normalised input. -/
abbrev argX (c : Dev nD) : FVec Ideal S9216x1024 .bf16 := m ((c : Thread nD τ).loc main_arg0)
/-- The gradient of the gate logits. -/
abbrev argC (c : Dev nD) : FVec Ideal S9216x3072 .bf16 := m ((c : Thread nD τ).loc main_arg1)

/-- Row `r`'s product at weight entry `(I, J)`. -/
def term (X : FVec Ideal S9216x1024 .bf16) (C : FVec Ideal S9216x3072 .bf16) (I : Fin 1024) (J : Fin 3072) (r : Fin 9216) : EReal :=
  X (ix2 r I) * C (ix2 r J)

/-- The gradient. -/
def dW (X : FVec Ideal S9216x1024 .bf16) (C : FVec Ideal S9216x3072 .bf16) : FVec Ideal S1024x3072 .bf16 :=
  fun i => ∑ r, term X C (i 0) (i 1) r

/-- The gradient read at an index given by its coordinates. -/
theorem dW_at {X : FVec Ideal S9216x1024 .bf16} {C : FVec Ideal S9216x3072 .bf16} {i : S1024x3072.Idx} {I : Fin 1024} {J : Fin 3072}
    (h0 : (i 0).val = I.val) (h1 : (i 1).val = J.val) : ∑ r, term X C I J r = dW X C i := by
  obtain rfl : i 0 = I := Fin.ext h0
  obtain rfl : i 1 = J := Fin.ext h1
  rfl

theorem idx : ∀ t : Fin cfg0.N, win0_0.index t = ![t.val % 9, 0] ∧ win0_1.index t = ![t.val % 9, t.val / 9]
    ∧ win0_2.index t = ![0, t.val / 9] :=
  (by decide +kernel : ∀ t : Fin grid0.N, _)

theorem blkX (c : Dev nD) (t : Fin cfg0.N) (q : Fin 1024) (i : Fin 1024) (R : Fin 9216)
    (hR : R.val = t.val % 9 * 1024 + q.val) :
    (show FVec Ideal S1024x1024 .bf16 from iblk m c 0 t) (ix2 q i) = argX m c (ix2 R i) := by
  blk_ext [iblk, V, idx t]

theorem blkC (c : Dev nD) (t : Fin cfg0.N) (q : Fin 1024) (j : Fin 1536) (R : Fin 9216) (J : Fin 3072)
    (hR : R.val = t.val % 9 * 1024 + q.val) (hJ : J.val = t.val / 9 * 1536 + j.val) :
    (show FVec Ideal S1024x1536 .bf16 from iblk m c 1 t) (ix2 q j) = argC m c (ix2 R J) := by
  blk_ext [iblk, V, idx t]

/-- One point adds one tile of rows to what the scratch buffer held. -/
theorem step (c : Dev nD) (t : Fin cfg0.N) (S : FVec Ideal S1024x1536 .f32) (i : Fin 1024) (j : Fin 1536) (J : Fin 3072)
    (hJ : J.val = t.val / 9 * 1536 + j.val)
    (hS : S (ix2 i j) = Tiles.upTo (term (argX m c) (argC m c) i J) 1024 (t.val % 9)) :
    k0_pay2 (F := Ideal) S (iblk m c 0 t) (iblk m c 1 t) (ix2 i j)
      = Tiles.upTo (term (argX m c) (argC m c) i J) 1024 (t.val % 9 + 1) := by
  pointwise [k0_pay2]
  refine Tiles.next hS _ (fun q R hR => ?_) (by omega)
  exact congrArg₂ (fun x y : EReal => x * y) (blkX m c t q i R hR) (blkC m c t q j R J hR hJ)

/-- What the scratch buffer holds after grid point `n`. -/
theorem scratch_at (c : Dev nD) : ∀ (n : ℕ) (hn : n < cfg0.N) (i : Fin 1024) (j : Fin 1536) (J : Fin 3072),
    J.val = n / 9 * 1536 + j.val →
    (outsAt0 m c n hn).2 (ix2 i j) = Tiles.upTo (term (argX m c) (argC m c) i J) 1024 (n % 9 + 1) := by
  intro n
  induction n with
  | zero =>
    intro hn i j J hJ
    rw [outsAt0_A m c ⟨0, hn⟩ (Nat.zero_mod _) (by show ¬ 0 % 9 = 8; omega)]
    frame_out
    exact step m c ⟨0, hn⟩ _ i j J hJ (by pointwise [k0_pay1]; rfl)
  | succ n ih =>
    intro hn i j J hJ
    have hN := lt_of_lt_of_eq hn N_0
    by_cases h0 : (n + 1) % 9 = 0
    · rw [outsAt0_A m c ⟨n + 1, hn⟩ h0 (by show ¬ (n + 1) % 9 = 8; omega)]
      frame_out
      refine step m c ⟨n + 1, hn⟩ _ i j J hJ ?_
      rw [show (⟨n + 1, hn⟩ : Fin cfg0.N).val % 9 = 0 from h0]
      pointwise [k0_pay1]
      rfl
    · have hs := ih (Nat.lt_of_succ_lt hn) i j J (by omega)
      rw [show n % 9 + 1 = (n + 1) % 9 by omega] at hs
      by_cases h8 : (n + 1) % 9 = 8
      · rw [outsAt0_C m c ⟨n + 1, hn⟩ h0 h8]
        frame_out
        simp only [read_unread_whole]
        exact step m c ⟨n + 1, hn⟩ _ i j J hJ hs
      · rw [outsAt0_B m c ⟨n + 1, hn⟩ h0 h8]
        frame_out
        simp only [read_unread_whole]
        exact step m c ⟨n + 1, hn⟩ _ i j J hJ hs

/-- The gradient, as the run leaves it. -/
theorem final (c : Dev nD) : (dats m 0 c).arrAt 2 (cfgs 0).N = dW (argX m c) (argC m c) := by
  refine (dats m 0 c).arrAt_eq_of_covers 2 _ (by decide +kernel) fun t hf y => ?_
  have h8 := (by decide +kernel : ∀ t : Fin grid0.N, (win0 2).flush t = true → t.val % 9 = 8) t hf
  have hN := lt_of_lt_of_eq t.isLt N_0
  blk_simp
  rw [after0_2, outsAt0_C m c t (by omega) h8]
  frame_out
  simp only [read_unread_whole]
  idx_vars y
  have hJ : (⟨t.val / 9 * 1536 + y1.val, by omega⟩ : Fin 3072).val = t.val / 9 * 1536 + y1.val := rfl
  have hs := scratch_at m c (t.val - 1) (lt_of_le_of_lt (Nat.sub_le _ _) t.isLt) y0 y1 _ (by rw [hJ]; omega)
  rw [show (t.val - 1) % 9 + 1 = t.val % 9 by omega] at hs
  pointwise [k0_pay3]
  refine (step m c t _ y0 y1 _ hJ hs).trans ?_
  rw [h8, Tiles.all 9 1024 rfl]
  exact dW_at (by blk_simp [idx t]) (by blk_simp [idx t])

theorem ref (X : FVec Ideal S9216x1024 .bf16) (C : FVec Ideal S9216x3072 .bf16) :
    Reference9Ideal.Read.val_main_v6 (F := Ideal) X C = dW X C := by
  rw [← Reference9Ideal.Read.val_main_v6_eq]
  funext i
  idx_vars i
  pointwise [dW, term]
  exact Finset.sum_congr rfl fun r _ => mul_comm _ _

end Cert.DwInGate

end

end
-- ==== Proof.DwMix.lean ====
/- The gradient of the mixing weights: the activations' rows against the incoming gradient's.

   Grid point `t` adds rows `1024 (t % 9) …` of the products to a scratch buffer for weight columns `1024 (t / 9) …`, which
   the first of nine points clears and the last copies out. -/
module

public import proofs.«01_k».proof.Proof.Gen.Kernel10Ideal.Frame
public import proofs.«01_k».proof.Proof.Gen.Reference10Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwMix

open Cert.Kernel10Ideal Cert.Kernel10Ideal.Gen

variable (m : (ℓ : Loc nD τ sig) → Buf (Elt Ideal) ℓ)

/-- The merged branches. -/
abbrev argX (c : Dev nD) : FVec Ideal S9216x1024 .bf16 := m ((c : Thread nD τ).loc main_arg0)
/-- The gradient of the mixed output. -/
abbrev argC (c : Dev nD) : FVec Ideal S9216x1024 .bf16 := m ((c : Thread nD τ).loc main_arg1)

/-- Row `r`'s product at weight entry `(I, J)`. -/
def term (X : FVec Ideal S9216x1024 .bf16) (C : FVec Ideal S9216x1024 .bf16) (I : Fin 1024) (J : Fin 1024) (r : Fin 9216) : EReal :=
  X (ix2 r I) * C (ix2 r J)

/-- The gradient. -/
def dW (X : FVec Ideal S9216x1024 .bf16) (C : FVec Ideal S9216x1024 .bf16) : FVec Ideal S1024x1024 .bf16 :=
  fun i => ∑ r, term X C (i 0) (i 1) r

/-- The gradient read at an index given by its coordinates. -/
theorem dW_at {X : FVec Ideal S9216x1024 .bf16} {C : FVec Ideal S9216x1024 .bf16} {i : S1024x1024.Idx} {I : Fin 1024} {J : Fin 1024}
    (h0 : (i 0).val = I.val) (h1 : (i 1).val = J.val) : ∑ r, term X C I J r = dW X C i := by
  obtain rfl : i 0 = I := Fin.ext h0
  obtain rfl : i 1 = J := Fin.ext h1
  rfl

theorem idx : ∀ t : Fin cfg0.N, win0_0.index t = ![t.val % 9, 0] ∧ win0_1.index t = ![t.val % 9, t.val / 9]
    ∧ win0_2.index t = ![0, t.val / 9] :=
  (by decide +kernel : ∀ t : Fin grid0.N, _)

theorem blkX (c : Dev nD) (t : Fin cfg0.N) (q : Fin 1024) (i : Fin 1024) (R : Fin 9216)
    (hR : R.val = t.val % 9 * 1024 + q.val) :
    (show FVec Ideal S1024x1024 .bf16 from iblk m c 0 t) (ix2 q i) = argX m c (ix2 R i) := by
  blk_ext [iblk, V, idx t]

theorem blkC (c : Dev nD) (t : Fin cfg0.N) (q : Fin 1024) (j : Fin 1024) (R : Fin 9216) (J : Fin 1024)
    (hR : R.val = t.val % 9 * 1024 + q.val) (hJ : J.val = t.val / 9 * 1024 + j.val) :
    (show FVec Ideal S1024x1024 .bf16 from iblk m c 1 t) (ix2 q j) = argC m c (ix2 R J) := by
  blk_ext [iblk, V, idx t]

/-- One point adds one tile of rows to what the scratch buffer held. -/
theorem step (c : Dev nD) (t : Fin cfg0.N) (S : FVec Ideal S1024x1024 .f32) (i : Fin 1024) (j : Fin 1024) (J : Fin 1024)
    (hJ : J.val = t.val / 9 * 1024 + j.val)
    (hS : S (ix2 i j) = Tiles.upTo (term (argX m c) (argC m c) i J) 1024 (t.val % 9)) :
    k0_pay2 (F := Ideal) S (iblk m c 0 t) (iblk m c 1 t) (ix2 i j)
      = Tiles.upTo (term (argX m c) (argC m c) i J) 1024 (t.val % 9 + 1) := by
  pointwise [k0_pay2]
  refine Tiles.next hS _ (fun q R hR => ?_) (by omega)
  exact congrArg₂ (fun x y : EReal => x * y) (blkX m c t q i R hR) (blkC m c t q j R J hR hJ)

/-- What the scratch buffer holds after grid point `n`. -/
theorem scratch_at (c : Dev nD) : ∀ (n : ℕ) (hn : n < cfg0.N) (i : Fin 1024) (j : Fin 1024) (J : Fin 1024),
    J.val = n / 9 * 1024 + j.val →
    (outsAt0 m c n hn).2 (ix2 i j) = Tiles.upTo (term (argX m c) (argC m c) i J) 1024 (n % 9 + 1) := by
  intro n
  induction n with
  | zero =>
    intro hn i j J hJ
    rw [outsAt0_A m c ⟨0, hn⟩ (Nat.zero_mod _) (by show ¬ 0 % 9 = 8; omega)]
    frame_out
    exact step m c ⟨0, hn⟩ _ i j J hJ (by pointwise [k0_pay1]; rfl)
  | succ n ih =>
    intro hn i j J hJ
    have hN := lt_of_lt_of_eq hn N_0
    by_cases h0 : (n + 1) % 9 = 0
    · rw [outsAt0_A m c ⟨n + 1, hn⟩ h0 (by show ¬ (n + 1) % 9 = 8; omega)]
      frame_out
      refine step m c ⟨n + 1, hn⟩ _ i j J hJ ?_
      rw [show (⟨n + 1, hn⟩ : Fin cfg0.N).val % 9 = 0 from h0]
      pointwise [k0_pay1]
      rfl
    · have hs := ih (Nat.lt_of_succ_lt hn) i j J (by omega)
      rw [show n % 9 + 1 = (n + 1) % 9 by omega] at hs
      by_cases h8 : (n + 1) % 9 = 8
      · rw [outsAt0_C m c ⟨n + 1, hn⟩ h0 h8]
        frame_out
        simp only [read_unread_whole]
        exact step m c ⟨n + 1, hn⟩ _ i j J hJ hs
      · rw [outsAt0_B m c ⟨n + 1, hn⟩ h0 h8]
        frame_out
        simp only [read_unread_whole]
        exact step m c ⟨n + 1, hn⟩ _ i j J hJ hs

/-- The gradient, as the run leaves it. -/
theorem final (c : Dev nD) : (dats m 0 c).arrAt 2 (cfgs 0).N = dW (argX m c) (argC m c) := by
  refine (dats m 0 c).arrAt_eq_of_covers 2 _ (by decide +kernel) fun t hf y => ?_
  have h8 := (by decide +kernel : ∀ t : Fin grid0.N, (win0 2).flush t = true → t.val % 9 = 8) t hf
  have hN := lt_of_lt_of_eq t.isLt N_0
  blk_simp
  rw [after0_2, outsAt0_C m c t (by omega) h8]
  frame_out
  simp only [read_unread_whole]
  idx_vars y
  have hJ : (⟨t.val / 9 * 1024 + y1.val, by omega⟩ : Fin 1024).val = t.val / 9 * 1024 + y1.val := rfl
  have hs := scratch_at m c (t.val - 1) (lt_of_le_of_lt (Nat.sub_le _ _) t.isLt) y0 y1 _ (by rw [hJ]; omega)
  rw [show (t.val - 1) % 9 + 1 = t.val % 9 by omega] at hs
  pointwise [k0_pay3]
  refine (step m c t _ y0 y1 _ hJ hs).trans ?_
  rw [h8, Tiles.all 9 1024 rfl]
  exact dW_at (by blk_simp [idx t]) (by blk_simp [idx t])

theorem ref (X : FVec Ideal S9216x1024 .bf16) (C : FVec Ideal S9216x1024 .bf16) :
    Reference10Ideal.Read.val_main_v6 (F := Ideal) X C = dW X C := by
  rw [← Reference10Ideal.Read.val_main_v6_eq]
  funext i
  idx_vars i
  pointwise [dW, term]
  exact Finset.sum_congr rfl fun r _ => mul_comm _ _

end Cert.DwMix

end

end
-- ==== Proof.DwBranch.lean ====
/- The gradient of a branch's output weights: the activations' rows against the incoming gradient's.

   Grid point `t` adds rows `1024 (t % 9) …` of the products to a scratch buffer for weight columns `1024 (t / 9) …`, which
   the first of nine points clears and the last copies out. -/
module

public import proofs.«01_k».proof.Proof.Gen.Kernel11Ideal.Frame
public import proofs.«01_k».proof.Proof.Gen.Reference11Ideal.Read
public import proofs.«01_k».proof.Proof.Tiles
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwBranch

open Cert.Kernel11Ideal Cert.Kernel11Ideal.Gen

variable (m : (ℓ : Loc nD τ sig) → Buf (Elt Ideal) ℓ)

/-- The branch's activations. -/
abbrev argX (c : Dev nD) : FVec Ideal S9216x512 .bf16 := m ((c : Thread nD τ).loc main_arg0)
/-- The gradient of the branch's output. -/
abbrev argC (c : Dev nD) : FVec Ideal S9216x1024 .bf16 := m ((c : Thread nD τ).loc main_arg1)

/-- Row `r`'s product at weight entry `(I, J)`. -/
def term (X : FVec Ideal S9216x512 .bf16) (C : FVec Ideal S9216x1024 .bf16) (I : Fin 512) (J : Fin 1024) (r : Fin 9216) : EReal :=
  X (ix2 r I) * C (ix2 r J)

/-- The gradient. -/
def dW (X : FVec Ideal S9216x512 .bf16) (C : FVec Ideal S9216x1024 .bf16) : FVec Ideal S512x1024 .bf16 :=
  fun i => ∑ r, term X C (i 0) (i 1) r

/-- The gradient read at an index given by its coordinates. -/
theorem dW_at {X : FVec Ideal S9216x512 .bf16} {C : FVec Ideal S9216x1024 .bf16} {i : S512x1024.Idx} {I : Fin 512} {J : Fin 1024}
    (h0 : (i 0).val = I.val) (h1 : (i 1).val = J.val) : ∑ r, term X C I J r = dW X C i := by
  obtain rfl : i 0 = I := Fin.ext h0
  obtain rfl : i 1 = J := Fin.ext h1
  rfl

theorem idx : ∀ t : Fin cfg0.N, win0_0.index t = ![t.val % 9, 0] ∧ win0_1.index t = ![t.val % 9, t.val / 9]
    ∧ win0_2.index t = ![0, t.val / 9] :=
  (by decide +kernel : ∀ t : Fin grid0.N, _)

theorem blkX (c : Dev nD) (t : Fin cfg0.N) (q : Fin 1024) (i : Fin 512) (R : Fin 9216)
    (hR : R.val = t.val % 9 * 1024 + q.val) :
    (show FVec Ideal S1024x512 .bf16 from iblk m c 0 t) (ix2 q i) = argX m c (ix2 R i) := by
  blk_ext [iblk, V, idx t]

theorem blkC (c : Dev nD) (t : Fin cfg0.N) (q : Fin 1024) (j : Fin 1024) (R : Fin 9216) (J : Fin 1024)
    (hR : R.val = t.val % 9 * 1024 + q.val) (hJ : J.val = t.val / 9 * 1024 + j.val) :
    (show FVec Ideal S1024x1024 .bf16 from iblk m c 1 t) (ix2 q j) = argC m c (ix2 R J) := by
  blk_ext [iblk, V, idx t]

/-- One point adds one tile of rows to what the scratch buffer held. -/
theorem step (c : Dev nD) (t : Fin cfg0.N) (S : FVec Ideal S512x1024 .f32) (i : Fin 512) (j : Fin 1024) (J : Fin 1024)
    (hJ : J.val = t.val / 9 * 1024 + j.val)
    (hS : S (ix2 i j) = Tiles.upTo (term (argX m c) (argC m c) i J) 1024 (t.val % 9)) :
    k0_pay2 (F := Ideal) S (iblk m c 0 t) (iblk m c 1 t) (ix2 i j)
      = Tiles.upTo (term (argX m c) (argC m c) i J) 1024 (t.val % 9 + 1) := by
  pointwise [k0_pay2]
  refine Tiles.next hS _ (fun q R hR => ?_) (by omega)
  exact congrArg₂ (fun x y : EReal => x * y) (blkX m c t q i R hR) (blkC m c t q j R J hR hJ)

/-- What the scratch buffer holds after grid point `n`. -/
theorem scratch_at (c : Dev nD) : ∀ (n : ℕ) (hn : n < cfg0.N) (i : Fin 512) (j : Fin 1024) (J : Fin 1024),
    J.val = n / 9 * 1024 + j.val →
    (outsAt0 m c n hn).2 (ix2 i j) = Tiles.upTo (term (argX m c) (argC m c) i J) 1024 (n % 9 + 1) := by
  intro n
  induction n with
  | zero =>
    intro hn i j J hJ
    rw [outsAt0_A m c ⟨0, hn⟩ (Nat.zero_mod _) (by show ¬ 0 % 9 = 8; omega)]
    frame_out
    exact step m c ⟨0, hn⟩ _ i j J hJ (by pointwise [k0_pay1]; rfl)
  | succ n ih =>
    intro hn i j J hJ
    have hN := lt_of_lt_of_eq hn N_0
    by_cases h0 : (n + 1) % 9 = 0
    · rw [outsAt0_A m c ⟨n + 1, hn⟩ h0 (by show ¬ (n + 1) % 9 = 8; omega)]
      frame_out
      refine step m c ⟨n + 1, hn⟩ _ i j J hJ ?_
      rw [show (⟨n + 1, hn⟩ : Fin cfg0.N).val % 9 = 0 from h0]
      pointwise [k0_pay1]
      rfl
    · have hs := ih (Nat.lt_of_succ_lt hn) i j J (by omega)
      rw [show n % 9 + 1 = (n + 1) % 9 by omega] at hs
      by_cases h8 : (n + 1) % 9 = 8
      · rw [outsAt0_C m c ⟨n + 1, hn⟩ h0 h8]
        frame_out
        simp only [read_unread_whole]
        exact step m c ⟨n + 1, hn⟩ _ i j J hJ hs
      · rw [outsAt0_B m c ⟨n + 1, hn⟩ h0 h8]
        frame_out
        simp only [read_unread_whole]
        exact step m c ⟨n + 1, hn⟩ _ i j J hJ hs

/-- The gradient, as the run leaves it. -/
theorem final (c : Dev nD) : (dats m 0 c).arrAt 2 (cfgs 0).N = dW (argX m c) (argC m c) := by
  refine (dats m 0 c).arrAt_eq_of_covers 2 _ (by decide +kernel) fun t hf y => ?_
  have h8 := (by decide +kernel : ∀ t : Fin grid0.N, (win0 2).flush t = true → t.val % 9 = 8) t hf
  have hN := lt_of_lt_of_eq t.isLt N_0
  blk_simp
  rw [after0_2, outsAt0_C m c t (by omega) h8]
  frame_out
  simp only [read_unread_whole]
  idx_vars y
  have hJ : (⟨t.val / 9 * 1024 + y1.val, by omega⟩ : Fin 1024).val = t.val / 9 * 1024 + y1.val := rfl
  have hs := scratch_at m c (t.val - 1) (lt_of_le_of_lt (Nat.sub_le _ _) t.isLt) y0 y1 _ (by rw [hJ]; omega)
  rw [show (t.val - 1) % 9 + 1 = t.val % 9 by omega] at hs
  pointwise [k0_pay3]
  refine (step m c t _ y0 y1 _ hJ hs).trans ?_
  rw [h8, Tiles.all 9 1024 rfl]
  exact dW_at (by blk_simp [idx t]) (by blk_simp [idx t])

theorem ref (X : FVec Ideal S9216x512 .bf16) (C : FVec Ideal S9216x1024 .bf16) :
    Reference11Ideal.Read.val_main_v6 (F := Ideal) X C = dW X C := by
  rw [← Reference11Ideal.Read.val_main_v6_eq]
  funext i
  idx_vars i
  pointwise [dW, term]
  exact Finset.sum_congr rfl fun r _ => mul_comm _ _

end Cert.DwBranch

end

end
-- ==== Proof.DBranch.lean ====
/- The gradient of a branch's activations through its output weights.

   Grid point `t` holds rows `1024 t …` of the incoming gradient. The first point stores the transposed weights in a scratch
   buffer, and every point multiplies its rows by that buffer. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DBranch

open Cert.Kernel12Ideal Cert.Kernel12Ideal.Gen

variable (m : (ℓ : Loc nD τ sig) → Buf (Elt Ideal) ℓ)

/-- The weights. -/
abbrev argW (c : Dev nD) : FVec Ideal S512x1024 .bf16 := m ((c : Thread nD τ).loc main_arg0)
/-- The gradient of the branch's output. -/
abbrev argC (c : Dev nD) : FVec Ideal S9216x1024 .bf16 := m ((c : Thread nD τ).loc main_arg1)

/-- The gradient: row `R` of the incoming gradient times row `J` of the weights. -/
def dX (W : FVec Ideal S512x1024 .bf16) (C : FVec Ideal S9216x1024 .bf16) : FVec Ideal S9216x512 .f32 :=
  fun i => ∑ n : Fin 1024, C (ix2 (i 0) n) * W (ix2 (i 1) n)

/-- The gradient read at an index given by its coordinates. -/
theorem dX_at {W : FVec Ideal S512x1024 .bf16} {C : FVec Ideal S9216x1024 .bf16} {i : S9216x512.Idx} {R : Fin 9216} {J : Fin 512}
    (h0 : (i 0).val = R.val) (h1 : (i 1).val = J.val) : ∑ n : Fin 1024, C (ix2 R n) * W (ix2 J n) = dX W C i := by
  idx_vars i
  obtain rfl : i0 = R := Fin.ext h0
  obtain rfl : i1 = J := Fin.ext h1
  rfl

theorem idx : ∀ t : Fin cfg0.N, win0_0.index t = ![t.val, 0] ∧ win0_1.index t = ![0, 0] ∧ win0_2.index t = ![t.val, 0] :=
  (by decide +kernel : ∀ t : Fin grid0.N, _)

theorem blkC (c : Dev nD) (t : Fin cfg0.N) (r : Fin 1024) (n : Fin 1024) (R : Fin 9216) (hR : R.val = t.val * 1024 + r.val) :
    (show FVec Ideal S1024x1024 .bf16 from iblk m c 0 t) (ix2 r n) = argC m c (ix2 R n) := by
  blk_ext [iblk, V, idx t]

/-- The transposed weights, as the first point stores them. -/
theorem wt_at (c : Dev nD) (t : Fin cfg0.N) (n : Fin 1024) (J : Fin 512) :
    k0_pay1 (F := Ideal) (iblk m c 1 t) (ix2 n J) = argW m c (ix2 J n) := by
  pointwise [k0_pay1]
  blk_point [iblk, V, idx t]

/-- After every point the scratch buffer holds the transposed weights. -/
theorem scratch_at (c : Dev nD) : ∀ (k : ℕ) (hk : k < cfg0.N) (n : Fin 1024) (J : Fin 512),
    (outsAt0 m c k hk).2 (ix2 n J) = argW m c (ix2 J n) := by
  intro k
  induction k with
  | zero =>
    intro hk n J
    rw [outsAt0_A m c ⟨0, hk⟩ (Nat.zero_mod _)]
    frame_out
    exact wt_at m c ⟨0, hk⟩ n J
  | succ k ih =>
    intro hk n J
    have hN := lt_of_lt_of_eq hk N_0
    rw [outsAt0_B m c ⟨k + 1, hk⟩ (by show ¬ (k + 1) % 9 = 0; omega)]
    unfold sout0_B_0
    exact ih (Nat.lt_of_succ_lt hk) n J

/-- What a point stores, when the scratch buffer holds the transposed weights. -/
theorem out_at (c : Dev nD) (t : Fin cfg0.N) (S : FVec Ideal S1024x512 .bf16) (hS : ∀ (n : Fin 1024) (J : Fin 512), S (ix2 n J) = argW m c (ix2 J n))
    (r : Fin 1024) (J : Fin 512) (i : S9216x512.Idx) (h0 : (i 0).val = t.val * 1024 + r.val) (h1 : (i 1).val = J.val) :
    k0_pay2 (F := Ideal) (iblk m c 0 t) S (ix2 r J) = dX (argW m c) (argC m c) i := by
  refine Eq.trans ?_ (dX_at (R := i 0) (J := J) rfl h1)
  pointwise [k0_pay2]
  refine (Finset.sum_congr rfl fun n _ => ?_)
  exact congrArg₂ (fun x y : EReal => x * y) (blkC m c t r n _ h0) (hS n J)

/-- The gradient, as the run leaves it. -/
theorem final (c : Dev nD) : (dats m 0 c).arrAt 2 (cfgs 0).N = dX (argW m c) (argC m c) := by
  refine (dats m 0 c).arrAt_eq_of_covers 2 _ (by decide +kernel) fun t _ y => ?_
  have hN := lt_of_lt_of_eq t.isLt N_0
  blk_simp
  rw [after0_2]
  by_cases h : t.val % 9 = 0
  · rw [outsAt0_A m c t h]
    frame_out
    idx_vars y
    exact out_at m c t _ (wt_at m c t) y0 y1 _ (by blk_simp [idx t]) (by blk_simp [idx t])
  · rw [outsAt0_B m c t h]
    frame_out
    simp only [read_unread_whole]
    idx_vars y
    exact out_at m c t _ (scratch_at m c (t.val - 1) (lt_of_le_of_lt (Nat.sub_le _ _) t.isLt)) y0 y1 _
      (by blk_simp [idx t]) (by blk_simp [idx t])

theorem ref (W : FVec Ideal S512x1024 .bf16) (C : FVec Ideal S9216x1024 .bf16) :
    Reference12Ideal.Read.val_main_v4 (F := Ideal) W C = dX W C := by
  rw [← Reference12Ideal.Read.val_main_v4_eq]
  funext i
  idx_vars i
  pointwise [dX]

end Cert.DBranch

end

end
-- ==== Proof.DO.lean ====
/- The gradient of the attention's output through its branch's output weights.

   Grid point `t` holds rows `1024 t …` of the incoming gradient. The first point stores the transposed weights in a scratch
   buffer, and every point multiplies its rows by that buffer. -/
module

public import proofs.«01_k».proof.Proof.Gen.Kernel13Ideal.Frame
public import proofs.«01_k».proof.Proof.Gen.Reference13Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DO

open Cert.Kernel13Ideal Cert.Kernel13Ideal.Gen

variable (m : (ℓ : Loc nD τ sig) → Buf (Elt Ideal) ℓ)

/-- The weights. -/
abbrev argW (c : Dev nD) : FVec Ideal S512x1024 .bf16 := m ((c : Thread nD τ).loc main_arg0)
/-- The gradient of the branch's output. -/
abbrev argC (c : Dev nD) : FVec Ideal S9216x1024 .bf16 := m ((c : Thread nD τ).loc main_arg1)

/-- The gradient: row `R` of the incoming gradient times row `J` of the weights. -/
def dX (W : FVec Ideal S512x1024 .bf16) (C : FVec Ideal S9216x1024 .bf16) : FVec Ideal S9216x512 .bf16 :=
  fun i => ∑ n : Fin 1024, C (ix2 (i 0) n) * W (ix2 (i 1) n)

/-- The gradient read at an index given by its coordinates. -/
theorem dX_at {W : FVec Ideal S512x1024 .bf16} {C : FVec Ideal S9216x1024 .bf16} {i : S9216x512.Idx} {R : Fin 9216} {J : Fin 512}
    (h0 : (i 0).val = R.val) (h1 : (i 1).val = J.val) : ∑ n : Fin 1024, C (ix2 R n) * W (ix2 J n) = dX W C i := by
  idx_vars i
  obtain rfl : i0 = R := Fin.ext h0
  obtain rfl : i1 = J := Fin.ext h1
  rfl

theorem idx : ∀ t : Fin cfg0.N, win0_0.index t = ![t.val, 0] ∧ win0_1.index t = ![0, 0] ∧ win0_2.index t = ![t.val, 0] :=
  (by decide +kernel : ∀ t : Fin grid0.N, _)

theorem blkC (c : Dev nD) (t : Fin cfg0.N) (r : Fin 1024) (n : Fin 1024) (R : Fin 9216) (hR : R.val = t.val * 1024 + r.val) :
    (show FVec Ideal S1024x1024 .bf16 from iblk m c 0 t) (ix2 r n) = argC m c (ix2 R n) := by
  blk_ext [iblk, V, idx t]

/-- The transposed weights, as the first point stores them. -/
theorem wt_at (c : Dev nD) (t : Fin cfg0.N) (n : Fin 1024) (J : Fin 512) :
    k0_pay1 (F := Ideal) (iblk m c 1 t) (ix2 n J) = argW m c (ix2 J n) := by
  pointwise [k0_pay1]
  blk_point [iblk, V, idx t]

/-- After every point the scratch buffer holds the transposed weights. -/
theorem scratch_at (c : Dev nD) : ∀ (k : ℕ) (hk : k < cfg0.N) (n : Fin 1024) (J : Fin 512),
    (outsAt0 m c k hk).2 (ix2 n J) = argW m c (ix2 J n) := by
  intro k
  induction k with
  | zero =>
    intro hk n J
    rw [outsAt0_A m c ⟨0, hk⟩ (Nat.zero_mod _)]
    frame_out
    exact wt_at m c ⟨0, hk⟩ n J
  | succ k ih =>
    intro hk n J
    have hN := lt_of_lt_of_eq hk N_0
    rw [outsAt0_B m c ⟨k + 1, hk⟩ (by show ¬ (k + 1) % 9 = 0; omega)]
    unfold sout0_B_0
    exact ih (Nat.lt_of_succ_lt hk) n J

/-- What a point stores, when the scratch buffer holds the transposed weights. -/
theorem out_at (c : Dev nD) (t : Fin cfg0.N) (S : FVec Ideal S1024x512 .bf16) (hS : ∀ (n : Fin 1024) (J : Fin 512), S (ix2 n J) = argW m c (ix2 J n))
    (r : Fin 1024) (J : Fin 512) (i : S9216x512.Idx) (h0 : (i 0).val = t.val * 1024 + r.val) (h1 : (i 1).val = J.val) :
    k0_pay2 (F := Ideal) (iblk m c 0 t) S (ix2 r J) = dX (argW m c) (argC m c) i := by
  refine Eq.trans ?_ (dX_at (R := i 0) (J := J) rfl h1)
  pointwise [k0_pay2]
  refine (Finset.sum_congr rfl fun n _ => ?_)
  exact congrArg₂ (fun x y : EReal => x * y) (blkC m c t r n _ h0) (hS n J)

/-- The gradient, as the run leaves it. -/
theorem final (c : Dev nD) : (dats m 0 c).arrAt 2 (cfgs 0).N = dX (argW m c) (argC m c) := by
  refine (dats m 0 c).arrAt_eq_of_covers 2 _ (by decide +kernel) fun t _ y => ?_
  have hN := lt_of_lt_of_eq t.isLt N_0
  blk_simp
  rw [after0_2]
  by_cases h : t.val % 9 = 0
  · rw [outsAt0_A m c t h]
    frame_out
    idx_vars y
    exact out_at m c t _ (wt_at m c t) y0 y1 _ (by blk_simp [idx t]) (by blk_simp [idx t])
  · rw [outsAt0_B m c t h]
    frame_out
    simp only [read_unread_whole]
    idx_vars y
    exact out_at m c t _ (scratch_at m c (t.val - 1) (lt_of_le_of_lt (Nat.sub_le _ _) t.isLt)) y0 y1 _
      (by blk_simp [idx t]) (by blk_simp [idx t])

theorem ref (W : FVec Ideal S512x1024 .bf16) (C : FVec Ideal S9216x1024 .bf16) :
    Reference13Ideal.Read.val_main_v5 (F := Ideal) W C = dX W C := by
  rw [← Reference13Ideal.Read.val_main_v5_eq]
  funext i
  idx_vars i
  pointwise [dX]

end Cert.DO

end

end
-- ==== Proof.PMain.lean ====
/- The layer's projection, its columns before the gates' logits.

   Grid point `t` multiplies rows `1024 (t % 9) …` of the input by columns `1664 (t / 9) …` of the weights.
 -/
module

public import proofs.«01_k».proof.Proof.Gen.Kernel14Ideal.Frame
public import proofs.«01_k».proof.Proof.Gen.Reference14Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PMain

open Cert.Kernel14Ideal Cert.Kernel14Ideal.Gen

variable (m : (ℓ : Loc nD τ sig) → Buf (Elt Ideal) ℓ)

/-- The normalised input. -/
abbrev argX (c : Dev nD) : FVec Ideal S9216x1024 .bf16 := m ((c : Thread nD τ).loc main_arg0)
/-- The weights. -/
abbrev argW (c : Dev nD) : FVec Ideal S1024x3328 .bf16 := m ((c : Thread nD τ).loc main_arg1)

/-- The product. -/
def prod (X : FVec Ideal S9216x1024 .bf16) (W : FVec Ideal S1024x3328 .bf16) : FVec Ideal S9216x3328 .f32 :=
  fun i => ∑ n : Fin 1024, X (ix2 (i 0) n) * W (ix2 n (i 1))

/-- The product read at an index given by its coordinates. -/
theorem prod_at {X : FVec Ideal S9216x1024 .bf16} {W : FVec Ideal S1024x3328 .bf16} {i : S9216x3328.Idx} {R : Fin 9216} {J : Fin 3328}
    (h0 : (i 0).val = R.val) (h1 : (i 1).val = J.val) : ∑ n : Fin 1024, X (ix2 R n) * W (ix2 n J) = prod X W i := by
  obtain rfl : i 0 = R := Fin.ext h0
  obtain rfl : i 1 = J := Fin.ext h1
  rfl

theorem idx : ∀ t : Fin cfg0.N, win0_0.index t = ![t.val % 9, 0] ∧ win0_1.index t = ![0, t.val / 9]
    ∧ win0_2.index t = ![t.val % 9, t.val / 9] :=
  (by decide +kernel : ∀ t : Fin grid0.N, _)

theorem blkX (c : Dev nD) (t : Fin cfg0.N) (r : Fin 1024) (n : Fin 1024) (R : Fin 9216) (hR : R.val = t.val % 9 * 1024 + r.val) :
    (show FVec Ideal S1024x1024 .bf16 from iblk m c 0 t) (ix2 r n) = argX m c (ix2 R n) := by
  blk_ext [iblk, V, idx t]

theorem blkW (c : Dev nD) (t : Fin cfg0.N) (n : Fin 1024) (j : Fin 1664) (J : Fin 3328) (hJ : J.val = t.val / 9 * 1664 + j.val) :
    (show FVec Ideal S1024x1664 .bf16 from iblk m c 1 t) (ix2 n j) = argW m c (ix2 n J) := by
  blk_ext [iblk, V, idx t]

/-- What a point stores. -/
theorem out_at (c : Dev nD) (t : Fin cfg0.N) (r : Fin 1024) (j : Fin 1664) (i : S9216x3328.Idx)
    (h0 : (i 0).val = t.val % 9 * 1024 + r.val) (h1 : (i 1).val = t.val / 9 * 1664 + j.val) :
    k0_pay1 (F := Ideal) (iblk m c 0 t) (iblk m c 1 t) (ix2 r j) = prod (argX m c) (argW m c) i := by
  refine Eq.trans ?_ (prod_at (R := i 0) (J := i 1) rfl rfl)
  pointwise [k0_pay1]
  exact Finset.sum_congr rfl fun n _ => congrArg₂ (fun x y : EReal => x * y) (blkX m c t r n _ h0) (blkW m c t n j _ h1)

/-- The product, as the run leaves it. -/
theorem final (c : Dev nD) : (dats m 0 c).arrAt 2 (cfgs 0).N = prod (argX m c) (argW m c) := by
  refine (dats m 0 c).arrAt_eq_of_covers 2 _ (by decide +kernel) fun t _ y => ?_
  have hN := lt_of_lt_of_eq t.isLt N_0
  blk_simp
  rw [after0_2]
  frame_out
  idx_vars y
  exact out_at m c t y0 y1 _ (by blk_simp [idx t]) (by blk_simp [idx t])

theorem ref (X : FVec Ideal S9216x1024 .bf16) (W : FVec Ideal S1024x3328 .bf16) :
    Reference14Ideal.Read.val_main_v2 (F := Ideal) X W = prod X W := by
  rw [← Reference14Ideal.Read.val_main_v2_eq]
  funext i
  idx_vars i
  pointwise [prod]

end Cert.PMain

end

end
-- ==== Proof.Mix.lean ====
/- The mixing product.

   Grid point `t` multiplies rows `1024 (t % 9) …` of the input by columns `1024 (t / 9) …` of the weights.
 -/
module

public import proofs.«01_k».proof.Proof.Gen.Kernel15Ideal.Frame
public import proofs.«01_k».proof.Proof.Gen.Reference15Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix

open Cert.Kernel15Ideal Cert.Kernel15Ideal.Gen

variable (m : (ℓ : Loc nD τ sig) → Buf (Elt Ideal) ℓ)

/-- The merged branches. -/
abbrev argX (c : Dev nD) : FVec Ideal S9216x1024 .bf16 := m ((c : Thread nD τ).loc main_arg0)
/-- The weights. -/
abbrev argW (c : Dev nD) : FVec Ideal S1024x1024 .bf16 := m ((c : Thread nD τ).loc main_arg1)

/-- The product. -/
def prod (X : FVec Ideal S9216x1024 .bf16) (W : FVec Ideal S1024x1024 .bf16) : FVec Ideal S9216x1024 .f32 :=
  fun i => ∑ n : Fin 1024, X (ix2 (i 0) n) * W (ix2 n (i 1))

/-- The product read at an index given by its coordinates. -/
theorem prod_at {X : FVec Ideal S9216x1024 .bf16} {W : FVec Ideal S1024x1024 .bf16} {i : S9216x1024.Idx} {R : Fin 9216} {J : Fin 1024}
    (h0 : (i 0).val = R.val) (h1 : (i 1).val = J.val) : ∑ n : Fin 1024, X (ix2 R n) * W (ix2 n J) = prod X W i := by
  obtain rfl : i 0 = R := Fin.ext h0
  obtain rfl : i 1 = J := Fin.ext h1
  rfl

theorem idx : ∀ t : Fin cfg0.N, win0_0.index t = ![t.val % 9, 0] ∧ win0_1.index t = ![0, t.val / 9]
    ∧ win0_2.index t = ![t.val % 9, t.val / 9] :=
  (by decide +kernel : ∀ t : Fin grid0.N, _)

theorem blkX (c : Dev nD) (t : Fin cfg0.N) (r : Fin 1024) (n : Fin 1024) (R : Fin 9216) (hR : R.val = t.val % 9 * 1024 + r.val) :
    (show FVec Ideal S1024x1024 .bf16 from iblk m c 0 t) (ix2 r n) = argX m c (ix2 R n) := by
  blk_ext [iblk, V, idx t]

theorem blkW (c : Dev nD) (t : Fin cfg0.N) (n : Fin 1024) (j : Fin 1024) (J : Fin 1024) (hJ : J.val = t.val / 9 * 1024 + j.val) :
    (show FVec Ideal S1024x1024 .bf16 from iblk m c 1 t) (ix2 n j) = argW m c (ix2 n J) := by
  blk_ext [iblk, V, idx t]

/-- What a point stores. -/
theorem out_at (c : Dev nD) (t : Fin cfg0.N) (r : Fin 1024) (j : Fin 1024) (i : S9216x1024.Idx)
    (h0 : (i 0).val = t.val % 9 * 1024 + r.val) (h1 : (i 1).val = t.val / 9 * 1024 + j.val) :
    k0_pay1 (F := Ideal) (iblk m c 0 t) (iblk m c 1 t) (ix2 r j) = prod (argX m c) (argW m c) i := by
  refine Eq.trans ?_ (prod_at (R := i 0) (J := i 1) rfl rfl)
  pointwise [k0_pay1]
  exact Finset.sum_congr rfl fun n _ => congrArg₂ (fun x y : EReal => x * y) (blkX m c t r n _ h0) (blkW m c t n j _ h1)

/-- The product, as the run leaves it. -/
theorem final (c : Dev nD) : (dats m 0 c).arrAt 2 (cfgs 0).N = prod (argX m c) (argW m c) := by
  refine (dats m 0 c).arrAt_eq_of_covers 2 _ (by decide +kernel) fun t _ y => ?_
  have hN := lt_of_lt_of_eq t.isLt N_0
  blk_simp
  rw [after0_2]
  frame_out
  idx_vars y
  exact out_at m c t y0 y1 _ (by blk_simp [idx t]) (by blk_simp [idx t])

theorem ref (X : FVec Ideal S9216x1024 .bf16) (W : FVec Ideal S1024x1024 .bf16) :
    Reference15Ideal.Read.val_main_v2 (F := Ideal) X W = prod X W := by
  rw [← Reference15Ideal.Read.val_main_v2_eq]
  funext i
  idx_vars i
  pointwise [prod]

end Cert.Mix

end

end
-- ==== Proof.FfnOut.lean ====
/- The feed-forward's output product.

   Grid point `t` multiplies rows `1024 (t % 9) …` of the input by columns `1024 (t / 9) …` of the weights.
 -/
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnOut

open Cert.Kernel16Ideal Cert.Kernel16Ideal.Gen

variable (m : (ℓ : Loc nD τ sig) → Buf (Elt Ideal) ℓ)

/-- The gated activation. -/
abbrev argX (c : Dev nD) : FVec Ideal S9216x2816 .bf16 := m ((c : Thread nD τ).loc main_arg0)
/-- The weights. -/
abbrev argW (c : Dev nD) : FVec Ideal S2816x1024 .bf16 := m ((c : Thread nD τ).loc main_arg1)

/-- The product. -/
def prod (X : FVec Ideal S9216x2816 .bf16) (W : FVec Ideal S2816x1024 .bf16) : FVec Ideal S9216x1024 .f32 :=
  fun i => ∑ n : Fin 2816, X (ix2 (i 0) n) * W (ix2 n (i 1))

/-- The product read at an index given by its coordinates. -/
theorem prod_at {X : FVec Ideal S9216x2816 .bf16} {W : FVec Ideal S2816x1024 .bf16} {i : S9216x1024.Idx} {R : Fin 9216} {J : Fin 1024}
    (h0 : (i 0).val = R.val) (h1 : (i 1).val = J.val) : ∑ n : Fin 2816, X (ix2 R n) * W (ix2 n J) = prod X W i := by
  obtain rfl : i 0 = R := Fin.ext h0
  obtain rfl : i 1 = J := Fin.ext h1
  rfl

theorem idx : ∀ t : Fin cfg0.N, win0_0.index t = ![t.val % 9, 0] ∧ win0_1.index t = ![0, t.val / 9]
    ∧ win0_2.index t = ![t.val % 9, t.val / 9] :=
  (by decide +kernel : ∀ t : Fin grid0.N, _)

theorem blkX (c : Dev nD) (t : Fin cfg0.N) (r : Fin 1024) (n : Fin 2816) (R : Fin 9216) (hR : R.val = t.val % 9 * 1024 + r.val) :
    (show FVec Ideal S1024x2816 .bf16 from iblk m c 0 t) (ix2 r n) = argX m c (ix2 R n) := by
  blk_ext [iblk, V, idx t]

theorem blkW (c : Dev nD) (t : Fin cfg0.N) (n : Fin 2816) (j : Fin 1024) (J : Fin 1024) (hJ : J.val = t.val / 9 * 1024 + j.val) :
    (show FVec Ideal S2816x1024 .bf16 from iblk m c 1 t) (ix2 n j) = argW m c (ix2 n J) := by
  blk_ext [iblk, V, idx t]

/-- What a point stores. -/
theorem out_at (c : Dev nD) (t : Fin cfg0.N) (r : Fin 1024) (j : Fin 1024) (i : S9216x1024.Idx)
    (h0 : (i 0).val = t.val % 9 * 1024 + r.val) (h1 : (i 1).val = t.val / 9 * 1024 + j.val) :
    k0_pay1 (F := Ideal) (iblk m c 0 t) (iblk m c 1 t) (ix2 r j) = prod (argX m c) (argW m c) i := by
  refine Eq.trans ?_ (prod_at (R := i 0) (J := i 1) rfl rfl)
  pointwise [k0_pay1]
  exact Finset.sum_congr rfl fun n _ => congrArg₂ (fun x y : EReal => x * y) (blkX m c t r n _ h0) (blkW m c t n j _ h1)

/-- The product, as the run leaves it. -/
theorem final (c : Dev nD) : (dats m 0 c).arrAt 2 (cfgs 0).N = prod (argX m c) (argW m c) := by
  refine (dats m 0 c).arrAt_eq_of_covers 2 _ (by decide +kernel) fun t _ y => ?_
  have hN := lt_of_lt_of_eq t.isLt N_0
  blk_simp
  rw [after0_2]
  frame_out
  idx_vars y
  exact out_at m c t y0 y1 _ (by blk_simp [idx t]) (by blk_simp [idx t])

theorem ref (X : FVec Ideal S9216x2816 .bf16) (W : FVec Ideal S2816x1024 .bf16) :
    Reference16Ideal.Read.val_main_v2 (F := Ideal) X W = prod X W := by
  rw [← Reference16Ideal.Read.val_main_v2_eq]
  funext i
  idx_vars i
  pointwise [prod]

end Cert.FfnOut

end

end
-- ==== Proof.GateMerge.lean ====
/- The gates, the three branches' outputs, and their gated sum.

   Grid point `t` computes rows `512 (t % 18) …`, columns `512 (t / 18) …` of all seven: three products of the normalised
   input with the gate logits' columns, and three products of a branch's activations with its output weights.
 -/
module

public import proofs.«01_k».proof.Proof.Gen.Kernel17Ideal.Frame
public import proofs.«01_k».proof.Proof.Gen.Reference17Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateMerge

open Cert.Kernel17Ideal Cert.Kernel17Ideal.Gen

variable (m : (ℓ : Loc nD τ sig) → Buf (Elt Ideal) ℓ)

/-- The normalised input. -/
abbrev argH (c : Dev nD) : FVec Ideal S9216x1024 .bf16 := m ((c : Thread nD τ).loc main_arg0)
/-- The gate logits' weights. -/
abbrev argG (c : Dev nD) : FVec Ideal S1024x3072 .bf16 := m ((c : Thread nD τ).loc main_arg1)
/-- The attention's output. -/
abbrev argX0 (c : Dev nD) : FVec Ideal S9216x512 .bf16 := m ((c : Thread nD τ).loc main_arg2)
/-- The conformer branch's activations. -/
abbrev argX1 (c : Dev nD) : FVec Ideal S9216x512 .bf16 := m ((c : Thread nD τ).loc main_arg3)
/-- The short convolution branch's activations. -/
abbrev argX2 (c : Dev nD) : FVec Ideal S9216x512 .bf16 := m ((c : Thread nD τ).loc main_arg4)
/-- The attention branch's output weights. -/
abbrev argW0 (c : Dev nD) : FVec Ideal S512x1024 .bf16 := m ((c : Thread nD τ).loc main_arg5)
/-- The conformer branch's output weights. -/
abbrev argW1 (c : Dev nD) : FVec Ideal S512x1024 .bf16 := m ((c : Thread nD τ).loc main_arg6)
/-- The short convolution branch's output weights. -/
abbrev argW2 (c : Dev nD) : FVec Ideal S512x1024 .bf16 := m ((c : Thread nD τ).loc main_arg7)

/-- The gates' activation. -/
def logistic (x : EReal) : EReal := Ideal.div 1 (1 + Ideal.exp (-x))

/-- The gate at row `R` and column `n` of the logits. -/
def gateAt (H : FVec Ideal S9216x1024 .bf16) (G : FVec Ideal S1024x3072 .bf16) (R : Fin 9216) (n : Fin 3072) : EReal :=
  logistic (∑ k : Fin 1024, H (ix2 R k) * G (ix2 k n))

/-- A branch's output. -/
def yAt (X : FVec Ideal S9216x512 .bf16) (W : FVec Ideal S512x1024 .bf16) (R : Fin 9216) (J : Fin 1024) : EReal :=
  ∑ k : Fin 512, X (ix2 R k) * W (ix2 k J)

/-- The three gates, one after the other. -/
def gates (H : FVec Ideal S9216x1024 .bf16) (G : FVec Ideal S1024x3072 .bf16) : FVec Ideal S3x9216x1024 .bf16 :=
  fun i =>
    have h0 : (i 0).val < 3 := (i 0).isLt
    have h2 : (i 2).val < 1024 := (i 2).isLt
    gateAt H G (i 1) ⟨(i 0).val * 1024 + (i 2).val, by omega⟩

/-- The three branches' outputs, one after the other. -/
def ys (X0 X1 X2 : FVec Ideal S9216x512 .bf16) (W0 W1 W2 : FVec Ideal S512x1024 .bf16) : FVec Ideal S3x9216x1024 .bf16 :=
  fun i => if (i 0).val < 1 then yAt X0 W0 (i 1) (i 2) else if (i 0).val - 1 < 1 then yAt X1 W1 (i 1) (i 2) else yAt X2 W2 (i 1) (i 2)

/-- The gated sum at row `R`, lane `J`. -/
def mergedAt (H : FVec Ideal S9216x1024 .bf16) (G : FVec Ideal S1024x3072 .bf16) (X0 X1 X2 : FVec Ideal S9216x512 .bf16) (W0 W1 W2 : FVec Ideal S512x1024 .bf16) (R : Fin 9216) (J : Fin 1024) : EReal :=
  gateAt H G R ⟨J.val, by omega⟩ * yAt X0 W0 R J + gateAt H G R ⟨1024 + J.val, by omega⟩ * yAt X1 W1 R J
    + gateAt H G R ⟨2048 + J.val, by omega⟩ * yAt X2 W2 R J

/-- The gated sum. -/
def merged (H : FVec Ideal S9216x1024 .bf16) (G : FVec Ideal S1024x3072 .bf16) (X0 X1 X2 : FVec Ideal S9216x512 .bf16) (W0 W1 W2 : FVec Ideal S512x1024 .bf16) : FVec Ideal S9216x1024 .bf16 := fun i => mergedAt H G X0 X1 X2 W0 W1 W2 (i 0) (i 1)

theorem idx : ∀ t : Fin cfg0.N, win0_0.index t = ![t.val % 18, 0]
    ∧ win0_1.index t = ![0, t.val / 18] ∧ win0_2.index t = ![0, 2 + t.val / 18] ∧ win0_3.index t = ![0, 4 + t.val / 18]
    ∧ win0_4.index t = ![t.val % 18, 0] ∧ win0_5.index t = ![t.val % 18, 0] ∧ win0_6.index t = ![t.val % 18, 0]
    ∧ win0_7.index t = ![0, t.val / 18] ∧ win0_8.index t = ![0, t.val / 18] ∧ win0_9.index t = ![0, t.val / 18]
    ∧ win0_10.index t = ![t.val % 18, t.val / 18] ∧ win0_11.index t = ![0, t.val % 18, t.val / 18]
    ∧ win0_12.index t = ![0, t.val % 18, t.val / 18] :=
  (by decide +kernel : ∀ t : Fin grid0.N, _)

theorem blkH (c : Dev nD) (t : Fin cfg0.N) (r : Fin 512) (k : Fin 1024) (R : Fin 9216) (hR : R.val = t.val % 18 * 512 + r.val) :
    (show FVec Ideal S512x1024 .bf16 from iblk m c 0 t) (ix2 r k) = argH m c (ix2 R k) := by
  blk_ext [iblk, V, idx t]

theorem blkG0 (c : Dev nD) (t : Fin cfg0.N) (k : Fin 1024) (j : Fin 512) (n : Fin 3072) (hn : n.val = 0 + (t.val / 18 * 512 + j.val)) :
    (show FVec Ideal S1024x512 .bf16 from iblk m c 1 t) (ix2 k j) = argG m c (ix2 k n) := by
  blk_ext [iblk, V, idx t]

theorem blkX0 (c : Dev nD) (t : Fin cfg0.N) (r k : Fin 512) (R : Fin 9216) (hR : R.val = t.val % 18 * 512 + r.val) :
    (show FVec Ideal S512x512 .bf16 from iblk m c 4 t) (ix2 r k) = argX0 m c (ix2 R k) := by
  blk_ext [iblk, V, idx t]

theorem blkW0 (c : Dev nD) (t : Fin cfg0.N) (k j : Fin 512) (J : Fin 1024) (hJ : J.val = t.val / 18 * 512 + j.val) :
    (show FVec Ideal S512x512 .bf16 from iblk m c 7 t) (ix2 k j) = argW0 m c (ix2 k J) := by
  blk_ext [iblk, V, idx t]

theorem blkG1 (c : Dev nD) (t : Fin cfg0.N) (k : Fin 1024) (j : Fin 512) (n : Fin 3072) (hn : n.val = 1024 + (t.val / 18 * 512 + j.val)) :
    (show FVec Ideal S1024x512 .bf16 from iblk m c 2 t) (ix2 k j) = argG m c (ix2 k n) := by
  blk_ext [iblk, V, idx t]

theorem blkX1 (c : Dev nD) (t : Fin cfg0.N) (r k : Fin 512) (R : Fin 9216) (hR : R.val = t.val % 18 * 512 + r.val) :
    (show FVec Ideal S512x512 .bf16 from iblk m c 5 t) (ix2 r k) = argX1 m c (ix2 R k) := by
  blk_ext [iblk, V, idx t]

theorem blkW1 (c : Dev nD) (t : Fin cfg0.N) (k j : Fin 512) (J : Fin 1024) (hJ : J.val = t.val / 18 * 512 + j.val) :
    (show FVec Ideal S512x512 .bf16 from iblk m c 8 t) (ix2 k j) = argW1 m c (ix2 k J) := by
  blk_ext [iblk, V, idx t]

theorem blkG2 (c : Dev nD) (t : Fin cfg0.N) (k : Fin 1024) (j : Fin 512) (n : Fin 3072) (hn : n.val = 2048 + (t.val / 18 * 512 + j.val)) :
    (show FVec Ideal S1024x512 .bf16 from iblk m c 3 t) (ix2 k j) = argG m c (ix2 k n) := by
  blk_ext [iblk, V, idx t]

theorem blkX2 (c : Dev nD) (t : Fin cfg0.N) (r k : Fin 512) (R : Fin 9216) (hR : R.val = t.val % 18 * 512 + r.val) :
    (show FVec Ideal S512x512 .bf16 from iblk m c 6 t) (ix2 r k) = argX2 m c (ix2 R k) := by
  blk_ext [iblk, V, idx t]

theorem blkW2 (c : Dev nD) (t : Fin cfg0.N) (k j : Fin 512) (J : Fin 1024) (hJ : J.val = t.val / 18 * 512 + j.val) :
    (show FVec Ideal S512x512 .bf16 from iblk m c 9 t) (ix2 k j) = argW2 m c (ix2 k J) := by
  blk_ext [iblk, V, idx t]

/-- A gate from the blocks a point reads. -/
theorem gate_block {H : FVec Ideal S9216x1024 .bf16} {G : FVec Ideal S1024x3072 .bf16} {Hb : FVec Ideal S512x1024 .bf16}
    {Gb : FVec Ideal S1024x512 .bf16} {r j : Fin 512} {R : Fin 9216} {n : Fin 3072} (hH : ∀ k, Hb (ix2 r k) = H (ix2 R k))
    (hG : ∀ k, Gb (ix2 k j) = G (ix2 k n)) : logistic (∑ k : Fin 1024, Hb (ix2 r k) * Gb (ix2 k j)) = gateAt H G R n := by
  unfold gateAt
  exact congrArg logistic (Finset.sum_congr rfl fun k _ => congrArg₂ (fun x y : EReal => x * y) (hH k) (hG k))

/-- A branch's output from the blocks a point reads. -/
theorem y_block {X : FVec Ideal S9216x512 .bf16} {W : FVec Ideal S512x1024 .bf16} {Xb Wb : FVec Ideal S512x512 .bf16}
    {r j : Fin 512} {R : Fin 9216} {J : Fin 1024} (hX : ∀ k, Xb (ix2 r k) = X (ix2 R k)) (hW : ∀ k, Wb (ix2 k j) = W (ix2 k J)) :
    (∑ k : Fin 512, Xb (ix2 r k) * Wb (ix2 k j) : EReal) = yAt X W R J :=
  Finset.sum_congr rfl fun k _ => congrArg₂ (fun x y : EReal => x * y) (hX k) (hW k)

/-- The gated sum a point stores. -/
theorem merged_at (c : Dev nD) (t : Fin cfg0.N) (r j : Fin 512) (R : Fin 9216) (J : Fin 1024)
    (h0 : R.val = t.val % 18 * 512 + r.val) (h1 : J.val = t.val / 18 * 512 + j.val) :
    k0_pay3 (F := Ideal) (k0_pay16 (iblk m c 0 t) (k0_pay6 (iblk m c 0 t) (iblk m c 1 t) (iblk m c 4 t) (iblk m c 7 t))
      (k0_pay9 (iblk m c 0 t) (iblk m c 2 t)) (iblk m c 5 t) (iblk m c 8 t) (iblk m c 3 t) (iblk m c 6 t) (iblk m c 9 t)) (ix2 r j)
      = mergedAt (argH m c) (argG m c) (argX0 m c) (argX1 m c) (argX2 m c) (argW0 m c) (argW1 m c) (argW2 m c) R J := by
  have n0 : (⟨J.val, by omega⟩ : Fin 3072).val = 0 + (t.val / 18 * 512 + j.val) := (h1.trans (Nat.zero_add _).symm)
  have n1 : (⟨1024 + J.val, by omega⟩ : Fin 3072).val = 1024 + (t.val / 18 * 512 + j.val) := (congrArg (1024 + ·) h1)
  have n2 : (⟨2048 + J.val, by omega⟩ : Fin 3072).val = 2048 + (t.val / 18 * 512 + j.val) := (congrArg (2048 + ·) h1)
  have e0 := gate_block (blkH m c t r · R h0) (fun k => blkG0 m c t k j _ n0)
  have e1 := gate_block (blkH m c t r · R h0) (fun k => blkG1 m c t k j _ n1)
  have e2 := gate_block (blkH m c t r · R h0) (fun k => blkG2 m c t k j _ n2)
  have f0 := y_block (blkX0 m c t r · R h0) (fun k => blkW0 m c t k j J h1)
  have f1 := y_block (blkX1 m c t r · R h0) (fun k => blkW1 m c t k j J h1)
  have f2 := y_block (blkX2 m c t r · R h0) (fun k => blkW2 m c t k j J h1)
  pointwise [k0_pay3, k0_pay16, k0_pay15, k0_pay14, k0_pay11, k0_pay10, k0_pay9, k0_pay6, k0_pay5, k0_pay4]
  simp only [zero_sub]
  exact congrArg₂ (fun x y : EReal => x + y) (congrArg₂ (fun x y : EReal => x + y) (congrArg₂ (fun x y : EReal => x * y) e0 f0)
    (congrArg₂ (fun x y : EReal => x * y) e1 f1)) (congrArg₂ (fun x y : EReal => x * y) e2 f2)

/-- The three gates read at an index given by its coordinates. -/
theorem gates_at {H : FVec Ideal S9216x1024 .bf16} {G : FVec Ideal S1024x3072 .bf16} {i : S3x9216x1024.Idx} {R : Fin 9216} {n : Fin 3072}
    (h0 : (i 0).val * 1024 + (i 2).val = n.val) (h1 : (i 1).val = R.val) : gateAt H G R n = gates H G i := by
  obtain rfl : i 1 = R := Fin.ext h1
  obtain ⟨n, hn⟩ := n
  subst h0
  rfl

theorem ys_at0 {X0 X1 X2 : FVec Ideal S9216x512 .bf16} {W0 W1 W2 : FVec Ideal S512x1024 .bf16} {i : S3x9216x1024.Idx} {R : Fin 9216} {J : Fin 1024}
    (h0 : (i 0).val = 0) (h1 : (i 1).val = R.val) (h2 : (i 2).val = J.val) : yAt X0 W0 R J = ys X0 X1 X2 W0 W1 W2 i := by
  obtain rfl : i 1 = R := Fin.ext h1
  obtain rfl : i 2 = J := Fin.ext h2
  unfold ys
  rw [if_pos (by omega)]

theorem ys_at1 {X0 X1 X2 : FVec Ideal S9216x512 .bf16} {W0 W1 W2 : FVec Ideal S512x1024 .bf16} {i : S3x9216x1024.Idx} {R : Fin 9216} {J : Fin 1024}
    (h0 : (i 0).val = 1) (h1 : (i 1).val = R.val) (h2 : (i 2).val = J.val) : yAt X1 W1 R J = ys X0 X1 X2 W0 W1 W2 i := by
  obtain rfl : i 1 = R := Fin.ext h1
  obtain rfl : i 2 = J := Fin.ext h2
  unfold ys
  rw [if_neg (by omega), if_pos (by omega)]

theorem ys_at2 {X0 X1 X2 : FVec Ideal S9216x512 .bf16} {W0 W1 W2 : FVec Ideal S512x1024 .bf16} {i : S3x9216x1024.Idx} {R : Fin 9216} {J : Fin 1024}
    (h0 : (i 0).val = 2) (h1 : (i 1).val = R.val) (h2 : (i 2).val = J.val) : yAt X2 W2 R J = ys X0 X1 X2 W0 W1 W2 i := by
  obtain rfl : i 1 = R := Fin.ext h1
  obtain rfl : i 2 = J := Fin.ext h2
  unfold ys
  rw [if_neg (by omega), if_neg (by omega)]

set_option maxHeartbeats 2000000 in
/-- The gates, as the run leaves them. -/
theorem final11 (c : Dev nD) : (dats m 0 c).arrAt 11 (cfgs 0).N = gates (argH m c) (argG m c) := by
  refine (dats m 0 c).arrAt_eq_of_covers 11 _ (by decide +kernel) fun t _ y => ?_
  have hN := lt_of_lt_of_eq t.isLt N_0
  blk_simp
  rw [after0_11]
  unfold_out out0_11
  frame_out
  canon_tiles x hx
  · idx_vars x
    obtain ⟨n, hn⟩ : ∃ n : Fin 3072, n.val = 2048 + (t.val / 18 * 512 + x2.val) := ⟨⟨2048 + (t.val / 18 * 512 + x2.val), by omega⟩, rfl⟩
    obtain ⟨R, hR⟩ : ∃ R : Fin 9216, R.val = t.val % 18 * 512 + x1.val := ⟨⟨t.val % 18 * 512 + x1.val, by omega⟩, rfl⟩
    have e := gate_block (blkH m c t x1 · _ hR) (fun k => blkG2 m c t k x2 _ hn)
    refine Eq.trans ?_ (e.trans (gates_at ?_ ?_))
    · pointwise [k0_pay1, k0_pay17, k0_pay14]
      simp only [zero_sub]
      rfl
    · blk_simp [idx t]
      omega
    · blk_simp [idx t]
      omega
  · idx_vars x
    obtain ⟨n, hn⟩ : ∃ n : Fin 3072, n.val = 1024 + (t.val / 18 * 512 + x2.val) := ⟨⟨1024 + (t.val / 18 * 512 + x2.val), by omega⟩, rfl⟩
    obtain ⟨R, hR⟩ : ∃ R : Fin 9216, R.val = t.val % 18 * 512 + x1.val := ⟨⟨t.val % 18 * 512 + x1.val, by omega⟩, rfl⟩
    have e := gate_block (blkH m c t x1 · _ hR) (fun k => blkG1 m c t k x2 _ hn)
    refine Eq.trans ?_ (e.trans (gates_at ?_ ?_))
    · pointwise [k0_pay12, k0_pay10, k0_pay9]
      simp only [zero_sub]
      rfl
    · blk_simp [idx t]
      omega
    · blk_simp [idx t]
      omega
  · idx_vars x
    obtain ⟨n, hn⟩ : ∃ n : Fin 3072, n.val = 0 + (t.val / 18 * 512 + x2.val) := ⟨⟨0 + (t.val / 18 * 512 + x2.val), by omega⟩, rfl⟩
    obtain ⟨R, hR⟩ : ∃ R : Fin 9216, R.val = t.val % 18 * 512 + x1.val := ⟨⟨t.val % 18 * 512 + x1.val, by omega⟩, rfl⟩
    have e := gate_block (blkH m c t x1 · _ hR) (fun k => blkG0 m c t k x2 _ hn)
    refine Eq.trans ?_ (e.trans (gates_at ?_ ?_))
    · pointwise [k0_pay7, k0_pay4]
      simp only [zero_sub]
      rfl
    · blk_simp [idx t]
      omega
    · blk_simp [idx t]
      omega

set_option maxHeartbeats 2000000 in
/-- The branches' outputs, as the run leaves them. -/
theorem final12 (c : Dev nD) : (dats m 0 c).arrAt 12 (cfgs 0).N = ys (argX0 m c) (argX1 m c) (argX2 m c) (argW0 m c) (argW1 m c) (argW2 m c) := by
  refine (dats m 0 c).arrAt_eq_of_covers 12 _ (by decide +kernel) fun t _ y => ?_
  have hN := lt_of_lt_of_eq t.isLt N_0
  blk_simp
  rw [after0_12]
  frame_out
  canon_tiles x hx
  · idx_vars x
    obtain ⟨R, hR⟩ : ∃ R : Fin 9216, R.val = t.val % 18 * 512 + x1.val := ⟨⟨t.val % 18 * 512 + x1.val, by omega⟩, rfl⟩
    obtain ⟨J, hJ⟩ : ∃ J : Fin 1024, J.val = t.val / 18 * 512 + x2.val := ⟨⟨t.val / 18 * 512 + x2.val, by omega⟩, rfl⟩
    have e := y_block (blkX2 m c t x1 · _ hR) (fun k => blkW2 m c t k x2 _ hJ)
    refine Eq.trans ?_ (e.trans (ys_at2 ?_ ?_ ?_))
    · pointwise [k0_pay2, k0_pay15]
    · blk_simp [idx t]
      omega
    · blk_simp [idx t]
      omega
    · blk_simp [idx t]
      omega
  · idx_vars x
    obtain ⟨R, hR⟩ : ∃ R : Fin 9216, R.val = t.val % 18 * 512 + x1.val := ⟨⟨t.val % 18 * 512 + x1.val, by omega⟩, rfl⟩
    obtain ⟨J, hJ⟩ : ∃ J : Fin 1024, J.val = t.val / 18 * 512 + x2.val := ⟨⟨t.val / 18 * 512 + x2.val, by omega⟩, rfl⟩
    have e := y_block (blkX1 m c t x1 · _ hR) (fun k => blkW1 m c t k x2 _ hJ)
    refine Eq.trans ?_ (e.trans (ys_at1 ?_ ?_ ?_))
    · pointwise [k0_pay13, k0_pay11]
    · blk_simp [idx t]
      omega
    · blk_simp [idx t]
      omega
    · blk_simp [idx t]
      omega
  · idx_vars x
    obtain ⟨R, hR⟩ : ∃ R : Fin 9216, R.val = t.val % 18 * 512 + x1.val := ⟨⟨t.val % 18 * 512 + x1.val, by omega⟩, rfl⟩
    obtain ⟨J, hJ⟩ : ∃ J : Fin 1024, J.val = t.val / 18 * 512 + x2.val := ⟨⟨t.val / 18 * 512 + x2.val, by omega⟩, rfl⟩
    have e := y_block (blkX0 m c t x1 · _ hR) (fun k => blkW0 m c t k x2 _ hJ)
    refine Eq.trans ?_ (e.trans (ys_at0 ?_ ?_ ?_))
    · pointwise [k0_pay8, k0_pay5]
    · blk_simp [idx t]
      omega
    · blk_simp [idx t]
      omega
    · blk_simp [idx t]
      omega

theorem merged_eq {H : FVec Ideal S9216x1024 .bf16} {G : FVec Ideal S1024x3072 .bf16} {X0 X1 X2 : FVec Ideal S9216x512 .bf16} {W0 W1 W2 : FVec Ideal S512x1024 .bf16} {i : S9216x1024.Idx} {R : Fin 9216} {J : Fin 1024}
    (h0 : (i 0).val = R.val) (h1 : (i 1).val = J.val) : mergedAt H G X0 X1 X2 W0 W1 W2 R J = merged H G X0 X1 X2 W0 W1 W2 i := by
  obtain rfl : i 0 = R := Fin.ext h0
  obtain rfl : i 1 = J := Fin.ext h1
  rfl

/-- The gated sum, as the run leaves it. -/
theorem final10 (c : Dev nD) : (dats m 0 c).arrAt 10 (cfgs 0).N = merged (argH m c) (argG m c) (argX0 m c) (argX1 m c) (argX2 m c) (argW0 m c) (argW1 m c) (argW2 m c) := by
  refine (dats m 0 c).arrAt_eq_of_covers 10 _ (by decide +kernel) fun t _ y => ?_
  have hN := lt_of_lt_of_eq t.isLt N_0
  blk_simp
  rw [after0_10]
  unfold_out out0_10
  frame_out
  idx_vars y
  obtain ⟨R, hR⟩ : ∃ R : Fin 9216, R.val = t.val % 18 * 512 + y0.val := ⟨⟨t.val % 18 * 512 + y0.val, by omega⟩, rfl⟩
  obtain ⟨J, hJ⟩ : ∃ J : Fin 1024, J.val = t.val / 18 * 512 + y1.val := ⟨⟨t.val / 18 * 512 + y1.val, by omega⟩, rfl⟩
  exact (merged_at m c t y0 y1 _ _ hR hJ).trans (merged_eq (by blk_simp [idx t]; exact hR.symm) (by blk_simp [idx t]; exact hJ.symm))

theorem column (H : FVec Ideal S9216x1024 .bf16) (G : FVec Ideal S1024x3072 .bf16) {R : Fin 9216} {n n' : Fin 3072} (h : n.val = n'.val) :
    Ideal.div 1 (1 + Ideal.exp (-∑ x : Fin 1024, H (ix2 R x) * G (ix2 x n)))
      = Ideal.div 1 (1 + Ideal.exp (-∑ x : Fin 1024, H (ix2 R x) * G (ix2 x n'))) := by
  rw [Fin.ext h]

theorem ref41 (H : FVec Ideal S9216x1024 .bf16) (G : FVec Ideal S1024x3072 .bf16) : Reference17Ideal.Read.val_main_v41 (F := Ideal) H G = gates H G := by
  rw [← Reference17Ideal.Read.val_main_v41_eq]
  funext i
  idx_vars i
  pointwise [gates, gateAt, logistic]
  split
  · exact column H G (by show i2.val = i0.val * 1024 + i2.val; omega)
  · split
    · exact column H G (by show 1024 + i2.val = i0.val * 1024 + i2.val; omega)
    · exact column H G (by show 2048 + i2.val = i0.val * 1024 + i2.val; omega)

theorem ref46 (X0 X1 X2 : FVec Ideal S9216x512 .bf16) (W0 W1 W2 : FVec Ideal S512x1024 .bf16) : Reference17Ideal.Read.val_main_v46 (F := Ideal) X0 X1 X2 W0 W1 W2 = ys X0 X1 X2 W0 W1 W2 := by
  rw [← Reference17Ideal.Read.val_main_v46_eq]
  funext i
  idx_vars i
  pointwise [ys, yAt]
  split
  · rfl
  · split <;> rfl

theorem ref30 (H : FVec Ideal S9216x1024 .bf16) (G : FVec Ideal S1024x3072 .bf16) (X0 X1 X2 : FVec Ideal S9216x512 .bf16) (W0 W1 W2 : FVec Ideal S512x1024 .bf16) : Reference17Ideal.Read.val_main_v30 (F := Ideal) H G X0 X1 X2 W0 W1 W2 = merged H G X0 X1 X2 W0 W1 W2 := by
  rw [← Reference17Ideal.Read.val_main_v30_eq]
  funext i
  idx_vars i
  pointwise [merged, mergedAt, gateAt, yAt, logistic]

end Cert.GateMerge

end

end
-- ==== Proof.FfnInSwiglu.lean ====
/- The feed-forward's input product with the gated activation.

   Grid point `t` reads rows `512 (t % 18) …` of the input and shards `t / 18` and `2 + t / 18` of the weights:
   the same columns of the two projections. It stores both projections, and the first through the smooth
   rectifier times the second, in two halves of 256 rows.
 -/
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnInSwiglu

open Cert.Kernel18Ideal Cert.Kernel18Ideal.Gen

variable (m : (ℓ : Loc nD τ sig) → Buf (Elt Ideal) ℓ)

/-- The normed rows. -/
abbrev argH (c : Dev nD) : FVec Ideal S9216x1024 .bf16 := m ((c : Thread nD τ).loc main_arg0)
/-- The weights, shard by shard. -/
abbrev argW (c : Dev nD) : FVec Ideal S4x1024x1408 .bf16 := m ((c : Thread nD τ).loc main_arg1)

/-- The logistic function. -/
def logistic (x : EReal) : EReal := Ideal.div 1 (1 + Ideal.exp (-x))

/-- Row `R` times column `n` of the weights, the shards side by side. -/
def proj (H : FVec Ideal S9216x1024 .bf16) (W : FVec Ideal S4x1024x1408 .bf16) (R : Fin 9216) (n : Fin 5632) : EReal :=
  ∑ k : Fin 1024, H (ix2 R k) * W (ix3 ⟨n.val / 1408, by omega⟩ k ⟨n.val % 1408, by omega⟩)

/-- The gated activation at row `R`, lane `C`. -/
def fAt (H : FVec Ideal S9216x1024 .bf16) (W : FVec Ideal S4x1024x1408 .bf16) (R : Fin 9216) (C : Fin 2816) : EReal :=
  proj H W R ⟨C.val, by omega⟩ * logistic (proj H W R ⟨C.val, by omega⟩) * proj H W R ⟨2816 + C.val, by omega⟩

/-- The gated activation. -/
def f (H : FVec Ideal S9216x1024 .bf16) (W : FVec Ideal S4x1024x1408 .bf16) : FVec Ideal S9216x2816 .bf16 := fun i => fAt H W (i 0) (i 1)

/-- The two projections, one after the other. -/
def u2 (H : FVec Ideal S9216x1024 .bf16) (W : FVec Ideal S4x1024x1408 .bf16) : FVec Ideal S2x9216x2816 .bf16 :=
  fun i =>
    have h0 : (i 0).val < 2 := (i 0).isLt
    have h2 : (i 2).val < 2816 := (i 2).isLt
    proj H W (i 1) ⟨(i 0).val * 2816 + (i 2).val, by omega⟩

theorem f_at {H : FVec Ideal S9216x1024 .bf16} {W : FVec Ideal S4x1024x1408 .bf16} {i : S9216x2816.Idx} {R : Fin 9216} {C : Fin 2816} (h0 : (i 0).val = R.val) (h1 : (i 1).val = C.val) :
    fAt H W R C = f H W i := by
  obtain rfl : i 0 = R := Fin.ext h0
  obtain rfl : i 1 = C := Fin.ext h1
  rfl

theorem u_at {H : FVec Ideal S9216x1024 .bf16} {W : FVec Ideal S4x1024x1408 .bf16} {i : S2x9216x2816.Idx} {R : Fin 9216} {n : Fin 5632} (h1 : (i 1).val = R.val)
    (h0 : (i 0).val * 2816 + (i 2).val = n.val) : proj H W R n = u2 H W i := by
  obtain rfl : i 1 = R := Fin.ext h1
  obtain ⟨n, hn⟩ := n
  subst h0
  rfl

theorem idx : ∀ t : Fin cfg0.N, win0_0.index t = ![t.val % 18, 0] ∧ win0_1.index t = ![t.val / 18, 0, 0]
    ∧ win0_2.index t = ![2 + t.val / 18, 0, 0] ∧ win0_3.index t = ![t.val % 18, t.val / 18]
    ∧ win0_4.index t = ![0, t.val % 18, t.val / 18] :=
  (by decide +kernel : ∀ t : Fin grid0.N, _)

theorem blkH0 (c : Dev nD) (t : Fin cfg0.N) (r : Fin 512) (k : Fin 1024) (R : Fin 9216) (hR : R.val = t.val % 18 * 512 + r.val) :
    (show FVec Ideal S512x1024 .bf16 from iblk m c 0 t) (ix2 r k) = argH m c (ix2 R k) := by
  blk_ext [iblk, V, idx t]

theorem lo_at (B : FVec Ideal S512x1024 .bf16) (r : Fin 256) (k : Fin 1024) :
    (show FVec Ideal S256x1024 .bf16 from View.ld (Val := Elt Ideal) (e' := .bf16) B r0_0) (ix2 r k) = B (ix2 ⟨0 + r.val, by omega⟩ k) := by
  refine congrArg B (funext fun a => Fin.ext ?_)
  match a with
  | ⟨0, _⟩ => show 0 + 1 * r.val = 0 + r.val; omega
  | ⟨1, _⟩ => show 0 + 1 * k.val = k.val; omega

theorem hi_at (B : FVec Ideal S512x1024 .bf16) (r : Fin 256) (k : Fin 1024) :
    (show FVec Ideal S256x1024 .bf16 from View.ld (Val := Elt Ideal) (e' := .bf16) B r0_5) (ix2 r k) = B (ix2 ⟨256 + r.val, by omega⟩ k) := by
  refine congrArg B (funext fun a => Fin.ext ?_)
  match a with
  | ⟨0, _⟩ => show 256 + 1 * r.val = 256 + r.val; omega
  | ⟨1, _⟩ => show 0 + 1 * k.val = k.val; omega

theorem blkH (c : Dev nD) (t : Fin cfg0.N) (r : Fin 256) (k : Fin 1024) (R : Fin 9216) (hR : R.val = t.val % 18 * 512 + (0 + r.val)) :
    (show FVec Ideal S256x1024 .bf16 from View.ld (iblk m c 0 t) r0_0) (ix2 r k) = argH m c (ix2 R k) :=
  (lo_at _ r k).trans (blkH0 m c t _ k R hR)

theorem blkH_hi (c : Dev nD) (t : Fin cfg0.N) (r : Fin 256) (k : Fin 1024) (R : Fin 9216) (hR : R.val = t.val % 18 * 512 + (256 + r.val)) :
    (show FVec Ideal S256x1024 .bf16 from View.ld (iblk m c 0 t) r0_5) (ix2 r k) = argH m c (ix2 R k) :=
  (hi_at _ r k).trans (blkH0 m c t _ k R hR)

theorem blkA (c : Dev nD) (t : Fin cfg0.N) (k : Fin 1024) (j : Fin 1408) (n : Fin 5632) (hn : n.val = t.val / 18 * 1408 + j.val) :
    (show FVec Ideal S1x1024x1408 .bf16 from iblk m c 1 t) (ix3 0 k j)
      = argW m c (ix3 ⟨n.val / 1408, by omega⟩ k ⟨n.val % 1408, by omega⟩) := by
  blk_ext [iblk, V, idx t]

theorem blkB (c : Dev nD) (t : Fin cfg0.N) (k : Fin 1024) (j : Fin 1408) (n : Fin 5632) (hn : n.val = (2 + t.val / 18) * 1408 + j.val) :
    (show FVec Ideal S1x1024x1408 .bf16 from iblk m c 2 t) (ix3 0 k j)
      = argW m c (ix3 ⟨n.val / 1408, by omega⟩ k ⟨n.val % 1408, by omega⟩) := by
  blk_ext [iblk, V, idx t]

/-- A projection from the blocks a point reads. -/
theorem proj_block {H : FVec Ideal S9216x1024 .bf16} {W : FVec Ideal S4x1024x1408 .bf16} {Hb : FVec Ideal S256x1024 .bf16} {Wb : FVec Ideal S1x1024x1408 .bf16} {r : Fin 256} {j : Fin 1408} {R : Fin 9216}
    {n : Fin 5632} (hH : ∀ k, Hb (ix2 r k) = H (ix2 R k))
    (hW : ∀ k, Wb (ix3 0 k j) = W (ix3 ⟨n.val / 1408, by omega⟩ k ⟨n.val % 1408, by omega⟩)) :
    (∑ k : Fin 1024, Hb (ix2 r k) * Wb (ix3 0 k j) : EReal) = proj H W R n :=
  Finset.sum_congr rfl fun k _ => congrArg₂ (fun x y : EReal => x * y) (hH k) (hW k)

/-- The activation from the two projections. -/
theorem act_block {H : FVec Ideal S9216x1024 .bf16} {W : FVec Ideal S4x1024x1408 .bf16} {R : Fin 9216} {C : Fin 2816} {a b : EReal} (ha : a = proj H W R ⟨C.val, by omega⟩)
    (hb : b = proj H W R ⟨2816 + C.val, by omega⟩) : a * logistic a * b = fAt H W R C := by
  rw [ha, hb]
  rfl

set_option maxHeartbeats 2000000 in
/-- The gated activation, as the run leaves it. -/
theorem final3 (c : Dev nD) : (dats m 0 c).arrAt 3 (cfgs 0).N = f (argH m c) (argW m c) := by
  refine (dats m 0 c).arrAt_eq_of_covers 3 _ (by decide +kernel) fun t _ y => ?_
  have hN := lt_of_lt_of_eq t.isLt N_0
  blk_simp
  rw [after0_3]
  unfold_out out0_3
  frame_out
  canon_tiles x hx
  · idx_vars x
    obtain ⟨R, hR⟩ : ∃ R : Fin 9216, R.val = t.val % 18 * 512 + (256 + x0.val) := ⟨⟨t.val % 18 * 512 + (256 + x0.val), by omega⟩, rfl⟩
    obtain ⟨C, hC⟩ : ∃ C : Fin 2816, C.val = t.val / 18 * 1408 + x1.val := ⟨⟨t.val / 18 * 1408 + x1.val, by omega⟩, rfl⟩
    have hb : (⟨2816 + C.val, by omega⟩ : Fin 5632).val = (2 + t.val / 18) * 1408 + x1.val := by show 2816 + C.val = _; omega
    have ea := proj_block (blkH_hi m c t x0 · _ hR) (fun k => blkA m c t k x1 ⟨C.val, by omega⟩ hC)
    have eb := proj_block (blkH_hi m c t x0 · _ hR) (fun k => blkB m c t k x1 _ hb)
    refine Eq.trans ?_ ((act_block ea eb).trans (f_at ?_ ?_))
    · pointwise [k0_pay3, k0_pay12, k0_pay11, k0_pay2, k0_pay1]
      simp only [zero_sub]
      rfl
    · blk_simp [idx t]
      omega
    · blk_simp [idx t]
      omega
  · idx_vars x
    obtain ⟨R, hR⟩ : ∃ R : Fin 9216, R.val = t.val % 18 * 512 + (0 + x0.val) := ⟨⟨t.val % 18 * 512 + (0 + x0.val), by omega⟩, rfl⟩
    obtain ⟨C, hC⟩ : ∃ C : Fin 2816, C.val = t.val / 18 * 1408 + x1.val := ⟨⟨t.val / 18 * 1408 + x1.val, by omega⟩, rfl⟩
    have hb : (⟨2816 + C.val, by omega⟩ : Fin 5632).val = (2 + t.val / 18) * 1408 + x1.val := by show 2816 + C.val = _; omega
    have ea := proj_block (blkH m c t x0 · _ hR) (fun k => blkA m c t k x1 ⟨C.val, by omega⟩ hC)
    have eb := proj_block (blkH m c t x0 · _ hR) (fun k => blkB m c t k x1 _ hb)
    refine Eq.trans ?_ ((act_block ea eb).trans (f_at ?_ ?_))
    · pointwise [k0_pay8, k0_pay7, k0_pay6]
      simp only [zero_sub]
      rfl
    · blk_simp [idx t]
      omega
    · blk_simp [idx t]
      omega

set_option maxHeartbeats 2000000 in
/-- The two projections, as the run leaves them. -/
theorem final4 (c : Dev nD) : (dats m 0 c).arrAt 4 (cfgs 0).N = u2 (argH m c) (argW m c) := by
  refine (dats m 0 c).arrAt_eq_of_covers 4 _ (by decide +kernel) fun t _ y => ?_
  have hN := lt_of_lt_of_eq t.isLt N_0
  blk_simp
  rw [after0_4]
  unfold_out out0_4
  frame_out
  canon_tiles x hx
  · idx_vars x
    obtain ⟨R, hR⟩ : ∃ R : Fin 9216, R.val = t.val % 18 * 512 + (256 + x1.val) := ⟨⟨t.val % 18 * 512 + (256 + x1.val), by omega⟩, rfl⟩
    obtain ⟨n, hn⟩ : ∃ n : Fin 5632, n.val = (2 + t.val / 18) * 1408 + x2.val := ⟨⟨(2 + t.val / 18) * 1408 + x2.val, by omega⟩, rfl⟩
    refine Eq.trans ?_ ((proj_block (blkH_hi m c t x1 · _ hR) (fun k => blkB m c t k x2 _ hn)).trans (u_at ?_ ?_))
    · pointwise [k0_pay5, k0_pay2]
    · blk_simp [idx t]
      omega
    · blk_simp [idx t]
      omega
  · idx_vars x
    obtain ⟨R, hR⟩ : ∃ R : Fin 9216, R.val = t.val % 18 * 512 + (256 + x1.val) := ⟨⟨t.val % 18 * 512 + (256 + x1.val), by omega⟩, rfl⟩
    obtain ⟨n, hn⟩ : ∃ n : Fin 5632, n.val = t.val / 18 * 1408 + x2.val := ⟨⟨t.val / 18 * 1408 + x2.val, by omega⟩, rfl⟩
    refine Eq.trans ?_ ((proj_block (blkH_hi m c t x1 · _ hR) (fun k => blkA m c t k x2 _ hn)).trans (u_at ?_ ?_))
    · pointwise [k0_pay4, k0_pay12, k0_pay11, k0_pay1]
    · blk_simp [idx t]
      omega
    · blk_simp [idx t]
      omega
  · idx_vars x
    obtain ⟨R, hR⟩ : ∃ R : Fin 9216, R.val = t.val % 18 * 512 + (0 + x1.val) := ⟨⟨t.val % 18 * 512 + (0 + x1.val), by omega⟩, rfl⟩
    obtain ⟨n, hn⟩ : ∃ n : Fin 5632, n.val = (2 + t.val / 18) * 1408 + x2.val := ⟨⟨(2 + t.val / 18) * 1408 + x2.val, by omega⟩, rfl⟩
    refine Eq.trans ?_ ((proj_block (blkH m c t x1 · _ hR) (fun k => blkB m c t k x2 _ hn)).trans (u_at ?_ ?_))
    · pointwise [k0_pay10, k0_pay7]
    · blk_simp [idx t]
      omega
    · blk_simp [idx t]
      omega
  · idx_vars x
    obtain ⟨R, hR⟩ : ∃ R : Fin 9216, R.val = t.val % 18 * 512 + (0 + x1.val) := ⟨⟨t.val % 18 * 512 + (0 + x1.val), by omega⟩, rfl⟩
    obtain ⟨n, hn⟩ : ∃ n : Fin 5632, n.val = t.val / 18 * 1408 + x2.val := ⟨⟨t.val / 18 * 1408 + x2.val, by omega⟩, rfl⟩
    refine Eq.trans ?_ ((proj_block (blkH m c t x1 · _ hR) (fun k => blkA m c t k x2 _ hn)).trans (u_at ?_ ?_))
    · pointwise [k0_pay9, k0_pay6]
    · blk_simp [idx t]
      omega
    · blk_simp [idx t]
      omega

theorem ref9 (H : FVec Ideal S9216x1024 .bf16) (W : FVec Ideal S4x1024x1408 .bf16) : Reference18Ideal.Read.val_main_v9 (F := Ideal) H W = f H W := by
  rw [← Reference18Ideal.Read.val_main_v9_eq]
  funext i
  idx_vars i
  pointwise [f, fAt, proj, logistic]

theorem column (H : FVec Ideal S9216x1024 .bf16) (W : FVec Ideal S4x1024x1408 .bf16) {R : Fin 9216} {n n' : Fin 5632} (h : n.val = n'.val) :
    (∑ k : Fin 1024, H (ix2 R k) * W (ix3 ⟨n.val / 1408, by omega⟩ k ⟨n.val % 1408, by omega⟩) : EReal)
      = ∑ k : Fin 1024, H (ix2 R k) * W (ix3 ⟨n'.val / 1408, by omega⟩ k ⟨n'.val % 1408, by omega⟩) := by
  obtain rfl := Fin.ext h
  rfl

theorem ref13 (H : FVec Ideal S9216x1024 .bf16) (W : FVec Ideal S4x1024x1408 .bf16) : Reference18Ideal.Read.val_main_v13 (F := Ideal) H W = u2 H W := by
  rw [← Reference18Ideal.Read.val_main_v13_eq]
  funext i
  idx_vars i
  pointwise [u2, proj]
  split
  · exact column H W (n := ⟨i2.val, by omega⟩) (n' := ⟨i0.val * 2816 + i2.val, by omega⟩) (by show i2.val = i0.val * 2816 + i2.val; omega)
  · exact column H W (n := ⟨2816 + i2.val, by omega⟩) (n' := ⟨i0.val * 2816 + i2.val, by omega⟩) (by show 2816 + i2.val = i0.val * 2816 + i2.val; omega)

end Cert.FfnInSwiglu

end

end
-- ==== Proof.AttnFwdBlock.lean ====
/- What one head of one block of queries gives in the attention: the exponentials of the scores, and the weighted values. -/
module

public import proofs.«01_k».proof.Proof.AttnPoint
public import proofs.«01_k».proof.Proof.Gen.Kernel19Ideal.Skeleton
public import Idealize.ShloMosaic.Lib.Pipeline.ValueKit

@[expose] public section

set_option maxRecDepth 16384

noncomputable section

open Idealize.ShloMosaic Idealize.ShloMosaic.TcCoe Idealize.SL.Sem

namespace Cert.AttnFwd

open Cert.Kernel19Ideal Cert.Kernel19Ideal.Gen Attn
open Cert.AttnGrad (hrow lane half bs neg_inf stack_at sum_lanes pick_at RdQ RdK bs_eq half_lane)

/-- A sum times a real number that is not negative. -/
theorem sum_mul {N : ℕ} (f : Fin N → EReal) {r : ℝ} (hr : 0 ≤ r) : (∑ k, f k) * (r : EReal) = ∑ k, f k * (r : EReal) := by
  have h : ∀ s : Finset (Fin N), (∑ k ∈ s, f k) * (r : EReal) = ∑ k ∈ s, f k * (r : EReal) := by
    intro s
    induction s using Finset.induction_on with
    | empty => rw [Finset.sum_empty, Finset.sum_empty, zero_mul]
    | insert a s ha ih =>
      rw [Finset.sum_insert ha, Finset.sum_insert ha, EReal.right_distrib_of_nonneg_of_ne_top (by exact_mod_cast hr) (EReal.coe_ne_top r), ih]
  exact h _

/-- Dividing the weights' sum out after weighing the values is weighing them by the softmax. -/
theorem weigh {N : ℕ} (hN : 0 < N) {s : Fin N → EReal} (hs : Re s) (v : Fin N → EReal) :
    (∑ k, ex s k * v k) * Ideal.div 1 (tot s) = ∑ k, v k * soft s k := by
  obtain ⟨e, he, ht, hp⟩ := ex_real hN hs
  have hd : Ideal.div 1 (tot s) = ((1 / ∑ j, e j : ℝ) : EReal) := by
    rw [ht, Ideal.div_coe hp.ne', one_mul]
  rw [hd, sum_mul _ (one_div_nonneg.mpr hp.le)]
  refine Finset.sum_congr rfl fun k _ => ?_
  rw [← soft_mul hN hs k, hd, mul_comm (ex s k) (v k), mul_assoc]

/-- The weighted values of a block that reads as the arrays do are the attention's output. -/
theorem weigh_at {N : ℕ} {hN : N ≤ 2304} (h0 : 0 < N) {Q : Qs} {K V : Ks} (hQ : Re Q) (hK : Re K) {b : Fin 4} {h j : Fin 2} {i : Fin 9}
    {A : FVec Ideal S256x128 .bf16} {B W : FVec Ideal ⟨2, ![N, 128]⟩ .bf16} (hA : RdQ Q b h j i A) (hB : RdK hN K b h B)
    (hW : RdK hN V b h W) (e : Fin 2) (r : Fin 256) (d : Fin 64) :
    (∑ k : Fin N, ex (bs A B e r) k * W (ix2 k (lane e d))) * Ideal.div 1 (tot (bs A B e r))
      = ∑ k : Fin N, kEnt hN V b (hd h j e) k d * soft (score hN Q K b (hd h j e) (bRow b i r)) k := by
  rw [bs_eq hA hB, weigh h0 (score_re hQ hK _ _ _)]
  exact Finset.sum_congr rfl fun k _ => congrArg (fun z : EReal => z * _) (hW j e k d)

/-- The scores of a block of queries on 256 keys, the two heads' rows stacked. -/
def sc_ctx (B : FVec Ideal S256x128 .bf16) (A : FVec Ideal S256x128 .bf16) : FVec Ideal S512x256 .f32 :=
  matmul dot_S512x128_S256x128_S512x256_1_1_0_0_n_n none (Kernel2Ideal.Gen.k0_pay13 Kernel2Ideal.Gen.k0_pay1 Kernel2Ideal.Gen.k0_pay2 A) B
    (constant S512x256 .f32 0x00000000#32)

theorem sc_ctx_at (B : FVec Ideal S256x128 .bf16) (A : FVec Ideal S256x128 .bf16) (c : Fin 2) (r : Fin 256) (k : Fin 256) :
    sc_ctx B A (ix2 (hrow c r) k) = bs A B c r k := by
  have e : Kernel2Ideal.Gen.k0_pay13 (F := Ideal) = Kernel2Ideal.Gen.k0_pay13 := rfl
  pointwise [sc_ctx, e, stack_at, sum_lanes]
  rfl

/-- The exponential of the scores less their row's largest. -/
def less_ctx (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The weighted values, the weights' sum divided out. -/
def g_ctx (E : FVec Ideal S512x256 .f32) (W : FVec Ideal S256x128 .bf16) : FVec Ideal S512x128 .f32 :=
  mulf (matmul dot_S512x256_S256x128_S512x128_1_0_0_1_n_n none (truncf .bf16 E bitsLt_bf16_f32) W (constant S512x128 .f32 0x00000000#32))
    (broadcastTo S512x128 (divf (broadcast S512x1 (Scalar.ofBits .f32 0x3F800000#32 : Ideal .f32))
      (shapeCast S512x1 (multiReduction .add [1] S512 E 0x00000000#32 reduces_S512x256_S512 (.inl rfl) rfl) shapeCasts_S512_S512x1))
      broadcasts_S512x1_S512x128)

/-- The exponentials on 256 keys, less the row's largest score. -/
theorem e_ctx (B : FVec Ideal S256x128 .bf16) (A : FVec Ideal S256x128 .bf16) (c : Fin 2) (r : Fin 256) (k : Fin 256) :
    k0_pay6 (F := Ideal) k0_pay1 k0_pay2 B A (ix2 (hrow c r) k) = ex (bs A B c r) k := by
  have e : k0_pay6 (F := Ideal) k0_pay1 k0_pay2 B A = less_ctx (sc_ctx B A) := rfl
  rw [e]
  pointwise [less_ctx, sc_ctx_at]
  rw [neg_inf]
  rfl

theorem g_ctx_at (B W : FVec Ideal S256x128 .bf16) (A : FVec Ideal S256x128 .bf16) (c : Fin 2) (r : Fin 256) (l : Fin 128) :
    g_ctx (k0_pay6 (F := Ideal) k0_pay1 k0_pay2 B A) W (ix2 (hrow c r) l)
      = (∑ k : Fin 256, ex (bs A B c r) k * W (ix2 k l)) * Ideal.div 1 (tot (bs A B c r)) := by
  pointwise [g_ctx, e_ctx]
  rfl

theorem k0_pay5_at (B W : FVec Ideal S256x128 .bf16) (A : FVec Ideal S256x128 .bf16) (r : Fin 256) (l : Fin 128) :
    k0_pay5 (F := Ideal) k0_pay1 k0_pay2 B W A (ix2 r l)
      = (∑ k : Fin 256, ex (bs A B (half l) r) k * W (ix2 k l)) * Ideal.div 1 (tot (bs A B (half l) r)) := by
  have e : k0_pay5 (F := Ideal) k0_pay1 k0_pay2 B W A (ix2 r l)
      = Kernel2Ideal.Gen.k0_pay20 (F := Ideal) Kernel2Ideal.Gen.k0_pay1 (g_ctx (k0_pay6 (F := Ideal) k0_pay1 k0_pay2 B A) W) (ix2 r l) := rfl
  rw [e, pick_at, g_ctx_at]

theorem k0_pay3_at (B W : FVec Ideal S256x128 .bf16) (A : FVec Ideal S256x128 .bf16) (r : Fin 256) (l : Fin 128) :
    k0_pay3 (F := Ideal) W (k0_pay6 k0_pay1 k0_pay2 B A) (k0_pay7 k0_pay1 k0_pay2 B A) (ix2 r l)
      = (∑ k : Fin 256, ex (bs A B (half l) r) k * W (ix2 k l)) * Ideal.div 1 (tot (bs A B (half l) r)) := by
  have e : k0_pay3 (F := Ideal) W (k0_pay6 k0_pay1 k0_pay2 B A) (k0_pay7 k0_pay1 k0_pay2 B A) (ix2 r l)
      = Kernel2Ideal.Gen.k0_pay20 (F := Ideal) Kernel2Ideal.Gen.k0_pay1 (g_ctx (k0_pay6 (F := Ideal) k0_pay1 k0_pay2 B A) W) (ix2 r l) := rfl
  rw [e, pick_at, g_ctx_at]

/-- The scores of a block of queries on 2304 keys, the two heads' rows stacked. -/
def sc_all (B : FVec Ideal S2304x128 .bf16) (A : FVec Ideal S256x128 .bf16) : FVec Ideal S512x2304 .f32 :=
  matmul dot_S512x128_S2304x128_S512x2304_1_1_0_0_n_n none (Kernel2Ideal.Gen.k0_pay13 Kernel2Ideal.Gen.k0_pay1 Kernel2Ideal.Gen.k0_pay2 A) B
    (constant S512x2304 .f32 0x00000000#32)

theorem sc_all_at (B : FVec Ideal S2304x128 .bf16) (A : FVec Ideal S256x128 .bf16) (c : Fin 2) (r : Fin 256) (k : Fin 2304) :
    sc_all B A (ix2 (hrow c r) k) = bs A B c r k := by
  have e : Kernel2Ideal.Gen.k0_pay13 (F := Ideal) = Kernel2Ideal.Gen.k0_pay13 := rfl
  pointwise [sc_all, e, stack_at, sum_lanes]
  rfl

/-- The exponential of the scores less their row's largest. -/
def less_all (s : FVec Ideal S512x2304 .f32) : FVec Ideal S512x2304 .f32 :=
  exp (subf s (broadcastTo S512x2304 (shapeCast S512x1 (multiReduction .maximumf [1] S512 s 0xFF800000#32 reduces_S512x2304_S512 (.inl rfl) rfl)
    shapeCasts_S512_S512x1) broadcasts_S512x1_S512x2304))

/-- The weighted values, the weights' sum divided out. -/
def g_all (E : FVec Ideal S512x2304 .f32) (W : FVec Ideal S2304x128 .bf16) : FVec Ideal S512x128 .f32 :=
  mulf (matmul dot_S512x2304_S2304x128_S512x128_1_0_0_1_n_n none (truncf .bf16 E bitsLt_bf16_f32) W (constant S512x128 .f32 0x00000000#32))
    (broadcastTo S512x128 (divf (broadcast S512x1 (Scalar.ofBits .f32 0x3F800000#32 : Ideal .f32))
      (shapeCast S512x1 (multiReduction .add [1] S512 E 0x00000000#32 reduces_S512x2304_S512 (.inl rfl) rfl) shapeCasts_S512_S512x1))
      broadcasts_S512x1_S512x128)

/-- The exponentials on 2304 keys, less the row's largest score. -/
theorem e_all (B : FVec Ideal S2304x128 .bf16) (A : FVec Ideal S256x128 .bf16) (c : Fin 2) (r : Fin 256) (k : Fin 2304) :
    k0_pay9 (F := Ideal) k0_pay1 k0_pay2 B A (ix2 (hrow c r) k) = ex (bs A B c r) k := by
  have e : k0_pay9 (F := Ideal) k0_pay1 k0_pay2 B A = less_all (sc_all B A) := rfl
  rw [e]
  pointwise [less_all, sc_all_at]
  rw [neg_inf]
  rfl

theorem g_all_at (B W : FVec Ideal S2304x128 .bf16) (A : FVec Ideal S256x128 .bf16) (c : Fin 2) (r : Fin 256) (l : Fin 128) :
    g_all (k0_pay9 (F := Ideal) k0_pay1 k0_pay2 B A) W (ix2 (hrow c r) l)
      = (∑ k : Fin 2304, ex (bs A B c r) k * W (ix2 k l)) * Ideal.div 1 (tot (bs A B c r)) := by
  pointwise [g_all, e_all]
  rfl

theorem k0_pay8_at (B W : FVec Ideal S2304x128 .bf16) (A : FVec Ideal S256x128 .bf16) (r : Fin 256) (l : Fin 128) :
    k0_pay8 (F := Ideal) k0_pay1 k0_pay2 B W A (ix2 r l)
      = (∑ k : Fin 2304, ex (bs A B (half l) r) k * W (ix2 k l)) * Ideal.div 1 (tot (bs A B (half l) r)) := by
  have e : k0_pay8 (F := Ideal) k0_pay1 k0_pay2 B W A (ix2 r l)
      = Kernel2Ideal.Gen.k0_pay20 (F := Ideal) Kernel2Ideal.Gen.k0_pay1 (g_all (k0_pay9 (F := Ideal) k0_pay1 k0_pay2 B A) W) (ix2 r l) := rfl
  rw [e, pick_at, g_all_at]

theorem k0_pay4_at (B W : FVec Ideal S2304x128 .bf16) (A : FVec Ideal S256x128 .bf16) (r : Fin 256) (l : Fin 128) :
    k0_pay4 (F := Ideal) W (k0_pay9 k0_pay1 k0_pay2 B A) (k0_pay10 k0_pay1 k0_pay2 B A) (ix2 r l)
      = (∑ k : Fin 2304, ex (bs A B (half l) r) k * W (ix2 k l)) * Ideal.div 1 (tot (bs A B (half l) r)) := by
  have e : k0_pay4 (F := Ideal) W (k0_pay9 k0_pay1 k0_pay2 B A) (k0_pay10 k0_pay1 k0_pay2 B A) (ix2 r l)
      = Kernel2Ideal.Gen.k0_pay20 (F := Ideal) Kernel2Ideal.Gen.k0_pay1 (g_all (k0_pay9 (F := Ideal) k0_pay1 k0_pay2 B A) W) (ix2 r l) := rfl
  rw [e, pick_at, g_all_at]

end Cert.AttnFwd

end

end
-- ==== Proof.AttnFwd.lean ====
/- The attention, block by block of 256 queries.

   Grid point `t` is sequence `t / 18`, key pair `t % 18 / 9`, query block `t % 9`. The first query block of a sequence
   attends to the first 256 keys, the others to all 2304. The four heads that read the key pair come in two groups of two.
 -/
module

public import proofs.«01_k».proof.Defs
public import proofs.«01_k».proof.Proof.AttnFwdBlock
public import proofs.«01_k».proof.Proof.AttnRef
public import proofs.«01_k».proof.Proof.FiniteArgs
public import proofs.«01_k».proof.Proof.Gen.Kernel19Ideal.Frame
public import proofs.«01_k».proof.Proof.Gen.Reference19Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnFwd

open Cert.Kernel19Ideal Cert.Kernel19Ideal.Gen Attn
open Cert.AttnGrad (lane half_lane lane_cases sRow out_ctx out_all hq hk oT oT_at)

variable (m : (ℓ : Loc nD τ sig) → Buf (Elt Ideal) ℓ)

/-- The argument arrays. -/
abbrev argQ (c : Dev nD) : Qs := m ((c : Thread nD τ).loc main_arg0)
abbrev argK (c : Dev nD) : Ks := m ((c : Thread nD τ).loc main_arg1)
abbrev argV (c : Dev nD) : Ks := m ((c : Thread nD τ).loc main_arg2)

/-- The attention's output as an array. -/
def outs (Q : Qs) (K V : Ks) : FVec Ideal S9216x512 .bf16 := fun x =>
  outEnt Q K V ⟨(x 0).val / 2304, by have := (x 0).isLt; change _ < 9216 at this; omega⟩ ⟨(x 0).val % 2304, by omega⟩
    ⟨(x 1).val / 64, by have := (x 1).isLt; change _ < 512 at this; omega⟩ ⟨(x 1).val % 64, by omega⟩

theorem outs_at {Q : Qs} {K V : Ks} {b : Fin 4} {s : Fin 2304} {n : Fin 8} {d : Fin 64} {x : S9216x512.Idx}
    (h0 : (x 0).val = b.val * 2304 + s.val) (h1 : (x 1).val = n.val * 64 + d.val) : outEnt Q K V b s n d = outs Q K V x := by
  have e0 : (⟨(x 0).val / 2304, by omega⟩ : Fin 4) = b := Fin.ext (by show (x 0).val / 2304 = b.val; omega)
  have e1 : (⟨(x 0).val % 2304, by omega⟩ : Fin 2304) = s := Fin.ext (by show (x 0).val % 2304 = s.val; omega)
  have e2 : (⟨(x 1).val / 64, by omega⟩ : Fin 8) = n := Fin.ext (by show (x 1).val / 64 = n.val; omega)
  have e3 : (⟨(x 1).val % 64, by omega⟩ : Fin 64) = d := Fin.ext (by show (x 1).val % 64 = d.val; omega)
  simp only [outs, e0, e1, e2, e3]

/-- Where each window's block sits at grid point `t`. -/
theorem idx : ∀ t : Fin cfg0.N, win0_0.index t = ![t.val / 18 * 9 + t.val % 9, t.val % 18 / 9]
    ∧ win0_1.index t = ![t.val / 18, t.val % 18 / 9] ∧ win0_2.index t = ![t.val / 18, t.val % 18 / 9]
    ∧ win0_3.index t = ![t.val / 18 * 9 + t.val % 9, t.val % 18 / 9] :=
  (by decide +kernel : ∀ t : Fin grid0.N, _)

theorem blkQ (c : Dev nD) (t : Fin cfg0.N) (r l : Fin 256) (R : Fin 9216) (L : Fin 512)
    (hR : R.val = (t.val / 18 * 9 + t.val % 9) * 256 + r.val) (hL : L.val = t.val % 18 / 9 * 256 + l.val) :
    (show FVec Ideal S256x256 .bf16 from iblk m c 0 t) (ix2 r l) = argQ m c (ix2 R L) := by
  blk_ext [iblk, V, idx t]

theorem blkK (c : Dev nD) (t : Fin cfg0.N) (k : Fin 2304) (l : Fin 128) (R : Fin 9216) (L : Fin 256)
    (hR : R.val = t.val / 18 * 2304 + k.val) (hL : L.val = t.val % 18 / 9 * 128 + l.val) :
    (show FVec Ideal S2304x128 .bf16 from iblk m c 1 t) (ix2 k l) = argK m c (ix2 R L) := by
  blk_ext [iblk, V, idx t]

theorem blkV (c : Dev nD) (t : Fin cfg0.N) (k : Fin 2304) (l : Fin 128) (R : Fin 9216) (L : Fin 256)
    (hR : R.val = t.val / 18 * 2304 + k.val) (hL : L.val = t.val % 18 / 9 * 128 + l.val) :
    (show FVec Ideal S2304x128 .bf16 from iblk m c 2 t) (ix2 k l) = argV m c (ix2 R L) := by
  blk_ext [iblk, V, idx t]

/-- The sequence, the key pair and the query block of grid point `t`. -/
def tb (t : Fin cfg0.N) : Fin 4 := ⟨t.val / 18, by have := lt_of_lt_of_eq t.isLt N_0; omega⟩
def th (t : Fin cfg0.N) : Fin 2 := ⟨t.val % 18 / 9, by omega⟩
def ti (t : Fin cfg0.N) : Fin 9 := ⟨t.val % 9, by omega⟩

theorem entQ (c : Dev nD) (t : Fin cfg0.N) (j e : Fin 2) (r : Fin 256) (d : Fin 64) (l : Fin 256) (hl : l.val = j.val * 128 + (lane e d).val) :
    (show FVec Ideal S256x256 .bf16 from iblk m c 0 t) (ix2 r l) = qEnt (argQ m c) (bRow (tb t) (ti t) r) (hd (th t) j e) d := by
  refine blkQ m c t r l _ _ ?_ ?_
  · show t.val / 18 * 2304 + t.val % 9 * 256 + r.val = _
    omega
  · show (t.val % 18 / 9 * 4 + j.val * 2 + e.val) * 64 + d.val = _
    change l.val = j.val * 128 + (e.val * 64 + d.val) at hl
    omega

theorem entK {N : ℕ} (hN : N ≤ 2304) (c : Dev nD) (t : Fin cfg0.N) (j e : Fin 2) (k : Fin N) (d : Fin 64) (k' : Fin 2304) (hk : k'.val = k.val) :
    (show FVec Ideal S2304x128 .bf16 from iblk m c 1 t) (ix2 k' (lane e d)) = kEnt hN (argK m c) (tb t) (hd (th t) j e) k d := by
  refine blkK m c t k' _ _ _ ?_ ?_
  · show t.val / 18 * 2304 + k.val = _
    omega
  · show (t.val % 18 / 9 * 4 + j.val * 2 + e.val) / 4 * 128 + (t.val % 18 / 9 * 4 + j.val * 2 + e.val) % 2 * 64 + d.val
      = t.val % 18 / 9 * 128 + (e.val * 64 + d.val)
    omega

theorem entV {N : ℕ} (hN : N ≤ 2304) (c : Dev nD) (t : Fin cfg0.N) (j e : Fin 2) (k : Fin N) (d : Fin 64) (k' : Fin 2304) (hk : k'.val = k.val) :
    (show FVec Ideal S2304x128 .bf16 from iblk m c 2 t) (ix2 k' (lane e d)) = kEnt hN (argV m c) (tb t) (hd (th t) j e) k d := by
  refine blkV m c t k' _ _ _ ?_ ?_
  · show t.val / 18 * 2304 + k.val = _
    omega
  · show (t.val % 18 / 9 * 4 + j.val * 2 + e.val) / 4 * 128 + (t.val % 18 / 9 * 4 + j.val * 2 + e.val) % 2 * 64 + d.val
      = t.val % 18 / 9 * 128 + (e.val * 64 + d.val)
    omega

variable {m} {c : Dev nD} (hQ : Re (argQ m c)) (hK : Re (argK m c))

include hQ hK in
set_option maxHeartbeats 1600000 in
/-- The attention's output, as the run leaves it. -/
theorem final : (dats m 0 c).arrAt 3 (cfgs 0).N = outs (argQ m c) (argK m c) (argV m c) := by
  refine (dats m 0 c).arrAt_eq_of_covers 3 _ (by decide +kernel) fun t _ y => ?_
  have hN := lt_of_lt_of_eq t.isLt N_0
  blk_simp
  rw [after0_3]
  by_cases h : t.val % 9 = 0
  · rw [outsAt0_A m c t h (by omega)]
    frame_out
    canon_tiles x hx
    · idx_vars x
      obtain ⟨e, d, rfl⟩ := lane_cases x1
      refine (k0_pay3_at _ _ _ x0 (lane e d)).trans ?_
      rw [half_lane]
      refine (weigh_at (hN := (by decide : 256 ≤ 2304)) (V := argV m c) (b := tb t) (h := th t) (i := ti t) (j := 1) (by omega) hQ hK ?_ ?_ ?_ e x0 d).trans ?_
      · intro e r d; pointwise; exact entQ m c t 1 e r d _ (by show 128 + (lane e d).val = 1 * 128 + (lane e d).val; omega)
      · intro j e k d; pointwise; exact entK m _ c t j e k d _ rfl
      · intro j e k d; pointwise; exact entV m _ c t j e k d _ rfl
      refine (out_ctx h).symm.trans (outs_at ?_ ?_)
      · blk_simp [idx t]
        show _ = t.val / 18 * 2304 + (t.val % 9 * 256 + x0.val)
        omega
      · blk_simp [idx t]
        change (y 1).val = 128 + (e.val * 64 + d.val) at hx1
        show _ = (t.val % 18 / 9 * 4 + 1 * 2 + e.val) * 64 + d.val
        omega
    · idx_vars x
      obtain ⟨e, d, rfl⟩ := lane_cases x1
      refine (k0_pay5_at _ _ _ x0 (lane e d)).trans ?_
      rw [half_lane]
      refine (weigh_at (hN := (by decide : 256 ≤ 2304)) (V := argV m c) (b := tb t) (h := th t) (i := ti t) (j := 0) (by omega) hQ hK ?_ ?_ ?_ e x0 d).trans ?_
      · intro e r d; pointwise; exact entQ m c t 0 e r d _ (by show (lane e d).val = 0 * 128 + (lane e d).val; omega)
      · intro j e k d; pointwise; exact entK m _ c t j e k d _ rfl
      · intro j e k d; pointwise; exact entV m _ c t j e k d _ rfl
      refine (out_ctx h).symm.trans (outs_at ?_ ?_)
      · blk_simp [idx t]
        show _ = t.val / 18 * 2304 + (t.val % 9 * 256 + x0.val)
        omega
      · blk_simp [idx t]
        change (y 1).val = (e.val * 64 + d.val) at hx1
        show _ = (t.val % 18 / 9 * 4 + 0 * 2 + e.val) * 64 + d.val
        omega
  · rw [outsAt0_B m c t h (by omega)]
    frame_out
    canon_tiles x hx
    · idx_vars x
      obtain ⟨e, d, rfl⟩ := lane_cases x1
      refine (k0_pay4_at _ _ _ x0 (lane e d)).trans ?_
      rw [half_lane]
      refine (weigh_at (hN := le_rfl) (V := argV m c) (b := tb t) (h := th t) (i := ti t) (j := 1) (by omega) hQ hK ?_ ?_ ?_ e x0 d).trans ?_
      · intro e r d; pointwise; exact entQ m c t 1 e r d _ (by show 128 + (lane e d).val = 1 * 128 + (lane e d).val; omega)
      · intro j e k d; pointwise; exact entK m _ c t j e k d _ rfl
      · intro j e k d; pointwise; exact entV m _ c t j e k d _ rfl
      refine (out_all h).symm.trans (outs_at ?_ ?_)
      · blk_simp [idx t]
        show _ = t.val / 18 * 2304 + (t.val % 9 * 256 + x0.val)
        omega
      · blk_simp [idx t]
        change (y 1).val = 128 + (e.val * 64 + d.val) at hx1
        show _ = (t.val % 18 / 9 * 4 + 1 * 2 + e.val) * 64 + d.val
        omega
    · idx_vars x
      obtain ⟨e, d, rfl⟩ := lane_cases x1
      refine (k0_pay8_at _ _ _ x0 (lane e d)).trans ?_
      rw [half_lane]
      refine (weigh_at (hN := le_rfl) (V := argV m c) (b := tb t) (h := th t) (i := ti t) (j := 0) (by omega) hQ hK ?_ ?_ ?_ e x0 d).trans ?_
      · intro e r d; pointwise; exact entQ m c t 0 e r d _ (by show (lane e d).val = 0 * 128 + (lane e d).val; omega)
      · intro j e k d; pointwise; exact entK m _ c t j e k d _ rfl
      · intro j e k d; pointwise; exact entV m _ c t j e k d _ rfl
      refine (out_all h).symm.trans (outs_at ?_ ?_)
      · blk_simp [idx t]
        show _ = t.val / 18 * 2304 + (t.val % 9 * 256 + x0.val)
        omega
      · blk_simp [idx t]
        change (y 1).val = (e.val * 64 + d.val) at hx1
        show _ = (t.val % 18 / 9 * 4 + 0 * 2 + e.val) * 64 + d.val
        omega

theorem ref (Q : Qs) (K V : Ks) : Reference19Ideal.Read.val_main_v44 (F := Ideal) Q K V = outs Q K V := by
  have e : Reference19Ideal.Read.val_main_v44 (F := Ideal) Q K V = oT (hq Q) (hk K) (hk V) := rfl
  rw [e]
  funext i
  idx_vars i
  exact (oT_at Q K V ⟨i0.val / 2304, by omega⟩ ⟨i0.val % 2304, by omega⟩ ⟨i1.val / 64, by omega⟩ ⟨i1.val % 64, by omega⟩ i0 i1
    (by dsimp only; omega) (by dsimp only; omega)).trans rfl

/-- The predicate's own side conditions. -/
theorem facts : Cert.Pre_finite19.Facts where
  concatenates_S9216x512_S9216x256_S9216x768_d1 := by decide +kernel
  bcast_S_S9216x768 := by decide +kernel

/-- The queries and the keys side by side, read at a row and a column. -/
def side (q : Qs) (k : Ks) (r : Fin 9216) (l : Fin 768) : EReal :=
  if h : l.val < 512 then q (ix2 r ⟨l.val, h⟩) else k (ix2 r ⟨l.val - 512, by omega⟩)

variable {q : Qs} {k v : Ks}

theorem side_real [Cert.Pre_finite19.Facts] (h : Cert.Pre_finite19.fn (F := Ideal) q k v = fun _ => 1#1) (r : Fin 9216) (l : Fin 768) :
    side q k r l ≠ ⊥ ∧ side q k r l ≠ ⊤ := by
  refine FiniteArgs.re_of_lt (Eq.trans ?_ (congrFun h (ix2 r l)))
  unfold Cert.Pre_finite19.fn
  pointwise [side]

theorem re_q [Cert.Pre_finite19.Facts] (h : Cert.Pre_finite19.fn (F := Ideal) q k v = fun _ => 1#1) : Re q := by
  refine Re.of_forall fun i => ?_
  idx_vars i
  have e : side q k i0 ⟨i1.val, by omega⟩ = q (ix2 i0 i1) := dif_pos i1.isLt
  exact e ▸ side_real h i0 ⟨i1.val, by omega⟩

theorem re_k [Cert.Pre_finite19.Facts] (h : Cert.Pre_finite19.fn (F := Ideal) q k v = fun _ => 1#1) : Re k := by
  refine Re.of_forall fun i => ?_
  idx_vars i
  have hl : 512 + i1.val - 512 = i1.val := by omega
  have e : side q k i0 ⟨512 + i1.val, by omega⟩ = k (ix2 i0 i1) := by
    simp only [side]
    rw [dif_neg (by omega)]
    exact congrArg (fun l => k (ix2 i0 l)) (Fin.ext hl)
  exact e ▸ side_real h i0 ⟨512 + i1.val, by omega⟩

end Cert.AttnFwd

end

end
-- ==== Proof.Modulated.lean ====
/- The modulated norm and the gated residual: a row's stream of the modulation, one of its six parts, and the norm of a row. -/
module

public import Idealize.ShloMosaic.Lib.Pipeline.ValueKit

@[expose] public section

noncomputable section

open Idealize.ShloMosaic Idealize.ShloMosaic.TcCoe Idealize.SL.Sem

namespace Cert.Modulated

/-- The modulation of the four sequences, then of the context. -/
abbrev Mods := FVec Ideal ⟨3, ![5, 1, 6144]⟩ .f32

/-- The activations, four sequences of 256 context rows and 2048 latent rows. -/
abbrev Rows := FVec Ideal ⟨2, ![9216, 1024]⟩ .f32

/-- The modulation a row reads: the context's in a sequence's first 256 rows, the sequence's in the others. -/
def stream (R : Fin 9216) : Fin 5 := if R.val % 2304 < 256 then 4 else ⟨R.val / 2304, by omega⟩

/-- Part `j` of the modulation of row `R`, lane `C`. -/
def part (M : Mods) (j : Fin 6) (R : Fin 9216) (C : Fin 1024) : EReal := M (ix3 (stream R) 0 ⟨j.val * 1024 + C.val, by omega⟩)

/-- An entry of a row over the root of the row's mean square. -/
def rms (x : Fin 1024 → EReal) (C : Fin 1024) : EReal :=
  x C * FloatOps.hostUnary (F := Ideal) (φ := .f32) .rsqrt
    (Ideal.div (∑ k : Fin 1024, x k * x k) (Ideal.ofBits .f32 0x44800000#32) + Ideal.ofBits .f32 0x358637BD#32)

/-- The modulated norm: shifted by part `j`, scaled by one more than part `i`. -/
def normed (x : Fin 1024 → EReal) (M : Mods) (j i : Fin 6) (R : Fin 9216) (C : Fin 1024) : EReal :=
  rms x C * (1 + part M i R C) + part M j R C

/-- The residual gated by part `j`. -/
def resid (X Y : Rows) (M : Mods) (j : Fin 6) (R : Fin 9216) (C : Fin 1024) : EReal := X (ix2 R C) + part M j R C * Y (ix2 R C)

/-- The modulation that grid point `t`'s 256 rows read. -/
theorem stream_tile {t : ℕ} {r : Fin 256} {R : Fin 9216} {S : Fin 5} (hR : R.val = t * 256 + r.val) (hS : S.val = if t % 9 = 0 then 4 else t / 9) :
    stream R = S := by
  refine Fin.ext ?_
  rw [hS]
  unfold stream
  by_cases h : t % 9 = 0
  · rw [if_pos (by omega), if_pos h]
    rfl
  · rw [if_neg (by omega), if_neg h]
    show R.val / 2304 = _
    omega

theorem stream_ctx {R : Fin 9216} (h : R.val % 2304 < 256) : stream R = 4 := if_pos h

theorem stream_seq {R : Fin 9216} (h : ¬R.val % 2304 < 256) : stream R = ⟨R.val / 2304, by omega⟩ := if_neg h

/-- A context row reads the last stream's part. -/
theorem part_ctx {M : Mods} {R : Fin 9216} (h : R.val % 2304 < 256) {j : Fin 6} {C : Fin 1024} {l : Fin 6144} (hl : l.val = j.val * 1024 + C.val) :
    M (ix3 4 0 l) = part M j R C := by
  have e : l = ⟨j.val * 1024 + C.val, by omega⟩ := Fin.ext hl
  rw [e, part, stream_ctx h]

/-- A latent row reads its own sequence's part. -/
theorem part_seq {M : Mods} {R : Fin 9216} (h : ¬R.val % 2304 < 256) {j : Fin 6} {C : Fin 1024} {S : Fin 5} {l : Fin 6144} (hS : S.val = R.val / 2304)
    (hl : l.val = j.val * 1024 + C.val) : M (ix3 S 0 l) = part M j R C := by
  have e : l = ⟨j.val * 1024 + C.val, by omega⟩ := Fin.ext hl
  have e' : S = ⟨R.val / 2304, by omega⟩ := Fin.ext hS
  rw [e, e', part, stream_seq h]

/-- A latent row, counted within its sequence and back. -/
theorem row_seq {R Q : Fin 9216} (h : ¬R.val % 2304 < 256) (hQ : Q.val = R.val / 2304 * 2304 + (256 + (R.val % 2304 - 256))) : Q = R :=
  Fin.ext (by omega)

end Cert.Modulated

end

end
-- ==== Proof.NormMod.lean ====
/- The modulated norm: each row over the root of its mean square, scaled and shifted by two parts of the modulation.

   Grid point `t` has rows `256 t …`: the context rows of sequence `t / 9` when `t % 9 = 0`, latent rows otherwise.
 -/
module

public import proofs.«01_k».proof.Proof.Gen.Kernel21Ideal.Frame
public import proofs.«01_k».proof.Proof.Gen.Reference21Ideal.Read
public import Idealize.ShloMosaic.Lib.Pipeline.ValueKit
public import proofs.«01_k».proof.Proof.Modulated
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormMod

open Cert.Kernel21Ideal Cert.Kernel21Ideal.Gen

variable (m : (ℓ : Loc nD τ sig) → Buf (Elt Ideal) ℓ)

open Cert.Modulated

/-- The activations. -/
abbrev argX (c : Dev nD) : Rows := m ((c : Thread nD τ).loc main_arg0)
/-- The modulation. -/
abbrev argM (c : Dev nD) : Mods := m ((c : Thread nD τ).loc main_arg1)

/-- The modulated norm. -/
def out (X : Rows) (M : Mods) : FVec Ideal S9216x1024 .bf16 := fun i => normed (fun k => X (ix2 (i 0) k)) M 0 1 (i 0) (i 1)

theorem out_at {X : Rows} {M : Mods} {i : S9216x1024.Idx} {R : Fin 9216} {C : Fin 1024} (h0 : (i 0).val = R.val)
    (h1 : (i 1).val = C.val) : normed (fun k => X (ix2 R k)) M 0 1 R C = out X M i := by
  obtain rfl : i 0 = R := Fin.ext h0
  obtain rfl : i 1 = C := Fin.ext h1
  rfl

theorem idx : ∀ t : Fin cfg0.N, win0_0.index t = ![t.val, 0] ∧ win0_1.index t = ![if t.val % 9 = 0 then 4 else t.val / 9, 0, 0] ∧ win0_2.index t = ![t.val, 0] :=
  (by decide +kernel : ∀ t : Fin grid0.N, _)

theorem blkX (c : Dev nD) (t : Fin cfg0.N) (r : Fin 256) (C : Fin 1024) (R : Fin 9216) (hR : R.val = t.val * 256 + r.val) :
    (show FVec Ideal S256x1024 .f32 from iblk m c 0 t) (ix2 r C) = argX m c (ix2 R C) := by
  blk_ext [iblk, V, idx t]

theorem blkMOf (c : Dev nD) (t : Fin cfg0.N) (l : Fin 6144) (S : Fin 5) (hS : S.val = if t.val % 9 = 0 then 4 else t.val / 9) :
    (show FVec Ideal S1x1x6144 .f32 from iblk m c 1 t) (ix3 0 0 l) = argM m c (ix3 S 0 l) := by
  blk_ext [iblk, V, idx t]

/-- A part of the modulation as a grid point's rows read it. -/
theorem partOf (c : Dev nD) (t : Fin cfg0.N) (r : Fin 256) (R : Fin 9216) (hR : R.val = t.val * 256 + r.val) (j : Fin 6) (C : Fin 1024) (l : Fin 6144)
    (hl : l.val = j.val * 1024 + C.val) : (show FVec Ideal S1x1x6144 .f32 from iblk m c 1 t) (ix3 0 0 l) = part (argM m c) j R C := by
  have hN := lt_of_lt_of_eq t.isLt N_0
  obtain ⟨S, hS⟩ : ∃ S : Fin 5, S.val = if t.val % 9 = 0 then 4 else t.val / 9 := ⟨⟨if t.val % 9 = 0 then 4 else t.val / 9, by split <;> omega⟩, rfl⟩
  have e : l = ⟨j.val * 1024 + C.val, by omega⟩ := Fin.ext hl
  rw [e, blkMOf m c t _ S hS, part, stream_tile hR hS]

theorem ld0 (B : FVec Ideal S1x1x6144 .f32) (C : Fin 1024) :
    (show FVec Ideal S1x1x1024 .f32 from View.ld (Val := Elt Ideal) (e' := .f32) B r0_1) (ix3 0 0 C) = B (ix3 0 0 ⟨0 + C.val, by omega⟩) := by
  refine congrArg B (funext fun a => Fin.ext ?_)
  match a with
  | ⟨0, _⟩ => rfl
  | ⟨1, _⟩ => rfl
  | ⟨2, _⟩ => show 0 + 1 * C.val = 0 + C.val; omega

theorem ld1 (B : FVec Ideal S1x1x6144 .f32) (C : Fin 1024) :
    (show FVec Ideal S1x1x1024 .f32 from View.ld (Val := Elt Ideal) (e' := .f32) B r0_2) (ix3 0 0 C) = B (ix3 0 0 ⟨1024 + C.val, by omega⟩) := by
  refine congrArg B (funext fun a => Fin.ext ?_)
  match a with
  | ⟨0, _⟩ => rfl
  | ⟨1, _⟩ => rfl
  | ⟨2, _⟩ => show 1024 + 1 * C.val = 1024 + C.val; omega

theorem pay1_at (v0 : FVec Ideal S256x1024 .f32) (v9 v11 : FVec Ideal S1x1x1024 .f32) (r : Fin 256) (C : Fin 1024) :
    k0_pay1 (F := Ideal) v0 v9 v11 (ix2 r C) = rms (fun k => v0 (ix2 r k)) C * (1 + v11 (ix3 0 0 C)) + v9 (ix3 0 0 C) := by
  pointwise [k0_pay1, rms]

theorem norm_block {x x' : Fin 1024 → EReal} {M : Mods} {j i : Fin 6} {R : Fin 9216} {C : Fin 1024} {a b : EReal} (hx : x = x') (ha : a = part M i R C)
    (hb : b = part M j R C) : rms x C * (1 + a) + b = normed x' M j i R C := by
  rw [hx, ha, hb]
  rfl

/-- The modulated norm, as the run leaves it. -/
theorem final (c : Dev nD) : (dats m 0 c).arrAt 2 (cfgs 0).N = out (argX m c) (argM m c) := by
  refine (dats m 0 c).arrAt_eq_of_covers 2 _ (by decide +kernel) fun t _ y => ?_
  have hN := lt_of_lt_of_eq t.isLt N_0
  blk_simp
  rw [after0_2]
  frame_out
  idx_vars y
  obtain ⟨R, hR⟩ : ∃ R : Fin 9216, R.val = t.val * 256 + y0.val := ⟨⟨t.val * 256 + y0.val, by omega⟩, rfl⟩
  refine (pay1_at _ _ _ y0 y1).trans ((norm_block (funext fun k => blkX m c t y0 k R hR)
    ((ld1 _ y1).trans (partOf m c t y0 R hR 1 y1 ⟨1024 + y1.val, by omega⟩ rfl))
    ((ld0 _ y1).trans (partOf m c t y0 R hR 0 y1 ⟨0 + y1.val, by omega⟩ (by show 0 + y1.val = 0 * 1024 + y1.val; omega)))).trans (out_at ?_ ?_))
  · blk_simp [idx t]
    omega
  · blk_simp [idx t]
theorem ref (X : Rows) (M : Mods) : Reference21Ideal.Read.val_main_v52 (F := Ideal) X M = out X M := by
  rw [← Reference21Ideal.Read.val_main_v52_eq]
  funext i
  idx_vars i
  pointwise []
  split
  · rename_i h
    exact norm_block (x := fun k => X (ix2 i0 k)) rfl (part_ctx h rfl) (part_ctx h (by show i1.val = 0 * 1024 + i1.val; omega))
  · rename_i h
    exact norm_block (x := fun k => X (ix2 ⟨i0.val / 2304 * 2304 + (256 + (i0.val % 2304 - 256)), by omega⟩ k))
      (funext fun k => congrArg (fun Q => X (ix2 Q k)) (row_seq h rfl)) (part_seq h rfl rfl) (part_seq h rfl (by show i1.val = 0 * 1024 + i1.val; omega))

end Cert.NormMod

end

end
-- ==== Proof.ResidNorm.lean ====
/- The gated residual and its modulated norm: the rows of the residual, then each over the root of its mean square,
   scaled and shifted by two further parts of the modulation.

   Grid point `t` has rows `256 t …`: the context rows of sequence `t / 9` when `t % 9 = 0`, latent rows otherwise.
 -/
module

public import proofs.«01_k».proof.Proof.Gen.Kernel22Ideal.Frame
public import proofs.«01_k».proof.Proof.Gen.Reference22Ideal.Read
public import Idealize.ShloMosaic.Lib.Pipeline.ValueKit
public import proofs.«01_k».proof.Proof.Modulated
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ResidNorm

open Cert.Kernel22Ideal Cert.Kernel22Ideal.Gen

variable (m : (ℓ : Loc nD τ sig) → Buf (Elt Ideal) ℓ)

open Cert.Modulated

/-- The activations. -/
abbrev argX (c : Dev nD) : Rows := m ((c : Thread nD τ).loc main_arg0)
/-- The branch's output. -/
abbrev argY (c : Dev nD) : Rows := m ((c : Thread nD τ).loc main_arg1)
/-- The modulation. -/
abbrev argM (c : Dev nD) : Mods := m ((c : Thread nD τ).loc main_arg2)

/-- The gated residual. -/
def res (X Y : Rows) (M : Mods) : FVec Ideal S9216x1024 .f32 := fun i => resid X Y M 2 (i 0) (i 1)

theorem res_at {X Y : Rows} {M : Mods} {i : S9216x1024.Idx} {R : Fin 9216} {C : Fin 1024} (h0 : (i 0).val = R.val)
    (h1 : (i 1).val = C.val) : resid X Y M 2 R C = res X Y M i := by
  obtain rfl : i 0 = R := Fin.ext h0
  obtain rfl : i 1 = C := Fin.ext h1
  rfl

/-- Its modulated norm. -/
def out (X Y : Rows) (M : Mods) : FVec Ideal S9216x1024 .bf16 := fun i => normed (fun k => resid X Y M 2 (i 0) k) M 3 4 (i 0) (i 1)

theorem out_at {X Y : Rows} {M : Mods} {i : S9216x1024.Idx} {R : Fin 9216} {C : Fin 1024} (h0 : (i 0).val = R.val)
    (h1 : (i 1).val = C.val) : normed (fun k => resid X Y M 2 R k) M 3 4 R C = out X Y M i := by
  obtain rfl : i 0 = R := Fin.ext h0
  obtain rfl : i 1 = C := Fin.ext h1
  rfl

theorem idx : ∀ t : Fin cfg0.N, win0_0.index t = ![t.val, 0] ∧ win0_1.index t = ![t.val, 0] ∧ win0_2.index t = ![if t.val % 9 = 0 then 4 else t.val / 9, 0, 0] ∧ win0_3.index t = ![if t.val % 9 = 0 then 4 else t.val / 9, 0, 0] ∧ win0_4.index t = ![t.val, 0] ∧ win0_5.index t = ![t.val, 0] :=
  (by decide +kernel : ∀ t : Fin grid0.N, _)

theorem blkX (c : Dev nD) (t : Fin cfg0.N) (r : Fin 256) (C : Fin 1024) (R : Fin 9216) (hR : R.val = t.val * 256 + r.val) :
    (show FVec Ideal S256x1024 .f32 from iblk m c 0 t) (ix2 r C) = argX m c (ix2 R C) := by
  blk_ext [iblk, V, idx t]

theorem blkY (c : Dev nD) (t : Fin cfg0.N) (r : Fin 256) (C : Fin 1024) (R : Fin 9216) (hR : R.val = t.val * 256 + r.val) :
    (show FVec Ideal S256x1024 .f32 from iblk m c 1 t) (ix2 r C) = argY m c (ix2 R C) := by
  blk_ext [iblk, V, idx t]

theorem blkMGate (c : Dev nD) (t : Fin cfg0.N) (l : Fin 6144) (S : Fin 5) (hS : S.val = if t.val % 9 = 0 then 4 else t.val / 9) :
    (show FVec Ideal S1x1x6144 .f32 from iblk m c 2 t) (ix3 0 0 l) = argM m c (ix3 S 0 l) := by
  blk_ext [iblk, V, idx t]

/-- A part of the modulation as a grid point's rows read it. -/
theorem partGate (c : Dev nD) (t : Fin cfg0.N) (r : Fin 256) (R : Fin 9216) (hR : R.val = t.val * 256 + r.val) (j : Fin 6) (C : Fin 1024) (l : Fin 6144)
    (hl : l.val = j.val * 1024 + C.val) : (show FVec Ideal S1x1x6144 .f32 from iblk m c 2 t) (ix3 0 0 l) = part (argM m c) j R C := by
  have hN := lt_of_lt_of_eq t.isLt N_0
  obtain ⟨S, hS⟩ : ∃ S : Fin 5, S.val = if t.val % 9 = 0 then 4 else t.val / 9 := ⟨⟨if t.val % 9 = 0 then 4 else t.val / 9, by split <;> omega⟩, rfl⟩
  have e : l = ⟨j.val * 1024 + C.val, by omega⟩ := Fin.ext hl
  rw [e, blkMGate m c t _ S hS, part, stream_tile hR hS]

theorem blkMOf (c : Dev nD) (t : Fin cfg0.N) (l : Fin 6144) (S : Fin 5) (hS : S.val = if t.val % 9 = 0 then 4 else t.val / 9) :
    (show FVec Ideal S1x1x6144 .f32 from iblk m c 3 t) (ix3 0 0 l) = argM m c (ix3 S 0 l) := by
  blk_ext [iblk, V, idx t]

/-- A part of the modulation as a grid point's rows read it. -/
theorem partOf (c : Dev nD) (t : Fin cfg0.N) (r : Fin 256) (R : Fin 9216) (hR : R.val = t.val * 256 + r.val) (j : Fin 6) (C : Fin 1024) (l : Fin 6144)
    (hl : l.val = j.val * 1024 + C.val) : (show FVec Ideal S1x1x6144 .f32 from iblk m c 3 t) (ix3 0 0 l) = part (argM m c) j R C := by
  have hN := lt_of_lt_of_eq t.isLt N_0
  obtain ⟨S, hS⟩ : ∃ S : Fin 5, S.val = if t.val % 9 = 0 then 4 else t.val / 9 := ⟨⟨if t.val % 9 = 0 then 4 else t.val / 9, by split <;> omega⟩, rfl⟩
  have e : l = ⟨j.val * 1024 + C.val, by omega⟩ := Fin.ext hl
  rw [e, blkMOf m c t _ S hS, part, stream_tile hR hS]

theorem ld2 (B : FVec Ideal S1x1x6144 .f32) (C : Fin 1024) :
    (show FVec Ideal S1x1x1024 .f32 from View.ld (Val := Elt Ideal) (e' := .f32) B r0_1) (ix3 0 0 C) = B (ix3 0 0 ⟨2048 + C.val, by omega⟩) := by
  refine congrArg B (funext fun a => Fin.ext ?_)
  match a with
  | ⟨0, _⟩ => rfl
  | ⟨1, _⟩ => rfl
  | ⟨2, _⟩ => show 2048 + 1 * C.val = 2048 + C.val; omega

theorem ld3 (B : FVec Ideal S1x1x6144 .f32) (C : Fin 1024) :
    (show FVec Ideal S1x1x1024 .f32 from View.ld (Val := Elt Ideal) (e' := .f32) B r0_2) (ix3 0 0 C) = B (ix3 0 0 ⟨3072 + C.val, by omega⟩) := by
  refine congrArg B (funext fun a => Fin.ext ?_)
  match a with
  | ⟨0, _⟩ => rfl
  | ⟨1, _⟩ => rfl
  | ⟨2, _⟩ => show 3072 + 1 * C.val = 3072 + C.val; omega

theorem ld4 (B : FVec Ideal S1x1x6144 .f32) (C : Fin 1024) :
    (show FVec Ideal S1x1x1024 .f32 from View.ld (Val := Elt Ideal) (e' := .f32) B r0_3) (ix3 0 0 C) = B (ix3 0 0 ⟨4096 + C.val, by omega⟩) := by
  refine congrArg B (funext fun a => Fin.ext ?_)
  match a with
  | ⟨0, _⟩ => rfl
  | ⟨1, _⟩ => rfl
  | ⟨2, _⟩ => show 4096 + 1 * C.val = 4096 + C.val; omega

theorem pay1_at (v0 : FVec Ideal S256x1024 .f32) (v1 : FVec Ideal S1x1x1024 .f32) (v3 : FVec Ideal S256x1024 .f32) (r : Fin 256) (C : Fin 1024) :
    k0_pay1 (F := Ideal) v0 v1 v3 (ix2 r C) = v0 (ix2 r C) + v1 (ix3 0 0 C) * v3 (ix2 r C) := by
  pointwise [k0_pay1]

theorem resid_block {X Y : Rows} {M : Mods} {j : Fin 6} {R : Fin 9216} {C : Fin 1024} {a b g : EReal} (ha : a = X (ix2 R C)) (hb : b = Y (ix2 R C))
    (hg : g = part M j R C) : a + g * b = resid X Y M j R C := by
  rw [ha, hb, hg]
  rfl

theorem pay2_at (v0 : FVec Ideal S256x1024 .f32) (v1 : FVec Ideal S1x1x1024 .f32) (v3 : FVec Ideal S256x1024 .f32) (v16 v18 : FVec Ideal S1x1x1024 .f32) (r : Fin 256)
    (C : Fin 1024) : k0_pay2 (F := Ideal) v0 v1 v3 v16 v18 (ix2 r C) =
      rms (fun k => v0 (ix2 r k) + v1 (ix3 0 0 k) * v3 (ix2 r k)) C * (1 + v18 (ix3 0 0 C)) + v16 (ix3 0 0 C) := by
  pointwise [k0_pay2, k0_pay1, rms]

theorem norm_block {x x' : Fin 1024 → EReal} {M : Mods} {j i : Fin 6} {R : Fin 9216} {C : Fin 1024} {a b : EReal} (hx : x = x') (ha : a = part M i R C)
    (hb : b = part M j R C) : rms x C * (1 + a) + b = normed x' M j i R C := by
  rw [hx, ha, hb]
  rfl

/-- The gated residual, as the run leaves it. -/
theorem final4 (c : Dev nD) : (dats m 0 c).arrAt 4 (cfgs 0).N = res (argX m c) (argY m c) (argM m c) := by
  refine (dats m 0 c).arrAt_eq_of_covers 4 _ (by decide +kernel) fun t _ y => ?_
  have hN := lt_of_lt_of_eq t.isLt N_0
  blk_simp
  rw [after0_4]
  frame_out
  idx_vars y
  obtain ⟨R, hR⟩ : ∃ R : Fin 9216, R.val = t.val * 256 + y0.val := ⟨⟨t.val * 256 + y0.val, by omega⟩, rfl⟩
  refine (pay1_at _ _ _ y0 y1).trans ((resid_block (blkX m c t y0 y1 R hR) (blkY m c t y0 y1 R hR)
    ((ld2 _ y1).trans (partGate m c t y0 R hR 2 y1 ⟨2048 + y1.val, by omega⟩ rfl))).trans (res_at ?_ ?_))
  · blk_simp [idx t]
    omega
  · blk_simp [idx t]

/-- The modulated norm of the residual, as the run leaves it. -/
theorem final5 (c : Dev nD) : (dats m 0 c).arrAt 5 (cfgs 0).N = out (argX m c) (argY m c) (argM m c) := by
  refine (dats m 0 c).arrAt_eq_of_covers 5 _ (by decide +kernel) fun t _ y => ?_
  have hN := lt_of_lt_of_eq t.isLt N_0
  blk_simp
  rw [after0_5]
  frame_out
  idx_vars y
  obtain ⟨R, hR⟩ : ∃ R : Fin 9216, R.val = t.val * 256 + y0.val := ⟨⟨t.val * 256 + y0.val, by omega⟩, rfl⟩
  refine (pay2_at _ _ _ _ _ y0 y1).trans ((norm_block
    (funext fun k => resid_block (blkX m c t y0 k R hR) (blkY m c t y0 k R hR) ((ld2 _ k).trans (partGate m c t y0 R hR 2 k ⟨2048 + k.val, by omega⟩ rfl)))
    ((ld4 _ y1).trans (partOf m c t y0 R hR 4 y1 ⟨4096 + y1.val, by omega⟩ rfl))
    ((ld3 _ y1).trans (partOf m c t y0 R hR 3 y1 ⟨3072 + y1.val, by omega⟩ rfl))).trans (out_at ?_ ?_))
  · blk_simp [idx t]
    omega
  · blk_simp [idx t]
theorem ref4 (X Y : Rows) (M : Mods) : Reference22Ideal.Read.val_main_v23 (F := Ideal) X Y M = res X Y M := by
  rw [← Reference22Ideal.Read.val_main_v23_eq]
  funext i
  idx_vars i
  pointwise []
  split
  · rename_i h
    exact resid_block rfl rfl (part_ctx h rfl)
  · rename_i h
    exact resid_block (R := i0) (congrArg (fun Q => X (ix2 Q i1)) (row_seq h rfl)) (congrArg (fun Q => Y (ix2 Q i1)) (row_seq h rfl)) (part_seq h rfl rfl)

open Reference22Ideal in
theorem ref_ctx (X Y : Rows) (M : Mods) (a : Fin 4) (r : Fin 256) (C : Fin 1024) : Read.val_main_v50 (F := Ideal) X Y M (ix3 a r C) =
    rms (fun k => Read.val_main_v16 (F := Ideal) X Y M (ix3 a r k)) C * (1 + M (ix3 4 0 ⟨4096 + C.val, by omega⟩)) + M (ix3 4 0 ⟨3072 + C.val, by omega⟩) := by
  unfold Read.val_main_v50 Read.val_main_v49 Read.val_main_v48 Read.val_main_v47 Read.val_main_v46 Read.val_main_v45 Read.val_main_v44
    Read.val_main_v43 Read.val_main_v42 Read.val_main_v41 Read.val_main_v40 Read.val_main_v39 Read.val_main_v38 Read.val_main_v37
    Read.val_main_v36 Read.val_main_v35 Read.val_main_v34 Read.val_main_v33 Read.val_main_v32 Read.val_main_v31 Read.val_main_v30
    Read.val_main_v29 Read.val_main_v26 Read.val_main_v25 Read.val_main_v24 Read.val_main_cst Read.val_main_cst_0 Read.val_main_cst_1
    Read.val_main_cst_2
  generalize Read.val_main_v16 (F := Ideal) X Y M = A
  pointwise [rms]

open Reference22Ideal in
theorem ref_seq (X Y : Rows) (M : Mods) (a : Fin 4) (r : Fin 2048) (C : Fin 1024) : Read.val_main_v70 (F := Ideal) X Y M (ix3 a r C) =
    rms (fun k => Read.val_main_v21 (F := Ideal) X Y M (ix3 a r k)) C * (1 + M (ix3 ⟨a.val, by omega⟩ 0 ⟨4096 + C.val, by omega⟩)) +
      M (ix3 ⟨a.val, by omega⟩ 0 ⟨3072 + C.val, by omega⟩) := by
  unfold Read.val_main_v70 Read.val_main_v69 Read.val_main_v68 Read.val_main_v67 Read.val_main_v66 Read.val_main_v65 Read.val_main_v64
    Read.val_main_v63 Read.val_main_v62 Read.val_main_v61 Read.val_main_v60 Read.val_main_v59 Read.val_main_v58 Read.val_main_v57
    Read.val_main_v56 Read.val_main_v55 Read.val_main_v54 Read.val_main_v53 Read.val_main_v52 Read.val_main_v51 Read.val_main_v28
    Read.val_main_v27 Read.val_main_cst_3 Read.val_main_cst_4 Read.val_main_cst_5 Read.val_main_cst_6
  generalize Read.val_main_v21 (F := Ideal) X Y M = A
  pointwise [rms]

open Reference22Ideal in
theorem ref_res_ctx (X Y : Rows) (M : Mods) (R : Fin 9216) (h : R.val % 2304 < 256) (C : Fin 1024) :
    Read.val_main_v16 (F := Ideal) X Y M (ix3 ⟨R.val / 2304, by omega⟩ ⟨R.val % 2304, h⟩ C) = resid X Y M 2 R C := by
  refine Eq.trans ?_ (congrFun (ref4 X Y M) (ix2 R C))
  unfold Read.val_main_v23 Read.val_main_v22
  generalize Read.val_main_v16 (F := Ideal) X Y M = A
  generalize Read.val_main_v21 (F := Ideal) X Y M = B
  pointwise []
  rw [dif_pos h]

open Reference22Ideal in
theorem ref_res_seq (X Y : Rows) (M : Mods) (R : Fin 9216) (h : ¬R.val % 2304 < 256) (C : Fin 1024) :
    Read.val_main_v21 (F := Ideal) X Y M (ix3 ⟨R.val / 2304, by omega⟩ ⟨R.val % 2304 - 256, by omega⟩ C) = resid X Y M 2 R C := by
  refine Eq.trans ?_ (congrFun (ref4 X Y M) (ix2 R C))
  unfold Read.val_main_v23 Read.val_main_v22
  generalize Read.val_main_v16 (F := Ideal) X Y M = A
  generalize Read.val_main_v21 (F := Ideal) X Y M = B
  pointwise []
  rw [dif_neg h]

open Reference22Ideal in
theorem ref5 (X Y : Rows) (M : Mods) : Read.val_main_v73 (F := Ideal) X Y M = out X Y M := by
  have hc := ref_ctx X Y M
  have hs := ref_seq X Y M
  unfold Read.val_main_v73 Read.val_main_v72 Read.val_main_v71
  revert hc hs
  generalize Read.val_main_v50 (F := Ideal) X Y M = A
  generalize Read.val_main_v70 (F := Ideal) X Y M = B
  intro hc hs
  funext i
  idx_vars i
  pointwise []
  split
  · rename_i h
    exact (hc ⟨i0.val / 2304, by omega⟩ ⟨i0.val % 2304, h⟩ i1).trans (norm_block (funext fun k => ref_res_ctx X Y M i0 h k) (part_ctx h rfl) (part_ctx h rfl))
  · rename_i h
    exact (hs ⟨i0.val / 2304, by omega⟩ ⟨i0.val % 2304 - 256, by omega⟩ i1).trans
      (norm_block (funext fun k => ref_res_seq X Y M i0 h k) (part_seq h rfl rfl) (part_seq h rfl rfl))

end Cert.ResidNorm

end

end
-- ==== Proof.Residual.lean ====
/- The gated residual: each row plus a branch's output, gated by a part of the modulation.

   Grid point `t` has rows `256 t …`: the context rows of sequence `t / 9` when `t % 9 = 0`, latent rows otherwise.
 -/
module

public import proofs.«01_k».proof.Proof.Gen.Kernel23Ideal.Frame
public import proofs.«01_k».proof.Proof.Gen.Reference23Ideal.Read
public import Idealize.ShloMosaic.Lib.Pipeline.ValueKit
public import proofs.«01_k».proof.Proof.Modulated
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Residual

open Cert.Kernel23Ideal Cert.Kernel23Ideal.Gen

variable (m : (ℓ : Loc nD τ sig) → Buf (Elt Ideal) ℓ)

open Cert.Modulated

/-- The activations. -/
abbrev argX (c : Dev nD) : Rows := m ((c : Thread nD τ).loc main_arg0)
/-- The branch's output. -/
abbrev argY (c : Dev nD) : Rows := m ((c : Thread nD τ).loc main_arg1)
/-- The modulation. -/
abbrev argM (c : Dev nD) : Mods := m ((c : Thread nD τ).loc main_arg2)

/-- The gated residual. -/
def out (X Y : Rows) (M : Mods) : FVec Ideal S9216x1024 .f32 := fun i => resid X Y M 5 (i 0) (i 1)

theorem out_at {X Y : Rows} {M : Mods} {i : S9216x1024.Idx} {R : Fin 9216} {C : Fin 1024} (h0 : (i 0).val = R.val)
    (h1 : (i 1).val = C.val) : resid X Y M 5 R C = out X Y M i := by
  obtain rfl : i 0 = R := Fin.ext h0
  obtain rfl : i 1 = C := Fin.ext h1
  rfl

theorem idx : ∀ t : Fin cfg0.N, win0_0.index t = ![t.val, 0] ∧ win0_1.index t = ![t.val, 0] ∧ win0_2.index t = ![if t.val % 9 = 0 then 4 else t.val / 9, 0, 0] ∧ win0_3.index t = ![t.val, 0] :=
  (by decide +kernel : ∀ t : Fin grid0.N, _)

theorem blkX (c : Dev nD) (t : Fin cfg0.N) (r : Fin 256) (C : Fin 1024) (R : Fin 9216) (hR : R.val = t.val * 256 + r.val) :
    (show FVec Ideal S256x1024 .f32 from iblk m c 0 t) (ix2 r C) = argX m c (ix2 R C) := by
  blk_ext [iblk, V, idx t]

theorem blkY (c : Dev nD) (t : Fin cfg0.N) (r : Fin 256) (C : Fin 1024) (R : Fin 9216) (hR : R.val = t.val * 256 + r.val) :
    (show FVec Ideal S256x1024 .f32 from iblk m c 1 t) (ix2 r C) = argY m c (ix2 R C) := by
  blk_ext [iblk, V, idx t]

theorem blkMOf (c : Dev nD) (t : Fin cfg0.N) (l : Fin 6144) (S : Fin 5) (hS : S.val = if t.val % 9 = 0 then 4 else t.val / 9) :
    (show FVec Ideal S1x1x6144 .f32 from iblk m c 2 t) (ix3 0 0 l) = argM m c (ix3 S 0 l) := by
  blk_ext [iblk, V, idx t]

/-- A part of the modulation as a grid point's rows read it. -/
theorem partOf (c : Dev nD) (t : Fin cfg0.N) (r : Fin 256) (R : Fin 9216) (hR : R.val = t.val * 256 + r.val) (j : Fin 6) (C : Fin 1024) (l : Fin 6144)
    (hl : l.val = j.val * 1024 + C.val) : (show FVec Ideal S1x1x6144 .f32 from iblk m c 2 t) (ix3 0 0 l) = part (argM m c) j R C := by
  have hN := lt_of_lt_of_eq t.isLt N_0
  obtain ⟨S, hS⟩ : ∃ S : Fin 5, S.val = if t.val % 9 = 0 then 4 else t.val / 9 := ⟨⟨if t.val % 9 = 0 then 4 else t.val / 9, by split <;> omega⟩, rfl⟩
  have e : l = ⟨j.val * 1024 + C.val, by omega⟩ := Fin.ext hl
  rw [e, blkMOf m c t _ S hS, part, stream_tile hR hS]

theorem ld5 (B : FVec Ideal S1x1x6144 .f32) (C : Fin 1024) :
    (show FVec Ideal S1x1x1024 .f32 from View.ld (Val := Elt Ideal) (e' := .f32) B r0_1) (ix3 0 0 C) = B (ix3 0 0 ⟨5120 + C.val, by omega⟩) := by
  refine congrArg B (funext fun a => Fin.ext ?_)
  match a with
  | ⟨0, _⟩ => rfl
  | ⟨1, _⟩ => rfl
  | ⟨2, _⟩ => show 5120 + 1 * C.val = 5120 + C.val; omega

theorem pay1_at (v0 : FVec Ideal S256x1024 .f32) (v1 : FVec Ideal S1x1x1024 .f32) (v3 : FVec Ideal S256x1024 .f32) (r : Fin 256) (C : Fin 1024) :
    k0_pay1 (F := Ideal) v0 v1 v3 (ix2 r C) = v0 (ix2 r C) + v1 (ix3 0 0 C) * v3 (ix2 r C) := by
  pointwise [k0_pay1]

theorem resid_block {X Y : Rows} {M : Mods} {j : Fin 6} {R : Fin 9216} {C : Fin 1024} {a b g : EReal} (ha : a = X (ix2 R C)) (hb : b = Y (ix2 R C))
    (hg : g = part M j R C) : a + g * b = resid X Y M j R C := by
  rw [ha, hb, hg]
  rfl

/-- The gated residual, as the run leaves it. -/
theorem final (c : Dev nD) : (dats m 0 c).arrAt 3 (cfgs 0).N = out (argX m c) (argY m c) (argM m c) := by
  refine (dats m 0 c).arrAt_eq_of_covers 3 _ (by decide +kernel) fun t _ y => ?_
  have hN := lt_of_lt_of_eq t.isLt N_0
  blk_simp
  rw [after0_3]
  frame_out
  idx_vars y
  obtain ⟨R, hR⟩ : ∃ R : Fin 9216, R.val = t.val * 256 + y0.val := ⟨⟨t.val * 256 + y0.val, by omega⟩, rfl⟩
  refine (pay1_at _ _ _ y0 y1).trans ((resid_block (blkX m c t y0 y1 R hR) (blkY m c t y0 y1 R hR)
    ((ld5 _ y1).trans (partOf m c t y0 R hR 5 y1 ⟨5120 + y1.val, by omega⟩ rfl))).trans (out_at ?_ ?_))
  · blk_simp [idx t]
    omega
  · blk_simp [idx t]
theorem ref (X Y : Rows) (M : Mods) : Reference23Ideal.Read.val_main_v23 (F := Ideal) X Y M = out X Y M := by
  rw [← Reference23Ideal.Read.val_main_v23_eq]
  funext i
  idx_vars i
  pointwise []
  split
  · rename_i h
    exact resid_block rfl rfl (part_ctx h rfl)
  · rename_i h
    exact resid_block (R := i0) (congrArg (fun Q => X (ix2 Q i1)) (row_seq h rfl)) (congrArg (fun Q => Y (ix2 Q i1)) (row_seq h rfl)) (part_seq h rfl rfl)

end Cert.Residual

end

end
-- ==== Proof.NormSilu.lean ====
/- The layer norm with the smooth rectifier: each row less its mean, over the root of its variance, scaled and shifted, times its logistic.

   Grid point `t` has rows `256 t …` and all 512 columns.
 -/
module

public import proofs.«01_k».proof.Proof.Gen.Kernel24Ideal.Frame
public import proofs.«01_k».proof.Proof.Gen.Reference24Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormSilu

open Cert.Kernel24Ideal Cert.Kernel24Ideal.Gen

variable (m : (ℓ : Loc nD τ sig) → Buf (Elt Ideal) ℓ)

/-- The rows. -/
abbrev argX (c : Dev nD) : FVec Ideal S9216x512 .f32 := m ((c : Thread nD τ).loc main_arg0)
/-- The scale. -/
abbrev argG (c : Dev nD) : FVec Ideal S1x512 .f32 := m ((c : Thread nD τ).loc main_arg1)
/-- The shift. -/
abbrev argB (c : Dev nD) : FVec Ideal S1x512 .f32 := m ((c : Thread nD τ).loc main_arg2)

/-- A row less its mean. -/
def cent (x : Fin 512 → EReal) (C : Fin 512) : EReal := x C - Ideal.div (∑ k, x k) (Ideal.ofBits .f32 0x44000000#32)

/-- A row's layer norm at a column, scaled by `g` and shifted by `b`. -/
def norm (x : Fin 512 → EReal) (g b : EReal) (C : Fin 512) : EReal :=
  cent x C * Ideal.rsqrt (Ideal.div (∑ k, cent x k * cent x k) (Ideal.ofBits .f32 0x44000000#32) + Ideal.ofBits .f32 0x358637BD#32) * g + b

/-- An entry times its logistic. -/
def gated (y : EReal) : EReal := y * Ideal.div 1 (1 + Ideal.exp (-y))

/-- The call's result. -/
def out (X : FVec Ideal S9216x512 .f32) (G B : FVec Ideal S1x512 .f32) : FVec Ideal S9216x512 .bf16 := fun i =>
  gated (norm (fun k => X (ix2 (i 0) k)) (G (ix2 0 (i 1))) (B (ix2 0 (i 1))) (i 1))

theorem out_at {X : FVec Ideal S9216x512 .f32} {G B : FVec Ideal S1x512 .f32} {i : S9216x512.Idx} {R : Fin 9216} {C : Fin 512} (h0 : (i 0).val = R.val) (h1 : (i 1).val = C.val) :
    gated (norm (fun k => X (ix2 R k)) (G (ix2 0 C)) (B (ix2 0 C)) C) = out X G B i := by
  obtain rfl : i 0 = R := Fin.ext h0
  obtain rfl : i 1 = C := Fin.ext h1
  rfl

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem blkX (c : Dev nD) (t : Fin cfg0.N) (r : Fin 256) (C : Fin 512) (R : Fin 9216) (hR : R.val = t.val * 256 + r.val) :
    (show FVec Ideal S256x512 .f32 from iblk m c 0 t) (ix2 r C) = argX m c (ix2 R C) := by
  blk_ext [iblk, V, idx t]

theorem blkG (c : Dev nD) (t : Fin cfg0.N) (C : Fin 512) : (show FVec Ideal S1x512 .f32 from iblk m c 1 t) (ix2 0 C) = argG m c (ix2 0 C) := by
  blk_ext [iblk, V, idx t]

theorem blkB (c : Dev nD) (t : Fin cfg0.N) (C : Fin 512) : (show FVec Ideal S1x512 .f32 from iblk m c 2 t) (ix2 0 C) = argB m c (ix2 0 C) := by
  blk_ext [iblk, V, idx t]

theorem pay1_at (v0 : FVec Ideal S256x512 .f32) (v17 v20 : FVec Ideal S1x512 .f32) (r : Fin 256) (C : Fin 512) :
    k0_pay1 (F := Ideal) v0 v17 v20 (ix2 r C) = gated (norm (fun k => v0 (ix2 r k)) (v17 (ix2 0 C)) (v20 (ix2 0 C)) C) := by
  pointwise [k0_pay1, gated, norm, cent]
  simp only [zero_sub]

theorem gated_block {x x' : Fin 512 → EReal} {g g' b b' : EReal} {C : Fin 512} (hx : x = x') (hg : g = g') (hb : b = b') :
    gated (norm x g b C) = gated (norm x' g' b' C) := by
  rw [hx, hg, hb]

/-- The call's result, as the run leaves it. -/
theorem final (c : Dev nD) : (dats m 0 c).arrAt 3 (cfgs 0).N = out (argX m c) (argG m c) (argB m c) := by
  refine (dats m 0 c).arrAt_eq_of_covers 3 _ (by decide +kernel) fun t _ y => ?_
  have hN := lt_of_lt_of_eq t.isLt N_0
  blk_simp
  rw [after0_3]
  frame_out
  idx_vars y
  obtain ⟨R, hR⟩ : ∃ R : Fin 9216, R.val = t.val * 256 + y0.val := ⟨⟨t.val * 256 + y0.val, by omega⟩, rfl⟩
  refine Eq.trans ?_ ((gated_block (funext fun k => blkX m c t y0 k R hR) (blkG m c t y1) (blkB m c t y1)).trans (out_at ?_ ?_))
  · refine (pay1_at _ _ _ y0 y1).trans ?_
    rfl
  · blk_simp [idx t]
    omega
  · blk_simp [idx t]
theorem ref (X : FVec Ideal S9216x512 .f32) (G B : FVec Ideal S1x512 .f32) : Reference24Ideal.Read.val_main_v23 (F := Ideal) X G B = out X G B := by
  rw [← Reference24Ideal.Read.val_main_v23_eq]
  funext i
  idx_vars i
  pointwise [out, gated, norm, cent]

end Cert.NormSilu

end

end
-- ==== Proof.lean ====
/- The claims, assembled: each program's run, and the equality of the results over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.MergeGrad
public import proofs.«01_k».proof.Proof.MergeRef
public import proofs.«01_k».proof.Proof.AttnGrad
public import proofs.«01_k».proof.Proof.AttnRef
public import proofs.«01_k».proof.Proof.FiniteArgs
public import proofs.«01_k».proof.Proof.DFfnIn
public import proofs.«01_k».proof.Proof.DwFfnIn
public import proofs.«01_k».proof.Proof.DwFfnOut
public import proofs.«01_k».proof.Proof.DInMain
public import proofs.«01_k».proof.Proof.DInGate
public import proofs.«01_k».proof.Proof.DwInMain
public import proofs.«01_k».proof.Proof.DwInGate
public import proofs.«01_k».proof.Proof.DwMix
public import proofs.«01_k».proof.Proof.DwBranch
public import proofs.«01_k».proof.Proof.DBranch
public import proofs.«01_k».proof.Proof.DO
public import proofs.«01_k».proof.Proof.PMain
public import proofs.«01_k».proof.Proof.Mix
public import proofs.«01_k».proof.Proof.FfnOut
public import proofs.«01_k».proof.Proof.GateMerge
public import proofs.«01_k».proof.Proof.FfnInSwiglu
public import proofs.«01_k».proof.Proof.AttnFwd
public import proofs.«01_k».proof.Proof.NormMod
public import proofs.«01_k».proof.Proof.ResidNorm
public import proofs.«01_k».proof.Proof.Residual
public import proofs.«01_k».proof.Proof.NormSilu
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Attn AttnGrad

/-- Every result of the gated merge's gradient is the reference's. -/
theorem merge : Cert.algebraic_KernelIdeal_ReferenceIdeal := by
  pair_intro
  · run_from Cert.KernelIdeal.Gen.run_main m g
  · run_from Cert.ReferenceIdeal.Value.run m' g'
    · exact (Cert.MergeRef.ref50 _ _ _).trans (Cert.MergeGrad.final4 m c).symm
    · exact (Cert.MergeRef.ref51 _ _ _).trans (Cert.MergeGrad.final5 m c).symm
    · exact (Cert.MergeRef.ref52 _ _ _).trans (Cert.MergeGrad.final6 m c).symm
    · exact (Cert.MergeRef.ref53 _ _ _ _).trans (Cert.MergeGrad.final7 m c).symm

/-- The reference leaves its arguments as they were. -/
theorem mergeRef_quiet : Cert.quiescent_ReferenceIdeal := by
  intro m g _
  exact (θ_run Cert.ReferenceIdeal.defs _ _).mono
    (fun r h => ⟨fun c => (h c).2.2.2.2, sem_eq_zero_of_no_sems (by decide) r.2⟩)
    (Cert.ReferenceIdeal.Value.run m g)

instance finiteFacts : Cert.Pre_finite2.Facts := Cert.FiniteArgs.facts

set_option maxHeartbeats 4000000 in
/-- Over real arguments every result of the attention gradient is the reference's. -/
theorem attn : Cert.algebraic_Kernel2Ideal_Reference2Ideal_pre_finite2 := by
  pair_intro
  · run_from Cert.Kernel2Ideal.Gen.run_main m g
  · refine (θ_run Cert.Reference2Ideal.defs _ _).mono (fun r h c => ?_) (Cert.Reference2Ideal.Value.run m' g')
    obtain ⟨e0, e1, e2, e3⟩ := hagree c
    have hQ : Re (argQ m c) := Cert.FiniteArgs.re_q (hpre c)
    have hK : Re (argK m c) := Cert.FiniteArgs.re_k (hpre c)
    have hV : Re (argV m c) := Cert.FiniteArgs.re_v (hpre c)
    have hC : Re (argC m c) := Cert.FiniteArgs.re_c (hpre c)
    refine ⟨(h c).1.trans ?_, (h c).2.1.trans ?_, (h c).2.2.1.trans ?_, (h c).2.2.2⟩
    · refine (Cert.Reference2Ideal.Read.val_main_v137_eq m' c).trans ?_
      rw [e0, e1, e2, e3]
      exact (Cert.AttnRef.ref137 hQ hK hV hC).trans (final5 hQ hK hV hC).symm
    · refine (Cert.Reference2Ideal.Read.val_main_v136_eq m' c).trans ?_
      rw [e0, e1, e2, e3]
      exact (Cert.AttnRef.ref136 hQ hK hV hC).trans (final6 hQ hK hV hC).symm
    · refine (Cert.Reference2Ideal.Read.val_main_v132_eq m' c).trans ?_
      rw [e0, e1, e3]
      exact (Cert.AttnRef.ref132 hQ hK).trans (final7 hQ hK).symm

/-- The attention reference leaves its arguments as they were. -/
theorem attnRef_quiet : Cert.quiescent_Reference2Ideal := by
  intro m g _
  exact (θ_run Cert.Reference2Ideal.defs _ _).mono
    (fun r h => ⟨fun c => (h c).2.2.2, sem_eq_zero_of_no_sems (by decide) r.2⟩)
    (Cert.Reference2Ideal.Value.run m g)

/-- The result is the reference's: the feed-forward's input gradient. -/
theorem ffnIn : Cert.algebraic_Kernel3Ideal_Reference3Ideal := by
  pair_intro
  · run_from Cert.Kernel3Ideal.Gen.run_main m g
  · run_from Cert.Reference3Ideal.Value.run m' g'
    · exact (Cert.DFfnIn.ref _ _).trans (Cert.DFfnIn.final m c).symm

theorem ffnIn_quiet : Cert.quiescent_Reference3Ideal := by
  intro m g _
  exact (θ_run Cert.Reference3Ideal.defs _ _).mono
    (fun r h => ⟨fun c => (h c).2, sem_eq_zero_of_no_sems (by decide) r.2⟩)
    (Cert.Reference3Ideal.Value.run m g)

/-- The result is the reference's: the gradient of the feed-forward's input weights. -/
theorem wFfnIn : Cert.algebraic_Kernel4Ideal_Reference4Ideal := by
  pair_intro
  · run_from Cert.Kernel4Ideal.Gen.run_main m g
  · run_from Cert.Reference4Ideal.Value.run m' g'
    · exact (Cert.DwFfnIn.ref _ _).trans (Cert.DwFfnIn.final m c).symm

theorem wFfnIn_quiet : Cert.quiescent_Reference4Ideal := by
  intro m g _
  exact (θ_run Cert.Reference4Ideal.defs _ _).mono
    (fun r h => ⟨fun c => (h c).2, sem_eq_zero_of_no_sems (by decide) r.2⟩)
    (Cert.Reference4Ideal.Value.run m g)

/-- The result is the reference's: the gradient of the feed-forward's output weights. -/
theorem wFfnOut : Cert.algebraic_Kernel5Ideal_Reference5Ideal := by
  pair_intro
  · run_from Cert.Kernel5Ideal.Gen.run_main m g
  · run_from Cert.Reference5Ideal.Value.run m' g'
    · exact (Cert.DwFfnOut.ref _ _).trans (Cert.DwFfnOut.final m c).symm

theorem wFfnOut_quiet : Cert.quiescent_Reference5Ideal := by
  intro m g _
  exact (θ_run Cert.Reference5Ideal.defs _ _).mono
    (fun r h => ⟨fun c => (h c).2, sem_eq_zero_of_no_sems (by decide) r.2⟩)
    (Cert.Reference5Ideal.Value.run m g)

/-- The result is the reference's: the layer input's gradient through the projection's main columns. -/
theorem inMain : Cert.algebraic_Kernel6Ideal_Reference6Ideal := by
  pair_intro
  · run_from Cert.Kernel6Ideal.Gen.run_main m g
  · run_from Cert.Reference6Ideal.Value.run m' g'
    · exact (Cert.DInMain.ref _ _).trans (Cert.DInMain.final m c).symm

theorem inMain_quiet : Cert.quiescent_Reference6Ideal := by
  intro m g _
  exact (θ_run Cert.Reference6Ideal.defs _ _).mono
    (fun r h => ⟨fun c => (h c).2, sem_eq_zero_of_no_sems (by decide) r.2⟩)
    (Cert.Reference6Ideal.Value.run m g)

/-- The result is the reference's: the layer input's gradient through the gate logits. -/
theorem inGate : Cert.algebraic_Kernel7Ideal_Reference7Ideal := by
  pair_intro
  · run_from Cert.Kernel7Ideal.Gen.run_main m g
  · run_from Cert.Reference7Ideal.Value.run m' g'
    · exact (Cert.DInGate.ref _ _ _).trans (Cert.DInGate.final m c).symm

theorem inGate_quiet : Cert.quiescent_Reference7Ideal := by
  intro m g _
  exact (θ_run Cert.Reference7Ideal.defs _ _).mono
    (fun r h => ⟨fun c => (h c).2, sem_eq_zero_of_no_sems (by decide) r.2⟩)
    (Cert.Reference7Ideal.Value.run m g)

/-- The result is the reference's: the gradient of the projection's main columns. -/
theorem wInMain : Cert.algebraic_Kernel8Ideal_Reference8Ideal := by
  pair_intro
  · run_from Cert.Kernel8Ideal.Gen.run_main m g
  · run_from Cert.Reference8Ideal.Value.run m' g'
    · exact (Cert.DwInMain.ref _ _).trans (Cert.DwInMain.final m c).symm

theorem wInMain_quiet : Cert.quiescent_Reference8Ideal := by
  intro m g _
  exact (θ_run Cert.Reference8Ideal.defs _ _).mono
    (fun r h => ⟨fun c => (h c).2, sem_eq_zero_of_no_sems (by decide) r.2⟩)
    (Cert.Reference8Ideal.Value.run m g)

/-- The result is the reference's: the gradient of the gate logits' columns. -/
theorem wInGate : Cert.algebraic_Kernel9Ideal_Reference9Ideal := by
  pair_intro
  · run_from Cert.Kernel9Ideal.Gen.run_main m g
  · run_from Cert.Reference9Ideal.Value.run m' g'
    · exact (Cert.DwInGate.ref _ _).trans (Cert.DwInGate.final m c).symm

theorem wInGate_quiet : Cert.quiescent_Reference9Ideal := by
  intro m g _
  exact (θ_run Cert.Reference9Ideal.defs _ _).mono
    (fun r h => ⟨fun c => (h c).2, sem_eq_zero_of_no_sems (by decide) r.2⟩)
    (Cert.Reference9Ideal.Value.run m g)

/-- The result is the reference's: the gradient of the mixing weights. -/
theorem wMix : Cert.algebraic_Kernel10Ideal_Reference10Ideal := by
  pair_intro
  · run_from Cert.Kernel10Ideal.Gen.run_main m g
  · run_from Cert.Reference10Ideal.Value.run m' g'
    · exact (Cert.DwMix.ref _ _).trans (Cert.DwMix.final m c).symm

theorem wMix_quiet : Cert.quiescent_Reference10Ideal := by
  intro m g _
  exact (θ_run Cert.Reference10Ideal.defs _ _).mono
    (fun r h => ⟨fun c => (h c).2, sem_eq_zero_of_no_sems (by decide) r.2⟩)
    (Cert.Reference10Ideal.Value.run m g)

/-- The result is the reference's: the gradient of a branch's output weights. -/
theorem wBranch : Cert.algebraic_Kernel11Ideal_Reference11Ideal := by
  pair_intro
  · run_from Cert.Kernel11Ideal.Gen.run_main m g
  · run_from Cert.Reference11Ideal.Value.run m' g'
    · exact (Cert.DwBranch.ref _ _).trans (Cert.DwBranch.final m c).symm

theorem wBranch_quiet : Cert.quiescent_Reference11Ideal := by
  intro m g _
  exact (θ_run Cert.Reference11Ideal.defs _ _).mono
    (fun r h => ⟨fun c => (h c).2, sem_eq_zero_of_no_sems (by decide) r.2⟩)
    (Cert.Reference11Ideal.Value.run m g)

/-- The result is the reference's: the gradient of a branch's activations. -/
theorem branch : Cert.algebraic_Kernel12Ideal_Reference12Ideal := by
  pair_intro
  · run_from Cert.Kernel12Ideal.Gen.run_main m g
  · run_from Cert.Reference12Ideal.Value.run m' g'
    · exact (Cert.DBranch.ref _ _).trans (Cert.DBranch.final m c).symm

theorem branch_quiet : Cert.quiescent_Reference12Ideal := by
  intro m g _
  exact (θ_run Cert.Reference12Ideal.defs _ _).mono
    (fun r h => ⟨fun c => (h c).2, sem_eq_zero_of_no_sems (by decide) r.2⟩)
    (Cert.Reference12Ideal.Value.run m g)

/-- The result is the reference's: the gradient of the attention's output. -/
theorem dO : Cert.algebraic_Kernel13Ideal_Reference13Ideal := by
  pair_intro
  · run_from Cert.Kernel13Ideal.Gen.run_main m g
  · run_from Cert.Reference13Ideal.Value.run m' g'
    · exact (Cert.DO.ref _ _).trans (Cert.DO.final m c).symm

theorem dO_quiet : Cert.quiescent_Reference13Ideal := by
  intro m g _
  exact (θ_run Cert.Reference13Ideal.defs _ _).mono
    (fun r h => ⟨fun c => (h c).2, sem_eq_zero_of_no_sems (by decide) r.2⟩)
    (Cert.Reference13Ideal.Value.run m g)

/-- The result is the reference's: the projection's main columns. -/
theorem pMain : Cert.algebraic_Kernel14Ideal_Reference14Ideal := by
  pair_intro
  · run_from Cert.Kernel14Ideal.Gen.run_main m g
  · run_from Cert.Reference14Ideal.Value.run m' g'
    · exact (Cert.PMain.ref _ _).trans (Cert.PMain.final m c).symm

theorem pMain_quiet : Cert.quiescent_Reference14Ideal := by
  intro m g _
  exact (θ_run Cert.Reference14Ideal.defs _ _).mono
    (fun r h => ⟨fun c => (h c).2, sem_eq_zero_of_no_sems (by decide) r.2⟩)
    (Cert.Reference14Ideal.Value.run m g)

/-- The result is the reference's: the mixing product. -/
theorem mixed : Cert.algebraic_Kernel15Ideal_Reference15Ideal := by
  pair_intro
  · run_from Cert.Kernel15Ideal.Gen.run_main m g
  · run_from Cert.Reference15Ideal.Value.run m' g'
    · exact (Cert.Mix.ref _ _).trans (Cert.Mix.final m c).symm

theorem mixed_quiet : Cert.quiescent_Reference15Ideal := by
  intro m g _
  exact (θ_run Cert.Reference15Ideal.defs _ _).mono
    (fun r h => ⟨fun c => (h c).2, sem_eq_zero_of_no_sems (by decide) r.2⟩)
    (Cert.Reference15Ideal.Value.run m g)

/-- The result is the reference's: the feed-forward's output product. -/
theorem ffnOut : Cert.algebraic_Kernel16Ideal_Reference16Ideal := by
  pair_intro
  · run_from Cert.Kernel16Ideal.Gen.run_main m g
  · run_from Cert.Reference16Ideal.Value.run m' g'
    · exact (Cert.FfnOut.ref _ _).trans (Cert.FfnOut.final m c).symm

theorem ffnOut_quiet : Cert.quiescent_Reference16Ideal := by
  intro m g _
  exact (θ_run Cert.Reference16Ideal.defs _ _).mono
    (fun r h => ⟨fun c => (h c).2, sem_eq_zero_of_no_sems (by decide) r.2⟩)
    (Cert.Reference16Ideal.Value.run m g)

set_option maxHeartbeats 4000000 in
/-- The result is the reference's: the gated merge's sum, its gates and the branch outputs. -/
theorem gateMerge : Cert.algebraic_Kernel17Ideal_Reference17Ideal := by
  pair_intro
  · run_from Cert.Kernel17Ideal.Gen.run_main m g
  · run_from Cert.Reference17Ideal.Value.run m' g'
    · exact (Cert.GateMerge.ref30 _ _ _ _ _ _ _ _).trans (Cert.GateMerge.final10 m c).symm
    · exact (Cert.GateMerge.ref41 _ _).trans (Cert.GateMerge.final11 m c).symm
    · obtain ⟨-, -, e2, e3, e4, e5, e6, e7⟩ := hagree c
      rw [e2, e3, e4, e5, e6, e7]
      exact (Cert.GateMerge.ref46 _ _ _ _ _ _).trans (Cert.GateMerge.final12 m c).symm

theorem gateMerge_quiet : Cert.quiescent_Reference17Ideal := by
  intro m g _
  exact (θ_run Cert.Reference17Ideal.defs _ _).mono
    (fun r h => ⟨fun c => (h c).2.2.2, sem_eq_zero_of_no_sems (by decide) r.2⟩)
    (Cert.Reference17Ideal.Value.run m g)

set_option maxHeartbeats 4000000 in
/-- The result is the reference's: the feed-forward's gated activation and its two projections. -/
theorem ffnInSwiglu : Cert.algebraic_Kernel18Ideal_Reference18Ideal := by
  pair_intro
  · run_from Cert.Kernel18Ideal.Gen.run_main m g
  · run_from Cert.Reference18Ideal.Value.run m' g'
    · exact (Cert.FfnInSwiglu.ref9 _ _).trans (Cert.FfnInSwiglu.final3 m c).symm
    · exact (Cert.FfnInSwiglu.ref13 _ _).trans (Cert.FfnInSwiglu.final4 m c).symm

theorem ffnInSwiglu_quiet : Cert.quiescent_Reference18Ideal := by
  intro m g _
  exact (θ_run Cert.Reference18Ideal.defs _ _).mono
    (fun r h => ⟨fun c => (h c).2.2, sem_eq_zero_of_no_sems (by decide) r.2⟩)
    (Cert.Reference18Ideal.Value.run m g)

instance finiteFacts19 : Cert.Pre_finite19.Facts := Cert.AttnFwd.facts

set_option maxHeartbeats 4000000 in
/-- Over real queries and keys the attention's result is the reference's. -/
theorem attnFwd : Cert.algebraic_Kernel19Ideal_Reference19Ideal_pre_finite19 := by
  pair_intro
  · run_from Cert.Kernel19Ideal.Gen.run_main m g
  · refine (θ_run Cert.Reference19Ideal.defs _ _).mono (fun r h c => ?_) (Cert.Reference19Ideal.Value.run m' g')
    obtain ⟨e0, e1, e2⟩ := hagree c
    refine ⟨(h c).1.trans ?_, (h c).2⟩
    refine (Cert.Reference19Ideal.Read.val_main_v44_eq m' c).trans ?_
    rw [e0, e1, e2]
    exact (Cert.AttnFwd.ref _ _ _).trans (Cert.AttnFwd.final (Cert.AttnFwd.re_q (hpre c)) (Cert.AttnFwd.re_k (hpre c))).symm

theorem attnFwd_quiet : Cert.quiescent_Reference19Ideal := by
  intro m g _
  exact (θ_run Cert.Reference19Ideal.defs _ _).mono
    (fun r h => ⟨fun c => (h c).2, sem_eq_zero_of_no_sems (by decide) r.2⟩)
    (Cert.Reference19Ideal.Value.run m g)

/-- The result is the reference's: the modulated norm. -/
theorem normMod : Cert.algebraic_Kernel21Ideal_Reference21Ideal := by
  pair_intro
  · run_from Cert.Kernel21Ideal.Gen.run_main m g
  · run_from Cert.Reference21Ideal.Value.run m' g'
    · exact (Cert.NormMod.ref _ _).trans (Cert.NormMod.final m c).symm

theorem normMod_quiet : Cert.quiescent_Reference21Ideal := by
  intro m g _
  exact (θ_run Cert.Reference21Ideal.defs _ _).mono
    (fun r h => ⟨fun c => (h c).2, sem_eq_zero_of_no_sems (by decide) r.2⟩)
    (Cert.Reference21Ideal.Value.run m g)

/-- The result is the reference's: the gated residual and its modulated norm. -/
theorem residNorm : Cert.algebraic_Kernel22Ideal_Reference22Ideal := by
  pair_intro
  · run_from Cert.Kernel22Ideal.Gen.run_main m g
  · run_from Cert.Reference22Ideal.Value.run m' g'
    · obtain ⟨-, -, e2⟩ := hagree c
      rw [e2]
      exact (Cert.ResidNorm.ref4 _ _ _).trans (Cert.ResidNorm.final4 m c).symm
    · obtain ⟨e0, e1, e2⟩ := hagree c
      refine (Cert.Reference22Ideal.Read.val_main_v73_eq m' c).trans ?_
      rw [e0, e1, e2]
      exact (Cert.ResidNorm.ref5 _ _ _).trans (Cert.ResidNorm.final5 m c).symm

theorem residNorm_quiet : Cert.quiescent_Reference22Ideal := by
  intro m g _
  exact (θ_run Cert.Reference22Ideal.defs _ _).mono
    (fun r h => ⟨fun c => (h c).2.2, sem_eq_zero_of_no_sems (by decide) r.2⟩)
    (Cert.Reference22Ideal.Value.run m g)

/-- The result is the reference's: the gated residual. -/
theorem residual : Cert.algebraic_Kernel23Ideal_Reference23Ideal := by
  pair_intro
  · run_from Cert.Kernel23Ideal.Gen.run_main m g
  · run_from Cert.Reference23Ideal.Value.run m' g'
    · obtain ⟨-, -, e2⟩ := hagree c
      rw [e2]
      exact (Cert.Residual.ref _ _ _).trans (Cert.Residual.final m c).symm

theorem residual_quiet : Cert.quiescent_Reference23Ideal := by
  intro m g _
  exact (θ_run Cert.Reference23Ideal.defs _ _).mono
    (fun r h => ⟨fun c => (h c).2, sem_eq_zero_of_no_sems (by decide) r.2⟩)
    (Cert.Reference23Ideal.Value.run m g)

/-- The result is the reference's: the layer norm times its logistic. -/
theorem normSilu : Cert.algebraic_Kernel24Ideal_Reference24Ideal := by
  pair_intro
  · run_from Cert.Kernel24Ideal.Gen.run_main m g
  · run_from Cert.Reference24Ideal.Value.run m' g'
    · exact (Cert.NormSilu.ref _ _ _).trans (Cert.NormSilu.final m c).symm

theorem normSilu_quiet : Cert.quiescent_Reference24Ideal := by
  intro m g _
  exact (θ_run Cert.Reference24Ideal.defs _ _).mono
    (fun r h => ⟨fun c => (h c).2, sem_eq_zero_of_no_sems (by decide) r.2⟩)
    (Cert.Reference24Ideal.Value.run m g)

set_option maxHeartbeats 4000000 in
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  finiteFacts, finiteFacts19,
  fun m ρ _ => Cert.Kernel.Gen.frame m ρ, fun m ρ _ => Cert.KernelIdeal.Gen.frame m ρ, mergeRef_quiet,
  fun m ρ _ => Cert.Kernel2.Gen.frame m ρ, fun m ρ _ => Cert.Kernel2Ideal.Gen.frame m ρ, fun m ρ _ => Cert.Kernel2Ideal.Gen.frame m ρ,
  attnRef_quiet, fun m ρ _ => attnRef_quiet m ρ trivial,
  fun m ρ _ => Cert.Kernel3.Gen.frame m ρ, fun m ρ _ => Cert.Kernel3Ideal.Gen.frame m ρ, ffnIn_quiet,
  fun m ρ _ => Cert.Kernel4.Gen.frame m ρ, fun m ρ _ => Cert.Kernel4Ideal.Gen.frame m ρ, wFfnIn_quiet,
  fun m ρ _ => Cert.Kernel5.Gen.frame m ρ, fun m ρ _ => Cert.Kernel5Ideal.Gen.frame m ρ, wFfnOut_quiet,
  fun m ρ _ => Cert.Kernel6.Gen.frame m ρ, fun m ρ _ => Cert.Kernel6Ideal.Gen.frame m ρ, inMain_quiet,
  fun m ρ _ => Cert.Kernel7.Gen.frame m ρ, fun m ρ _ => Cert.Kernel7Ideal.Gen.frame m ρ, inGate_quiet,
  fun m ρ _ => Cert.Kernel8.Gen.frame m ρ, fun m ρ _ => Cert.Kernel8Ideal.Gen.frame m ρ, wInMain_quiet,
  fun m ρ _ => Cert.Kernel9.Gen.frame m ρ, fun m ρ _ => Cert.Kernel9Ideal.Gen.frame m ρ, wInGate_quiet,
  fun m ρ _ => Cert.Kernel10.Gen.frame m ρ, fun m ρ _ => Cert.Kernel10Ideal.Gen.frame m ρ, wMix_quiet,
  fun m ρ _ => Cert.Kernel11.Gen.frame m ρ, fun m ρ _ => Cert.Kernel11Ideal.Gen.frame m ρ, wBranch_quiet,
  fun m ρ _ => Cert.Kernel12.Gen.frame m ρ, fun m ρ _ => Cert.Kernel12Ideal.Gen.frame m ρ, branch_quiet,
  fun m ρ _ => Cert.Kernel13.Gen.frame m ρ, fun m ρ _ => Cert.Kernel13Ideal.Gen.frame m ρ, dO_quiet,
  fun m ρ _ => Cert.Kernel14.Gen.frame m ρ, fun m ρ _ => Cert.Kernel14Ideal.Gen.frame m ρ, pMain_quiet,
  fun m ρ _ => Cert.Kernel15.Gen.frame m ρ, fun m ρ _ => Cert.Kernel15Ideal.Gen.frame m ρ, mixed_quiet,
  fun m ρ _ => Cert.Kernel16.Gen.frame m ρ, fun m ρ _ => Cert.Kernel16Ideal.Gen.frame m ρ, ffnOut_quiet,
  fun m ρ _ => Cert.Kernel17.Gen.frame m ρ, fun m ρ _ => Cert.Kernel17Ideal.Gen.frame m ρ, gateMerge_quiet,
  fun m ρ _ => Cert.Kernel18.Gen.frame m ρ, fun m ρ _ => Cert.Kernel18Ideal.Gen.frame m ρ, ffnInSwiglu_quiet,
  fun m ρ _ => Cert.Kernel19.Gen.frame m ρ, fun m ρ _ => Cert.Kernel19Ideal.Gen.frame m ρ, fun m ρ _ => Cert.Kernel19Ideal.Gen.frame m ρ,
  attnFwd_quiet, fun m ρ _ => attnFwd_quiet m ρ trivial,
  fun m ρ _ => Cert.Kernel21.Gen.frame m ρ, fun m ρ _ => Cert.Kernel21Ideal.Gen.frame m ρ, normMod_quiet,
  fun m ρ _ => Cert.Kernel22.Gen.frame m ρ, fun m ρ _ => Cert.Kernel22Ideal.Gen.frame m ρ, residNorm_quiet,
  fun m ρ _ => Cert.Kernel23.Gen.frame m ρ, fun m ρ _ => Cert.Kernel23Ideal.Gen.frame m ρ, residual_quiet,
  fun m ρ _ => Cert.Kernel24.Gen.frame m ρ, fun m ρ _ => Cert.Kernel24Ideal.Gen.frame m ρ, normSilu_quiet,
  trivial, merge, trivial, attn, trivial, ffnIn, trivial, wFfnIn, trivial, wFfnOut, trivial, inMain, trivial, inGate, trivial, wInMain, trivial, wInGate, trivial, wMix, trivial, wBranch, trivial, branch, trivial, dO, trivial, pMain, trivial, mixed, trivial, ffnOut, trivial, gateMerge, trivial, ffnInSwiglu, trivial, attnFwd,
  trivial, normMod, trivial, residNorm, trivial, residual, trivial, normSilu⟩

end Cert.Proof

end
